-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_finite_in [hPre_finite_in : Cert.Pre_finite_in.Facts] (m : (ℓ : Loc Cert.InIdeal.nD Cert.InIdeal.τ Cert.InIdeal.sig) → Buf (Elt Ideal) ℓ) : Prop :=
  ∀ c : Dev Cert.InIdeal.nD,
    (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6))).1 = (fun _ => 1#1)
    ∧ (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6))).2.1 = (fun _ => 1#1)
    ∧ (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6))).2.2.1 = (fun _ => 1#1)
    ∧ (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6))).2.2.2 = (fun _ => 1#1)

def Pre_InRefIdeal (m : (ℓ : Loc Cert.InRefIdeal.nD Cert.InRefIdeal.τ Cert.InRefIdeal.sig) → Buf (Elt Ideal) ℓ) : Prop :=
  True

def Pre_InRefIdeal_finite_in [hPre_finite_in : Cert.Pre_finite_in.Facts] (m : (ℓ : Loc Cert.InRefIdeal.nD Cert.InRefIdeal.τ Cert.InRefIdeal.sig) → Buf (Elt Ideal) ℓ) : Prop :=
  ∀ c : Dev Cert.InRefIdeal.nD,
    (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6))).1 = (fun _ => 1#1)
    ∧ (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6))).2.1 = (fun _ => 1#1)
    ∧ (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6))).2.2.1 = (fun _ => 1#1)
    ∧ (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6))).2.2.2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11)
      ∧ r.2.mem ((c.tc : Thread Cert.Ffn.nD Cert.Ffn.τ).loc Cert.Ffn.main_arg12) = m ((c.tc : Thread Cert.Ffn.nD Cert.Ffn.τ).loc Cert.Ffn.main_arg12)
      ∧ r.2.mem ((c.tc : Thread Cert.Ffn.nD Cert.Ffn.τ).loc Cert.Ffn.main_arg13) = m ((c.tc : Thread Cert.Ffn.nD Cert.Ffn.τ).loc Cert.Ffn.main_arg13))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
      ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12)
      ∧ r.2.mem ((c.tc : Thread Cert.FfnIdeal.nD Cert.FfnIdeal.τ).loc Cert.FfnIdeal.main_arg13) = m ((c.tc : Thread Cert.FfnIdeal.nD Cert.FfnIdeal.τ).loc Cert.FfnIdeal.main_arg13))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11)
      ∧ r.2.mem ((c.tc : Thread Cert.FfnRefIdeal.nD Cert.FfnRefIdeal.τ).loc Cert.FfnRefIdeal.main_arg12) = m ((c.tc : Thread Cert.FfnRefIdeal.nD Cert.FfnRefIdeal.τ).loc Cert.FfnRefIdeal.main_arg12)
      ∧ r.2.mem ((c.tc : Thread Cert.FfnRefIdeal.nD Cert.FfnRefIdeal.τ).loc Cert.FfnRefIdeal.main_arg13) = m ((c.tc : Thread Cert.FfnRefIdeal.nD Cert.FfnRefIdeal.τ).loc Cert.FfnRefIdeal.main_arg13))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6))
      ∧ r.2.sem = fun _ => 0)

def quiescent_InIdeal_pre_finite_in [hInIdeal : Cert.InIdeal.Facts] [hPre_finite_in : Cert.Pre_finite_in.Facts] : Prop :=
  ∀ (m : (ℓ : Loc Cert.InIdeal.nD Cert.InIdeal.τ Cert.InIdeal.sig) → Buf (Elt Ideal) ℓ) (g : Dev Cert.InIdeal.nD → PrngReg), Pre_InIdeal_finite_in m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6))
      ∧ r.2.sem = fun _ => 0)

def quiescent_InRefIdeal_pre_finite_in [hInRefIdeal : Cert.InRefIdeal.Facts] [hPre_finite_in : Cert.Pre_finite_in.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_finite_in m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6))
      ∧ r.2.sem = fun _ => 0)

def preserves_Attn_AttnIdeal : Prop :=
  True

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v28)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v28) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v46) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)
      ∧ m' ((c.tc : Thread Cert.FfnRefIdeal.nD Cert.FfnRefIdeal.τ).loc Cert.FfnRefIdeal.main_arg11) = m ((c.tc : Thread Cert.FfnIdeal.nD Cert.FfnIdeal.τ).loc Cert.FfnIdeal.main_arg11)
      ∧ m' ((c.tc : Thread Cert.FfnRefIdeal.nD Cert.FfnRefIdeal.τ).loc Cert.FfnRefIdeal.main_arg12) = m ((c.tc : Thread Cert.FfnIdeal.nD Cert.FfnIdeal.τ).loc Cert.FfnIdeal.main_arg12)
      ∧ m' ((c.tc : Thread Cert.FfnRefIdeal.nD Cert.FfnRefIdeal.τ).loc Cert.FfnRefIdeal.main_arg13) = m ((c.tc : Thread Cert.FfnIdeal.nD Cert.FfnIdeal.τ).loc Cert.FfnIdeal.main_arg13)) →
    ∃ (v0 : (c : Dev Cert.FfnIdeal.nD) → Buf (Elt Ideal) ((c.tc : Thread Cert.FfnIdeal.nD Cert.FfnIdeal.τ).loc Cert.FfnIdeal.main_v9_0)) (v1 : (c : Dev Cert.FfnIdeal.nD) → Buf (Elt Ideal) ((c.tc : Thread Cert.FfnIdeal.nD Cert.FfnIdeal.τ).loc Cert.FfnIdeal.main_v9_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9_0) = v0 c
          ∧ r.2.mem ((c.tc : Thread Cert.FfnIdeal.nD Cert.FfnIdeal.τ).loc Cert.FfnIdeal.main_v9_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
          ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12)
          ∧ r.2.mem ((c.tc : Thread Cert.FfnIdeal.nD Cert.FfnIdeal.τ).loc Cert.FfnIdeal.main_arg13) = m ((c.tc : Thread Cert.FfnIdeal.nD Cert.FfnIdeal.τ).loc Cert.FfnIdeal.main_arg13))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v73) = v0 c
          ∧ r.2.mem ((c.tc : Thread Cert.FfnRefIdeal.nD Cert.FfnRefIdeal.τ).loc Cert.FfnRefIdeal.main_v74) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10)
          ∧ r.2.mem ((c.tc : Thread Cert.FfnRefIdeal.nD Cert.FfnRefIdeal.τ).loc Cert.FfnRefIdeal.main_arg11) = m' ((c.tc : Thread Cert.FfnRefIdeal.nD Cert.FfnRefIdeal.τ).loc Cert.FfnRefIdeal.main_arg11)
          ∧ r.2.mem ((c.tc : Thread Cert.FfnRefIdeal.nD Cert.FfnRefIdeal.τ).loc Cert.FfnRefIdeal.main_arg12) = m' ((c.tc : Thread Cert.FfnRefIdeal.nD Cert.FfnRefIdeal.τ).loc Cert.FfnRefIdeal.main_arg12)
          ∧ r.2.mem ((c.tc : Thread Cert.FfnRefIdeal.nD Cert.FfnRefIdeal.τ).loc Cert.FfnRefIdeal.main_arg13) = m' ((c.tc : Thread Cert.FfnRefIdeal.nD Cert.FfnRefIdeal.τ).loc Cert.FfnRefIdeal.main_arg13))

def preserves_In_InIdeal : Prop :=
  True

def algebraic_InIdeal_InRefIdeal_pre_finite_in [hInIdeal : Cert.InIdeal.Facts] [hInRefIdeal : Cert.InRefIdeal.Facts] [hPre_finite_in : Cert.Pre_finite_in.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal_finite_in m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)) →
    ∃ (v0 : (c : Dev Cert.InIdeal.nD) → Buf (Elt Ideal) ((c.tc : Thread Cert.InIdeal.nD Cert.InIdeal.τ).loc Cert.InIdeal.main_v57_0)) (v1 : (c : Dev Cert.InIdeal.nD) → Buf (Elt Ideal) ((c.tc : Thread Cert.InIdeal.nD Cert.InIdeal.τ).loc Cert.InIdeal.main_v57_1)) (v2 : (c : Dev Cert.InIdeal.nD) → Buf (Elt Ideal) ((c.tc : Thread Cert.InIdeal.nD Cert.InIdeal.τ).loc Cert.InIdeal.main_v57_2)) (v3 : (c : Dev Cert.InIdeal.nD) → Buf (Elt Ideal) ((c.tc : Thread Cert.InIdeal.nD Cert.InIdeal.τ).loc Cert.InIdeal.main_v57_3)) (v4 : (c : Dev Cert.InIdeal.nD) → Buf (Elt Ideal) ((c.tc : Thread Cert.InIdeal.nD Cert.InIdeal.τ).loc Cert.InIdeal.main_v57_4)) (v5 : (c : Dev Cert.InIdeal.nD) → Buf (Elt Ideal) ((c.tc : Thread Cert.InIdeal.nD Cert.InIdeal.τ).loc Cert.InIdeal.main_v57_5)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v57_0) = v0 c
          ∧ r.2.mem ((c.tc : Thread Cert.InIdeal.nD Cert.InIdeal.τ).loc Cert.InIdeal.main_v57_1) = v1 c
          ∧ r.2.mem ((c.tc : Thread Cert.InIdeal.nD Cert.InIdeal.τ).loc Cert.InIdeal.main_v57_2) = v2 c
          ∧ r.2.mem ((c.tc : Thread Cert.InIdeal.nD Cert.InIdeal.τ).loc Cert.InIdeal.main_v57_3) = v3 c
          ∧ r.2.mem ((c.tc : Thread Cert.InIdeal.nD Cert.InIdeal.τ).loc Cert.InIdeal.main_v57_4) = v4 c
          ∧ r.2.mem ((c.tc : Thread Cert.InIdeal.nD Cert.InIdeal.τ).loc Cert.InIdeal.main_v57_5) = v5 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v132) = v0 c
          ∧ r.2.mem ((c.tc : Thread Cert.InRefIdeal.nD Cert.InRefIdeal.τ).loc Cert.InRefIdeal.main_v133) = v1 c
          ∧ r.2.mem ((c.tc : Thread Cert.InRefIdeal.nD Cert.InRefIdeal.τ).loc Cert.InRefIdeal.main_v134) = v2 c
          ∧ r.2.mem ((c.tc : Thread Cert.InRefIdeal.nD Cert.InRefIdeal.τ).loc Cert.InRefIdeal.main_v137) = v3 c
          ∧ r.2.mem ((c.tc : Thread Cert.InRefIdeal.nD Cert.InRefIdeal.τ).loc Cert.InRefIdeal.main_v140) = v4 c
          ∧ r.2.mem ((c.tc : Thread Cert.InRefIdeal.nD Cert.InRefIdeal.τ).loc Cert.InRefIdeal.main_v143) = v5 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hIn : Cert.In.Facts) (hInIdeal : Cert.InIdeal.Facts) (hInRefIdeal : Cert.InRefIdeal.Facts) (hPre_finite_qk : Cert.Pre_finite_qk.Facts) (hPre_finite_in : Cert.Pre_finite_in.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_Ffn (hFfn := hFfn)
    ∧ quiescent_FfnIdeal (hFfnIdeal := hFfnIdeal)
    ∧ quiescent_FfnRefIdeal (hFfnRefIdeal := hFfnRefIdeal)
    ∧ quiescent_In (hIn := hIn)
    ∧ quiescent_InIdeal (hInIdeal := hInIdeal)
    ∧ quiescent_InIdeal_pre_finite_in (hInIdeal := hInIdeal) (hPre_finite_in := hPre_finite_in)
    ∧ quiescent_InRefIdeal (hInRefIdeal := hInRefIdeal)
    ∧ quiescent_InRefIdeal_pre_finite_in (hInRefIdeal := hInRefIdeal) (hPre_finite_in := hPre_finite_in)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_Ffn_FfnIdeal
    ∧ algebraic_FfnIdeal_FfnRefIdeal (hFfnIdeal := hFfnIdeal) (hFfnRefIdeal := hFfnRefIdeal)
    ∧ preserves_In_InIdeal
    ∧ algebraic_InIdeal_InRefIdeal_pre_finite_in (hInIdeal := hInIdeal) (hInRefIdeal := hInRefIdeal) (hPre_finite_in := hPre_finite_in)
-- ==== Pre_finite_in.lean ====
abbrev S32x4x1024 : Shape := ⟨3, ![32, 4, 1024]⟩
abbrev S32x1x1024 : Shape := ⟨3, ![32, 1, 1024]⟩
abbrev S1024 : Shape := ⟨1, ![1024]⟩
abbrev S1024x2560 : Shape := ⟨2, ![1024, 2560]⟩
abbrev S64 : Shape := ⟨1, ![64]⟩
abbrev S_ : Shape := ⟨0, ![]⟩

class Facts : Prop where
  bcast_S_S32x1x1024 : S_.BroadcastsInDim S32x1x1024 (![] : Fin 0 → Fin S32x1x1024.rank)
  bcast_S_S1024 : S_.BroadcastsInDim S1024 (![] : Fin 0 → Fin S1024.rank)
  bcast_S_S1024x2560 : S_.BroadcastsInDim S1024x2560 (![] : Fin 0 → Fin S1024x2560.rank)

variable [Facts]

def fn {F : FTy → Type} [FloatOps F] (main_arg0 : FVec F S32x4x1024 .f32) (main_arg1 : FVec F S32x1x1024 .f32) (main_arg2 : FVec F S32x1x1024 .f32) (main_arg3 : FVec F S1024 .f32) (main_arg4 : FVec F S1024x2560 .f32) (main_arg5 : FVec F S64 .f32) (main_arg6 : FVec F S64 .f32) : IVec S32x1x1024 1 × IVec S32x1x1024 1 × IVec S1024 1 × IVec S1024x2560 1 :=
  let main_v0 : FVec F S32x1x1024 .f32 := Host.absf main_arg1
  let main_cst : FVec F S_ .f32 := constant S_ .f32 0x7F800000#32
  let main_v1 : FVec F S32x1x1024 .f32 := broadcastInDim S32x1x1024 ![] bcast_S_S32x1x1024 main_cst
  let main_v2 : IVec S32x1x1024 1 := cmpf .olt main_v0 main_v1
  let main_v3 : FVec F S32x1x1024 .f32 := Host.absf main_arg2
  let main_cst_0 : FVec F S_ .f32 := constant S_ .f32 0x7F800000#32
  let main_v4 : FVec F S32x1x1024 .f32 := broadcastInDim S32x1x1024 ![] bcast_S_S32x1x1024 main_cst_0
  let main_v5 : IVec S32x1x1024 1 := cmpf .olt main_v3 main_v4
  let main_v6 : FVec F S1024 .f32 := Host.absf main_arg3
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x2560 .f32 := Host.absf main_arg4
  let main_cst_2 : FVec F S_ .f32 := constant S_ .f32 0x7F800000#32
  let main_v10 : FVec F S1024x2560 .f32 := broadcastInDim S1024x2560 ![] bcast_S_S1024x2560 main_cst_2
  let main_v11 : IVec S1024x2560 1 := cmpf .olt main_v9 main_v10
  (main_v2, main_v5, main_v8, main_v11)
-- ==== Pre_finite_qk.lean ====
abbrev S4x4096x8x64 : Shape := ⟨4, ![4, 4096, 8, 64]⟩
abbrev S4x8x4096x16 : Shape := ⟨4, ![4, 8, 4096, 16]⟩
abbrev S_ : Shape := ⟨0, ![]⟩

class Facts : Prop where
  bcast_S_S4x4096x8x64 : S_.BroadcastsInDim S4x4096x8x64 (![] : Fin 0 → Fin S4x4096x8x64.rank)

variable [Facts]

def fn {F : FTy → Type} [FloatOps F] (main_arg0 : FVec F S4x4096x8x64 .f32) (main_arg1 : FVec F S4x4096x8x64 .f32) (main_arg2 : FVec F S4x4096x8x64 .f32) (main_arg3 : FVec F S4x8x4096x16 .f32) : IVec S4x4096x8x64 1 × IVec S4x4096x8x64 1 :=
  let main_v0 : FVec F S4x4096x8x64 .f32 := Host.absf main_arg0
  let main_cst : FVec F S_ .f32 := constant S_ .f32 0x7F800000#32
  let main_v1 : FVec F S4x4096x8x64 .f32 := broadcastInDim S4x4096x8x64 ![] bcast_S_S4x4096x8x64 main_cst
  let main_v2 : IVec S4x4096x8x64 1 := cmpf .olt main_v0 main_v1
  let main_v3 : FVec F S4x4096x8x64 .f32 := Host.absf main_arg1
  let main_cst_0 : FVec F S_ .f32 := constant S_ .f32 0x7F800000#32
  let main_v4 : FVec F S4x4096x8x64 .f32 := broadcastInDim S4x4096x8x64 ![] bcast_S_S4x4096x8x64 main_cst_0
  let main_v5 : IVec S4x4096x8x64 1 := cmpf .olt main_v3 main_v4
  (main_v2, main_v5)
-- ==== Attn.lean ====
abbrev S4x4096x8x64 : Shape := ⟨4, ![4, 4096, 8, 64]⟩
abbrev S4x8x4096x16 : Shape := ⟨4, ![4, 8, 4096, 16]⟩
abbrev S4x8x4096x64 : Shape := ⟨4, ![4, 8, 4096, 64]⟩
abbrev S_ : Shape := ⟨0, ![]⟩
abbrev S4x8x4096x128 : Shape := ⟨4, ![4, 8, 4096, 128]⟩
abbrev S4x4096x512 : Shape := ⟨3, ![4, 4096, 512]⟩
abbrev S1x2x256x128 : Shape := ⟨4, ![1, 2, 256, 128]⟩
abbrev S1x2x4096x128 : Shape := ⟨4, ![1, 2, 4096, 128]⟩
abbrev S1x256x128 : Shape := ⟨3, ![1, 256, 128]⟩
abbrev S256x128 : Shape := ⟨2, ![256, 128]⟩
abbrev S256x1024 : Shape := ⟨2, ![256, 1024]⟩
abbrev S1x1x256x128 : Shape := ⟨4, ![1, 1, 256, 128]⟩
abbrev S1x1x1024x128 : Shape := ⟨4, ![1, 1, 1024, 128]⟩
abbrev S1024x128 : Shape := ⟨2, ![1024, 128]⟩
abbrev S256 : Shape := ⟨1, ![256]⟩
abbrev S256x1 : Shape := ⟨2, ![256, 1]⟩

abbrev nBuf : Space → Nat
  | .hbm => 80
  | .vmem => 8
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S4x8x4096x16, .f32⟩
  | .hbm, ⟨4, _⟩ => ⟨S4x8x4096x64, .i32⟩
  | .hbm, ⟨5, _⟩ => ⟨S_, .i32⟩
  | .hbm, ⟨6, _⟩ => ⟨S_, .i32⟩
  | .hbm, ⟨7, _⟩ => ⟨S4x8x4096x64, .i32⟩
  | .hbm, ⟨8, _⟩ => ⟨S4x8x4096x64, .i32⟩
  | .hbm, ⟨9, _⟩ => ⟨S4x8x4096x64, .i32⟩
  | .hbm, ⟨10, _⟩ => ⟨S_, .i32⟩
  | .hbm, ⟨11, _⟩ => ⟨S4x8x4096x64, .i32⟩
  | .hbm, ⟨12, _⟩ => ⟨S4x8x4096x64, .i1⟩
  | .hbm, ⟨13, _⟩ => ⟨S4x8x4096x64, .i32⟩
  | .hbm, ⟨14, _⟩ => ⟨S4x8x4096x64, .i32⟩
  | .hbm, ⟨15, _⟩ => ⟨S_, .i32⟩
  | .hbm, ⟨16, _⟩ => ⟨S4x8x4096x64, .i32⟩
  | .hbm, ⟨17, _⟩ => ⟨S4x8x4096x64, .i1⟩
  | .hbm, ⟨18, _⟩ => ⟨S4x8x4096x64, .i1⟩
  | .hbm, ⟨19, _⟩ => ⟨S_, .i32⟩
  | .hbm, ⟨20, _⟩ => ⟨S4x8x4096x64, .i32⟩
  | .hbm, ⟨21, _⟩ => ⟨S4x8x4096x64, .i32⟩
  | .hbm, ⟨22, _⟩ => ⟨S4x8x4096x64, .i32⟩
  | .hbm, ⟨23, _⟩ => ⟨S4x8x4096x64, .i32⟩
  | .hbm, ⟨24, _⟩ => ⟨S4x8x4096x64, .i1⟩
  | .hbm, ⟨25, _⟩ => ⟨S_, .f32⟩
  | .hbm, ⟨26, _⟩ => ⟨S_, .f32⟩
  | .hbm, ⟨27, _⟩ => ⟨S4x8x4096x64, .f32⟩
  | .hbm, ⟨28, _⟩ => ⟨S4x8x4096x64, .f32⟩
  | .hbm, ⟨29, _⟩ => ⟨S4x8x4096x64, .f32⟩
  | .hbm, ⟨30, _⟩ => ⟨S4x8x4096x16, .i32⟩
  | .hbm, ⟨31, _⟩ => ⟨S_, .i32⟩
  | .hbm, ⟨32, _⟩ => ⟨S_, .i32⟩
  | .hbm, ⟨33, _⟩ => ⟨S4x8x4096x16, .i32⟩
  | .hbm, ⟨34, _⟩ => ⟨S4x8x4096x16, .i32⟩
  | .hbm, ⟨35, _⟩ => ⟨S4x8x4096x16, .i32⟩
  | .hbm, ⟨36, _⟩ => ⟨S_, .i32⟩
  | .hbm, ⟨37, _⟩ => ⟨S4x8x4096x16, .i32⟩
  | .hbm, ⟨38, _⟩ => ⟨S4x8x4096x16, .i1⟩
  | .hbm, ⟨39, _⟩ => ⟨S4x8x4096x16, .i32⟩
  | .hbm, ⟨40, _⟩ => ⟨S4x8x4096x16, .i32⟩
  | .hbm, ⟨41, _⟩ => ⟨S_, .i32⟩
  | .hbm, ⟨42, _⟩ => ⟨S4x8x4096x16, .i32⟩
  | .hbm, ⟨43, _⟩ => ⟨S4x8x4096x16, .i1⟩
  | .hbm, ⟨44, _⟩ => ⟨S4x8x4096x16, .i1⟩
  | .hbm, ⟨45, _⟩ => ⟨S_, .i32⟩
  | .hbm, ⟨46, _⟩ => ⟨S4x8x4096x16, .i32⟩
  | .hbm, ⟨47, _⟩ => ⟨S4x8x4096x16, .i32⟩
  | .hbm, ⟨48, _⟩ => ⟨S4x8x4096x16, .i32⟩
  | .hbm, ⟨49, _⟩ => ⟨S4x8x4096x16, .i32⟩
  | .hbm, ⟨50, _⟩ => ⟨S4x8x4096x16, .i1⟩
  | .hbm, ⟨51, _⟩ => ⟨S_, .f32⟩
  | .hbm, ⟨52, _⟩ => ⟨S4x8x4096x16, .f32⟩
  | .hbm, ⟨53, _⟩ => ⟨S4x8x4096x16, .i1⟩
  | .hbm, ⟨54, _⟩ => ⟨S4x8x4096x16, .i1⟩
  | .hbm, ⟨55, _⟩ => ⟨S_, .f32⟩
  | .hbm, ⟨56, _⟩ => ⟨S_, .f32⟩
  | .hbm, ⟨57, _⟩ => ⟨S4x8x4096x16, .f32⟩
  | .hbm, ⟨58, _⟩ => ⟨S4x8x4096x16, .f32⟩
  | .hbm, ⟨59, _⟩ => ⟨S4x8x4096x16, .f32⟩
  | .hbm, ⟨60, _⟩ => ⟨S_, .i32⟩
  | .hbm, ⟨61, _⟩ => ⟨S_, .f32⟩
  | .hbm, ⟨62, _⟩ => ⟨S4x8x4096x64, .f32⟩
  | .hbm, ⟨63, _⟩ => ⟨S4x8x4096x64, .f32⟩
  | .hbm, ⟨64, _⟩ => ⟨S4x8x4096x64, .f32⟩
  | .hbm, ⟨65, _⟩ => ⟨S4x8x4096x128, .f32⟩
  | .hbm, ⟨66, _⟩ => ⟨S4x8x4096x128, .bf16⟩
  | .hbm, ⟨67, _⟩ => ⟨S4x8x4096x64, .f32⟩
  | .hbm, ⟨68, _⟩ => ⟨S_, .f32⟩
  | .hbm, ⟨69, _⟩ => ⟨S4x8x4096x64, .f32⟩
  | .hbm, ⟨70, _⟩ => ⟨S4x8x4096x128, .f32⟩
  | .hbm, ⟨71, _⟩ => ⟨S4x8x4096x128, .bf16⟩
  | .hbm, ⟨72, _⟩ => ⟨S4x8x4096x64, .f32⟩
  | .hbm, ⟨73, _⟩ => ⟨S_, .f32⟩
  | .hbm, ⟨74, _⟩ => ⟨S4x8x4096x64, .f32⟩
  | .hbm, ⟨75, _⟩ => ⟨S4x8x4096x64, .f32⟩
  | .hbm, ⟨76, _⟩ => ⟨S4x8x4096x64, .f32⟩
  | .hbm, ⟨77, _⟩ => ⟨S4x8x4096x128, .f32⟩
  | .hbm, ⟨78, _⟩ => ⟨S4x8x4096x128, .bf16⟩
  | .hbm, ⟨79, _⟩ => ⟨S4x4096x512, .f32⟩
  | .local _ .vmem, ⟨0, _⟩ => ⟨S1x2x256x128, .bf16⟩
  | .local _ .vmem, ⟨1, _⟩ => ⟨S1x2x256x128, .bf16⟩
  | .local _ .vmem, ⟨2, _⟩ => ⟨S1x2x4096x128, .bf16⟩
  | .local _ .vmem, ⟨3, _⟩ => ⟨S1x2x4096x128, .bf16⟩
  | .local _ .vmem, ⟨4, _⟩ => ⟨S1x2x4096x128, .bf16⟩
  | .local _ .vmem, ⟨5, _⟩ => ⟨S1x2x4096x128, .bf16⟩
  | .local _ .vmem, ⟨6, _⟩ => ⟨S1x256x128, .f32⟩
  | .local _ .vmem, ⟨7, _⟩ => ⟨S1x256x128, .f32⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_cst_0 : Ref sig .tc := ⟨.hbm, 26, rfl⟩
abbrev main_call1_v0 : Ref sig .tc := ⟨.hbm, 27, rfl⟩
abbrev main_call1_v1 : Ref sig .tc := ⟨.hbm, 28, rfl⟩
abbrev main_v4 : Ref sig .tc := ⟨.hbm, 29, rfl⟩
abbrev main_v5 : Ref sig .tc := ⟨.hbm, 30, rfl⟩
abbrev main_c_1 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_c : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_0 : Ref sig .tc := ⟨.hbm, 45, rfl⟩
abbrev main_call2_v12 : Ref sig .tc := ⟨.hbm, 46, rfl⟩
abbrev main_call2_v13 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_cst_2 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_cst_3 : Ref sig .tc := ⟨.hbm, 55, rfl⟩
abbrev main_cst_4 : Ref sig .tc := ⟨.hbm, 56, rfl⟩
abbrev main_call3_v0 : Ref sig .tc := ⟨.hbm, 57, rfl⟩
abbrev main_call3_v1 : Ref sig .tc := ⟨.hbm, 58, rfl⟩
abbrev main_v12 : Ref sig .tc := ⟨.hbm, 59, rfl⟩
abbrev main_c_5 : Ref sig .tc := ⟨.hbm, 60, rfl⟩
abbrev main_call4_v0 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_cst_6 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_cst_7 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

def k0_mult1 (i : grid0.Coords) : BitVec 32 :=
  let arg2 : BitVec 32 := BitVec.ofNat 32 (i 2).val
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg2 c4_i32
  let c0_i32_3 : BitVec 32 := 0#32
  let v14 : BitVec 1 := Scalar.cmpi .ne v13 c0_i32_3
  let v15 : BitVec 1 := Scalar.andi v12 v14
  let v1 : BitVec 32 := Scalar.divsi arg2 c4_i32
  let c1_i32 : BitVec 32 := 1#32
  let v16 : BitVec 32 := Scalar.subi v1 c1_i32
  let v17 : BitVec 32 := Scalar.select v15 v16 v1
  let c1024_i32 : BitVec 32 := 1024#32
  let v30 : BitVec 32 := Scalar.muli v17 c1024_i32
  v30
def k0_off1 (i : grid0.Coords) : Fin 4 → Nat :=
  let c0_11 : Index := 0#32
  let c0_12 : Index := 0#32
  let arg2 : BitVec 32 := BitVec.ofNat 32 (i 2).val
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg2 c4_i32
  let c0_i32_3 : BitVec 32 := 0#32
  let v14 : BitVec 1 := Scalar.cmpi .ne v13 c0_i32_3
  let v15 : BitVec 1 := Scalar.andi v12 v14
  let v1 : BitVec 32 := Scalar.divsi arg2 c4_i32
  let c1_i32 : BitVec 32 := 1#32
  let v16 : BitVec 32 := Scalar.subi v1 c1_i32
  let v17 : BitVec 32 := Scalar.select v15 v16 v1
  let c1024_i32 : BitVec 32 := 1024#32
  let v30 : BitVec 32 := Scalar.muli v17 c1024_i32
  let v31 : BitVec 32 := v30
  let v32 : Index := Scalar.indexCast v31
  let c0_13 : Index := 0#32
  ![0, 0, v32.toNat, 0]
def k0_mult2 (i : grid0.Coords) : BitVec 32 :=
  let arg2 : BitVec 32 := BitVec.ofNat 32 (i 2).val
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg2 c4_i32
  let c0_i32_3 : BitVec 32 := 0#32
  let v14 : BitVec 1 := Scalar.cmpi .ne v13 c0_i32_3
  let v15 : BitVec 1 := Scalar.andi v12 v14
  let v1 : BitVec 32 := Scalar.divsi arg2 c4_i32
  let c1_i32 : BitVec 32 := 1#32
  let v16 : BitVec 32 := Scalar.subi v1 c1_i32
  let v17 : BitVec 32 := Scalar.select v15 v16 v1
  let c1024_i32_16 : BitVec 32 := 1024#32
  let v44 : BitVec 32 := Scalar.muli v17 c1024_i32_16
  v44
def k0_mult3 (i : grid0.Coords) : BitVec 32 :=
  let arg2 : BitVec 32 := BitVec.ofNat 32 (i 2).val
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg2 c4_i32
  let c0_i32_3 : BitVec 32 := 0#32
  let v14 : BitVec 1 := Scalar.cmpi .ne v13 c0_i32_3
  let v15 : BitVec 1 := Scalar.andi v12 v14
  let v1 : BitVec 32 := Scalar.divsi arg2 c4_i32
  let c1_i32 : BitVec 32 := 1#32
  let v16 : BitVec 32 := Scalar.subi v1 c1_i32
  let v17 : BitVec 32 := Scalar.select v15 v16 v1
  let c1024_i32_21 : BitVec 32 := 1024#32
  let v50 : BitVec 32 := Scalar.muli v17 c1024_i32_21
  v50
def k0_off2 (i : grid0.Coords) : Fin 4 → Nat :=
  let c0_22 : Index := 0#32
  let c1_23 : Index := 1#32
  let arg2 : BitVec 32 := BitVec.ofNat 32 (i 2).val
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg2 c4_i32
  let c0_i32_3 : BitVec 32 := 0#32
  let v14 : BitVec 1 := Scalar.cmpi .ne v13 c0_i32_3
  let v15 : BitVec 1 := Scalar.andi v12 v14
  let v1 : BitVec 32 := Scalar.divsi arg2 c4_i32
  let c1_i32 : BitVec 32 := 1#32
  let v16 : BitVec 32 := Scalar.subi v1 c1_i32
  let v17 : BitVec 32 := Scalar.select v15 v16 v1
  let c1024_i32_21 : BitVec 32 := 1024#32
  let v50 : BitVec 32 := Scalar.muli v17 c1024_i32_21
  let v51 : BitVec 32 := v50
  let v52 : Index := Scalar.indexCast v51
  let c0_24 : Index := 0#32
  ![0, 1, v52.toNat, 0]
def k0_mult4 (i : grid0.Coords) : BitVec 32 :=
  let arg2 : BitVec 32 := BitVec.ofNat 32 (i 2).val
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg2 c4_i32
  let c0_i32_3 : BitVec 32 := 0#32
  let v14 : BitVec 1 := Scalar.cmpi .ne v13 c0_i32_3
  let v15 : BitVec 1 := Scalar.andi v12 v14
  let v1 : BitVec 32 := Scalar.divsi arg2 c4_i32
  let c1_i32 : BitVec 32 := 1#32
  let v16 : BitVec 32 := Scalar.subi v1 c1_i32
  let v17 : BitVec 32 := Scalar.select v15 v16 v1
  let c1024_i32_28 : BitVec 32 := 1024#32
  let v64 : BitVec 32 := Scalar.muli v17 c1024_i32_28
  v64
@[reducible] def k0_t1_loop (i : grid0.Coords) : Scf.Loop 32 :=
  let c0_i32_33 : BitVec 32 := 0#32
  let arg2 : BitVec 32 := BitVec.ofNat 32 (i 2).val
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg2 c4_i32
  let c0_i32_3 : BitVec 32 := 0#32
  let v14 : BitVec 1 := Scalar.cmpi .ne v13 c0_i32_3
  let v15 : BitVec 1 := Scalar.andi v12 v14
  let v1 : BitVec 32 := Scalar.divsi arg2 c4_i32
  let c1_i32 : BitVec 32 := 1#32
  let v16 : BitVec 32 := Scalar.subi v1 c1_i32
  let v17 : BitVec 32 := Scalar.select v15 v16 v1
  let v70 : BitVec 32 := Scalar.subi v17 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let c1_i32_35 : BitVec 32 := 1#32
  ⟨c0_i32_33, v74, c1_i32_35⟩
def k0_mult5 (i : grid0.Coords) (k0_t1 : Fin (k0_t1_loop i).trips) : BitVec 32 :=
  let c0_i32_33 : BitVec 32 := 0#32
  let c1_i32_35 : BitVec 32 := 1#32
  let arg7 : BitVec 32 := Scf.iv c0_i32_33 c1_i32_35 k0_t1
  let c1024_i32_42 : BitVec 32 := 1024#32
  let v87 : BitVec 32 := Scalar.muli arg7 c1024_i32_42
  v87
def k0_off3 (i : grid0.Coords) (k0_t1 : Fin (k0_t1_loop i).trips) : Fin 4 → Nat :=
  let c0_43 : Index := 0#32
  let c0_44 : Index := 0#32
  let c0_i32_33 : BitVec 32 := 0#32
  let c1_i32_35 : BitVec 32 := 1#32
  let arg7 : BitVec 32 := Scf.iv c0_i32_33 c1_i32_35 k0_t1
  let c1024_i32_42 : BitVec 32 := 1024#32
  let v87 : BitVec 32 := Scalar.muli arg7 c1024_i32_42
  let v88 : BitVec 32 := v87
  let v89 : Index := Scalar.indexCast v88
  let c0_45 : Index := 0#32
  ![0, 0, v89.toNat, 0]
def k0_mult6 (i : grid0.Coords) (k0_t1 : Fin (k0_t1_loop i).trips) : BitVec 32 :=
  let c0_i32_33 : BitVec 32 := 0#32
  let c1_i32_35 : BitVec 32 := 1#32
  let arg7 : BitVec 32 := Scf.iv c0_i32_33 c1_i32_35 k0_t1
  let c1024_i32_48 : BitVec 32 := 1024#32
  let v104 : BitVec 32 := Scalar.muli arg7 c1024_i32_48
  v104
def k0_mult7 (i : grid0.Coords) (k0_t1 : Fin (k0_t1_loop i).trips) : BitVec 32 :=
  let c0_i32_33 : BitVec 32 := 0#32
  let c1_i32_35 : BitVec 32 := 1#32
  let arg7 : BitVec 32 := Scf.iv c0_i32_33 c1_i32_35 k0_t1
  let c1024_i32_53 : BitVec 32 := 1024#32
  let v111 : BitVec 32 := Scalar.muli arg7 c1024_i32_53
  v111
def k0_off4 (i : grid0.Coords) (k0_t1 : Fin (k0_t1_loop i).trips) : Fin 4 → Nat :=
  let c0_54 : Index := 0#32
  let c1_55 : Index := 1#32
  let c0_i32_33 : BitVec 32 := 0#32
  let c1_i32_35 : BitVec 32 := 1#32
  let arg7 : BitVec 32 := Scf.iv c0_i32_33 c1_i32_35 k0_t1
  let c1024_i32_53 : BitVec 32 := 1024#32
  let v111 : BitVec 32 := Scalar.muli arg7 c1024_i32_53
  let v112 : BitVec 32 := v111
  let v113 : Index := Scalar.indexCast v112
  let c0_56 : Index := 0#32
  ![0, 1, v113.toNat, 0]
def k0_mult8 (i : grid0.Coords) (k0_t1 : Fin (k0_t1_loop i).trips) : BitVec 32 :=
  let c0_i32_33 : BitVec 32 := 0#32
  let c1_i32_35 : BitVec 32 := 1#32
  let arg7 : BitVec 32 := Scf.iv c0_i32_33 c1_i32_35 k0_t1
  let c1024_i32_59 : BitVec 32 := 1024#32
  let v128 : BitVec 32 := Scalar.muli arg7 c1024_i32_59
  v128
@[reducible] def k0_t2_loop (i : grid0.Coords) : Scf.Loop 32 :=
  let c0_i32_33 : BitVec 32 := 0#32
  let arg2 : BitVec 32 := BitVec.ofNat 32 (i 2).val
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg2 c4_i32
  let c0_i32_3 : BitVec 32 := 0#32
  let v14 : BitVec 1 := Scalar.cmpi .ne v13 c0_i32_3
  let v15 : BitVec 1 := Scalar.andi v12 v14
  let v1 : BitVec 32 := Scalar.divsi arg2 c4_i32
  let c1_i32 : BitVec 32 := 1#32
  let v16 : BitVec 32 := Scalar.subi v1 c1_i32
  let v17 : BitVec 32 := Scalar.select v15 v16 v1
  let v70 : BitVec 32 := Scalar.subi v17 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let v71 : BitVec 32 := Scalar.addi c0_i32_33 v70
  let c1_i32_36 : BitVec 32 := 1#32
  ⟨v74, v71, c1_i32_36⟩
def k0_mult9 (i : grid0.Coords) (k0_t2 : Fin (k0_t2_loop i).trips) : BitVec 32 :=
  let c0_i32_33 : BitVec 32 := 0#32
  let arg2 : BitVec 32 := BitVec.ofNat 32 (i 2).val
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg2 c4_i32
  let c0_i32_3 : BitVec 32 := 0#32
  let v14 : BitVec 1 := Scalar.cmpi .ne v13 c0_i32_3
  let v15 : BitVec 1 := Scalar.andi v12 v14
  let v1 : BitVec 32 := Scalar.divsi arg2 c4_i32
  let c1_i32 : BitVec 32 := 1#32
  let v16 : BitVec 32 := Scalar.subi v1 c1_i32
  let v17 : BitVec 32 := Scalar.select v15 v16 v1
  let v70 : BitVec 32 := Scalar.subi v17 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let c1_i32_36 : BitVec 32 := 1#32
  let arg7 : BitVec 32 := Scf.iv v74 c1_i32_36 k0_t2
  let c1024_i32_42 : BitVec 32 := 1024#32
  let v87 : BitVec 32 := Scalar.muli arg7 c1024_i32_42
  v87
def k0_off5 (i : grid0.Coords) (k0_t2 : Fin (k0_t2_loop i).trips) : Fin 4 → Nat :=
  let c0_43 : Index := 0#32
  let c0_44 : Index := 0#32
  let c0_i32_33 : BitVec 32 := 0#32
  let arg2 : BitVec 32 := BitVec.ofNat 32 (i 2).val
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg2 c4_i32
  let c0_i32_3 : BitVec 32 := 0#32
  let v14 : BitVec 1 := Scalar.cmpi .ne v13 c0_i32_3
  let v15 : BitVec 1 := Scalar.andi v12 v14
  let v1 : BitVec 32 := Scalar.divsi arg2 c4_i32
  let c1_i32 : BitVec 32 := 1#32
  let v16 : BitVec 32 := Scalar.subi v1 c1_i32
  let v17 : BitVec 32 := Scalar.select v15 v16 v1
  let v70 : BitVec 32 := Scalar.subi v17 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let c1_i32_36 : BitVec 32 := 1#32
  let arg7 : BitVec 32 := Scf.iv v74 c1_i32_36 k0_t2
  let c1024_i32_42 : BitVec 32 := 1024#32
  let v87 : BitVec 32 := Scalar.muli arg7 c1024_i32_42
  let v88 : BitVec 32 := v87
  let v89 : Index := Scalar.indexCast v88
  let c0_45 : Index := 0#32
  ![0, 0, v89.toNat, 0]
def k0_mult10 (i : grid0.Coords) (k0_t2 : Fin (k0_t2_loop i).trips) : BitVec 32 :=
  let c0_i32_33 : BitVec 32 := 0#32
  let arg2 : BitVec 32 := BitVec.ofNat 32 (i 2).val
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg2 c4_i32
  let c0_i32_3 : BitVec 32 := 0#32
  let v14 : BitVec 1 := Scalar.cmpi .ne v13 c0_i32_3
  let v15 : BitVec 1 := Scalar.andi v12 v14
  let v1 : BitVec 32 := Scalar.divsi arg2 c4_i32
  let c1_i32 : BitVec 32 := 1#32
  let v16 : BitVec 32 := Scalar.subi v1 c1_i32
  let v17 : BitVec 32 := Scalar.select v15 v16 v1
  let v70 : BitVec 32 := Scalar.subi v17 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let c1_i32_36 : BitVec 32 := 1#32
  let arg7 : BitVec 32 := Scf.iv v74 c1_i32_36 k0_t2
  let c1024_i32_48 : BitVec 32 := 1024#32
  let v104 : BitVec 32 := Scalar.muli arg7 c1024_i32_48
  v104
def k0_mult11 (i : grid0.Coords) (k0_t2 : Fin (k0_t2_loop i).trips) : BitVec 32 :=
  let c0_i32_33 : BitVec 32 := 0#32
  let arg2 : BitVec 32 := BitVec.ofNat 32 (i 2).val
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg2 c4_i32
  let c0_i32_3 : BitVec 32 := 0#32
  let v14 : BitVec 1 := Scalar.cmpi .ne v13 c0_i32_3
  let v15 : BitVec 1 := Scalar.andi v12 v14
  let v1 : BitVec 32 := Scalar.divsi arg2 c4_i32
  let c1_i32 : BitVec 32 := 1#32
  let v16 : BitVec 32 := Scalar.subi v1 c1_i32
  let v17 : BitVec 32 := Scalar.select v15 v16 v1
  let v70 : BitVec 32 := Scalar.subi v17 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let c1_i32_36 : BitVec 32 := 1#32
  let arg7 : BitVec 32 := Scf.iv v74 c1_i32_36 k0_t2
  let c1024_i32_53 : BitVec 32 := 1024#32
  let v111 : BitVec 32 := Scalar.muli arg7 c1024_i32_53
  v111
def k0_off6 (i : grid0.Coords) (k0_t2 : Fin (k0_t2_loop i).trips) : Fin 4 → Nat :=
  let c0_54 : Index := 0#32
  let c1_55 : Index := 1#32
  let c0_i32_33 : BitVec 32 := 0#32
  let arg2 : BitVec 32 := BitVec.ofNat 32 (i 2).val
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg2 c4_i32
  let c0_i32_3 : BitVec 32 := 0#32
  let v14 : BitVec 1 := Scalar.cmpi .ne v13 c0_i32_3
  let v15 : BitVec 1 := Scalar.andi v12 v14
  let v1 : BitVec 32 := Scalar.divsi arg2 c4_i32
  let c1_i32 : BitVec 32 := 1#32
  let v16 : BitVec 32 := Scalar.subi v1 c1_i32
  let v17 : BitVec 32 := Scalar.select v15 v16 v1
  let v70 : BitVec 32 := Scalar.subi v17 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let c1_i32_36 : BitVec 32 := 1#32
  let arg7 : BitVec 32 := Scf.iv v74 c1_i32_36 k0_t2
  let c1024_i32_53 : BitVec 32 := 1024#32
  let v111 : BitVec 32 := Scalar.muli arg7 c1024_i32_53
  let v112 : BitVec 32 := v111
  let v113 : Index := Scalar.indexCast v112
  let c0_56 : Index := 0#32
  ![0, 1, v113.toNat, 0]
def k0_mult12 (i : grid0.Coords) (k0_t2 : Fin (k0_t2_loop i).trips) : BitVec 32 :=
  let c0_i32_33 : BitVec 32 := 0#32
  let arg2 : BitVec 32 := BitVec.ofNat 32 (i 2).val
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg2 c4_i32
  let c0_i32_3 : BitVec 32 := 0#32
  let v14 : BitVec 1 := Scalar.cmpi .ne v13 c0_i32_3
  let v15 : BitVec 1 := Scalar.andi v12 v14
  let v1 : BitVec 32 := Scalar.divsi arg2 c4_i32
  let c1_i32 : BitVec 32 := 1#32
  let v16 : BitVec 32 := Scalar.subi v1 c1_i32
  let v17 : BitVec 32 := Scalar.select v15 v16 v1
  let v70 : BitVec 32 := Scalar.subi v17 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let c1_i32_36 : BitVec 32 := 1#32
  let arg7 : BitVec 32 := Scf.iv v74 c1_i32_36 k0_t2
  let c1024_i32_59 : BitVec 32 := 1024#32
  let v128 : BitVec 32 := Scalar.muli arg7 c1024_i32_59
  v128
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S4x4096x8x64 : Shape := ⟨4, ![4, 4096, 8, 64]⟩
abbrev S4x8x4096x16 : Shape := ⟨4, ![4, 8, 4096, 16]⟩
abbrev S4096 : Shape := ⟨1, ![4096]⟩
abbrev S4096x1 : Shape := ⟨2, ![4096, 1]⟩
abbrev S1x4096 : Shape := ⟨2, ![1, 4096]⟩
abbrev S_ : Shape := ⟨0, ![]⟩
abbrev S4096x4096 : Shape := ⟨2, ![4096, 4096]⟩
abbrev S4x8x4096x16x1 : Shape := ⟨5, ![4, 8, 4096, 16, 1]⟩
abbrev S4x8x4096x16x256 : Shape := ⟨5, ![4, 8, 4096, 16, 256]⟩
abbrev S4x8x4096x4096 : Shape := ⟨4, ![4, 8, 4096, 4096]⟩
abbrev S1x1x4096x4096 : Shape := ⟨4, ![1, 1, 4096, 4096]⟩
abbrev S4x8x4096 : Shape := ⟨3, ![4, 8, 4096]⟩
abbrev S4x8x4096x1 : Shape := ⟨4, ![4, 8, 4096, 1]⟩
abbrev S4x8x64x4096 : Shape := ⟨4, ![4, 8, 64, 4096]⟩
abbrev S4x4096x512 : Shape := ⟨3, ![4, 4096, 512]⟩

abbrev nBuf : Space → Nat
  | .hbm => 127
  | .vmem => 0
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S4x8x4096x16, .f32⟩
  | .hbm, ⟨4, _⟩ => ⟨S4096, .i32⟩
  | .hbm, ⟨5, _⟩ => ⟨S4096x1, .i32⟩
  | .hbm, ⟨6, _⟩ => ⟨S4096, .i32⟩
  | .hbm, ⟨7, _⟩ => ⟨S1x4096, .i32⟩
  | .hbm, ⟨8, _⟩ => ⟨S_, .i32⟩
  | .hbm, ⟨9, _⟩ => ⟨S_, .i32⟩
  | .hbm, ⟨10, _⟩ => ⟨S1x4096, .i32⟩
  | .hbm, ⟨11, _⟩ => ⟨S1x4096, .i32⟩
  | .hbm, ⟨12, _⟩ => ⟨S1x4096, .i32⟩
  | .hbm, ⟨13, _⟩ => ⟨S_, .i32⟩
  | .hbm, ⟨14, _⟩ => ⟨S1x4096, .i32⟩
  | .hbm, ⟨15, _⟩ => ⟨S1x4096, .i1⟩
  | .hbm, ⟨16, _⟩ => ⟨S1x4096, .i32⟩
  | .hbm, ⟨17, _⟩ => ⟨S1x4096, .i32⟩
  | .hbm, ⟨18, _⟩ => ⟨S_, .i32⟩
  | .hbm, ⟨19, _⟩ => ⟨S1x4096, .i32⟩
  | .hbm, ⟨20, _⟩ => ⟨S1x4096, .i1⟩
  | .hbm, ⟨21, _⟩ => ⟨S1x4096, .i1⟩
  | .hbm, ⟨22, _⟩ => ⟨S_, .i32⟩
  | .hbm, ⟨23, _⟩ => ⟨S1x4096, .i32⟩
  | .hbm, ⟨24, _⟩ => ⟨S1x4096, .i32⟩
  | .hbm, ⟨25, _⟩ => ⟨S1x4096, .i32⟩
  | .hbm, ⟨26, _⟩ => ⟨S_, .i32⟩
  | .hbm, ⟨27, _⟩ => ⟨S_, .i32⟩
  | .hbm, ⟨28, _⟩ => ⟨S4096x1, .i32⟩
  | .hbm, ⟨29, _⟩ => ⟨S4096x1, .i32⟩
  | .hbm, ⟨30, _⟩ => ⟨S4096x1, .i32⟩
  | .hbm, ⟨31, _⟩ => ⟨S_, .i32⟩
  | .hbm, ⟨32, _⟩ => ⟨S4096x1, .i32⟩
  | .hbm, ⟨33, _⟩ => ⟨S4096x1, .i1⟩
  | .hbm, ⟨34, _⟩ => ⟨S4096x1, .i32⟩
  | .hbm, ⟨35, _⟩ => ⟨S4096x1, .i32⟩
  | .hbm, ⟨36, _⟩ => ⟨S_, .i32⟩
  | .hbm, ⟨37, _⟩ => ⟨S4096x1, .i32⟩
  | .hbm, ⟨38, _⟩ => ⟨S4096x1, .i1⟩
  | .hbm, ⟨39, _⟩ => ⟨S4096x1, .i1⟩
  | .hbm, ⟨40, _⟩ => ⟨S_, .i32⟩
  | .hbm, ⟨41, _⟩ => ⟨S4096x1, .i32⟩
  | .hbm, ⟨42, _⟩ => ⟨S4096x1, .i32⟩
  | .hbm, ⟨43, _⟩ => ⟨S4096x1, .i32⟩
  | .hbm, ⟨44, _⟩ => ⟨S4096x4096, .i32⟩
  | .hbm, ⟨45, _⟩ => ⟨S4096x4096, .i32⟩
  | .hbm, ⟨46, _⟩ => ⟨S4096x4096, .i1⟩
  | .hbm, ⟨47, _⟩ => ⟨S4096x4096, .i32⟩
  | .hbm, ⟨48, _⟩ => ⟨S4096x4096, .i32⟩
  | .hbm, ⟨49, _⟩ => ⟨S4096x4096, .i1⟩
  | .hbm, ⟨50, _⟩ => ⟨S4096x4096, .i1⟩
  | .hbm, ⟨51, _⟩ => ⟨S_, .i32⟩
  | .hbm, ⟨52, _⟩ => ⟨S_, .i32⟩
  | .hbm, ⟨53, _⟩ => ⟨S1x4096, .i32⟩
  | .hbm, ⟨54, _⟩ => ⟨S1x4096, .i32⟩
  | .hbm, ⟨55, _⟩ => ⟨S1x4096, .i32⟩
  | .hbm, ⟨56, _⟩ => ⟨S_, .i32⟩
  | .hbm, ⟨57, _⟩ => ⟨S1x4096, .i32⟩
  | .hbm, ⟨58, _⟩ => ⟨S1x4096, .i1⟩
  | .hbm, ⟨59, _⟩ => ⟨S1x4096, .i32⟩
  | .hbm, ⟨60, _⟩ => ⟨S1x4096, .i32⟩
  | .hbm, ⟨61, _⟩ => ⟨S_, .i32⟩
  | .hbm, ⟨62, _⟩ => ⟨S1x4096, .i32⟩
  | .hbm, ⟨63, _⟩ => ⟨S1x4096, .i1⟩
  | .hbm, ⟨64, _⟩ => ⟨S1x4096, .i1⟩
  | .hbm, ⟨65, _⟩ => ⟨S_, .i32⟩
  | .hbm, ⟨66, _⟩ => ⟨S1x4096, .i32⟩
  | .hbm, ⟨67, _⟩ => ⟨S1x4096, .i32⟩
  | .hbm, ⟨68, _⟩ => ⟨S1x4096, .i32⟩
  | .hbm, ⟨69, _⟩ => ⟨S_, .i32⟩
  | .hbm, ⟨70, _⟩ => ⟨S_, .i32⟩
  | .hbm, ⟨71, _⟩ => ⟨S4096x1, .i32⟩
  | .hbm, ⟨72, _⟩ => ⟨S4096x1, .i32⟩
  | .hbm, ⟨73, _⟩ => ⟨S4096x1, .i32⟩
  | .hbm, ⟨74, _⟩ => ⟨S_, .i32⟩
  | .hbm, ⟨75, _⟩ => ⟨S4096x1, .i32⟩
  | .hbm, ⟨76, _⟩ => ⟨S4096x1, .i1⟩
  | .hbm, ⟨77, _⟩ => ⟨S4096x1, .i32⟩
  | .hbm, ⟨78, _⟩ => ⟨S4096x1, .i32⟩
  | .hbm, ⟨79, _⟩ => ⟨S_, .i32⟩
  | .hbm, ⟨80, _⟩ => ⟨S4096x1, .i32⟩
  | .hbm, ⟨81, _⟩ => ⟨S4096x1, .i1⟩
  | .hbm, ⟨82, _⟩ => ⟨S4096x1, .i1⟩
  | .hbm, ⟨83, _⟩ => ⟨S_, .i32⟩
  | .hbm, ⟨84, _⟩ => ⟨S4096x1, .i32⟩
  | .hbm, ⟨85, _⟩ => ⟨S4096x1, .i32⟩
  | .hbm, ⟨86, _⟩ => ⟨S4096x1, .i32⟩
  | .hbm, ⟨87, _⟩ => ⟨S4096x4096, .i32⟩
  | .hbm, ⟨88, _⟩ => ⟨S4096x4096, .i32⟩
  | .hbm, ⟨89, _⟩ => ⟨S4096x4096, .i1⟩
  | .hbm, ⟨90, _⟩ => ⟨S_, .f32⟩
  | .hbm, ⟨91, _⟩ => ⟨S4x8x4096x16, .f32⟩
  | .hbm, ⟨92, _⟩ => ⟨S4x8x4096x16, .i1⟩
  | .hbm, ⟨93, _⟩ => ⟨S4x8x4096x16x1, .i1⟩
  | .hbm, ⟨94, _⟩ => ⟨S4x8x4096x16x256, .i1⟩
  | .hbm, ⟨95, _⟩ => ⟨S4x8x4096x4096, .i1⟩
  | .hbm, ⟨96, _⟩ => ⟨S4x8x4096x4096, .f32⟩
  | .hbm, ⟨97, _⟩ => ⟨S_, .f32⟩
  | .hbm, ⟨98, _⟩ => ⟨S4x8x4096x4096, .f32⟩
  | .hbm, ⟨99, _⟩ => ⟨S4x8x4096x4096, .f32⟩
  | .hbm, ⟨100, _⟩ => ⟨S1x1x4096x4096, .i1⟩
  | .hbm, ⟨101, _⟩ => ⟨S4x8x4096x4096, .i1⟩
  | .hbm, ⟨102, _⟩ => ⟨S4x8x4096x4096, .i1⟩
  | .hbm, ⟨103, _⟩ => ⟨S1x1x4096x4096, .i1⟩
  | .hbm, ⟨104, _⟩ => ⟨S4x8x4096x4096, .i1⟩
  | .hbm, ⟨105, _⟩ => ⟨S4x8x4096x4096, .i1⟩
  | .hbm, ⟨106, _⟩ => ⟨S_, .f32⟩
  | .hbm, ⟨107, _⟩ => ⟨S_, .f32⟩
  | .hbm, ⟨108, _⟩ => ⟨S4x8x4096x4096, .f32⟩
  | .hbm, ⟨109, _⟩ => ⟨S4x8x4096x4096, .f32⟩
  | .hbm, ⟨110, _⟩ => ⟨S_, .f32⟩
  | .hbm, ⟨111, _⟩ => ⟨S4x8x4096, .f32⟩
  | .hbm, ⟨112, _⟩ => ⟨S_, .f32⟩
  | .hbm, ⟨113, _⟩ => ⟨S4x8x4096, .f32⟩
  | .hbm, ⟨114, _⟩ => ⟨S4x8x4096, .f32⟩
  | .hbm, ⟨115, _⟩ => ⟨S4x8x4096x1, .f32⟩
  | .hbm, ⟨116, _⟩ => ⟨S4x8x4096x4096, .f32⟩
  | .hbm, ⟨117, _⟩ => ⟨S4x8x4096x4096, .f32⟩
  | .hbm, ⟨118, _⟩ => ⟨S4x8x4096x4096, .f32⟩
  | .hbm, ⟨119, _⟩ => ⟨S_, .f32⟩
  | .hbm, ⟨120, _⟩ => ⟨S4x8x4096, .f32⟩
  | .hbm, ⟨121, _⟩ => ⟨S4x8x4096x1, .f32⟩
  | .hbm, ⟨122, _⟩ => ⟨S4x8x4096x4096, .f32⟩
  | .hbm, ⟨123, _⟩ => ⟨S4x8x4096x4096, .f32⟩
  | .hbm, ⟨124, _⟩ => ⟨S4x8x64x4096, .f32⟩
  | .hbm, ⟨125, _⟩ => ⟨S4x4096x8x64, .f32⟩
  | .hbm, ⟨126, _⟩ => ⟨S4x4096x512, .f32⟩
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_c_1 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_c : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_0 : Ref sig .tc := ⟨.hbm, 65, rfl⟩
abbrev main_call2_v12 : Ref sig .tc := ⟨.hbm, 66, rfl⟩
abbrev main_call2_v13 : Ref sig .tc := ⟨.hbm, 67, rfl⟩
abbrev main_v13 : Ref sig .tc := ⟨.hbm, 68, rfl⟩
abbrev main_c_2 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_v6 : Ref sig .tc := ⟨.hbm, 76, rfl⟩
abbrev main_call3_v7 : Ref sig .tc := ⟨.hbm, 77, rfl⟩
abbrev main_call3_v8 : Ref sig .tc := ⟨.hbm, 78, rfl⟩
abbrev main_call3_c : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_0 : Ref sig .tc := ⟨.hbm, 83, rfl⟩
abbrev main_call3_v12 : Ref sig .tc := ⟨.hbm, 84, rfl⟩
abbrev main_call3_v13 : Ref sig .tc := ⟨.hbm, 85, rfl⟩
abbrev main_v14 : Ref sig .tc := ⟨.hbm, 86, rfl⟩
abbrev main_v15 : Ref sig .tc := ⟨.hbm, 87, rfl⟩
abbrev main_v16 : Ref sig .tc := ⟨.hbm, 88, rfl⟩
abbrev main_v17 : Ref sig .tc := ⟨.hbm, 89, rfl⟩
abbrev main_cst : Ref sig .tc := ⟨.hbm, 90, rfl⟩
abbrev main_v18 : Ref sig .tc := ⟨.hbm, 91, rfl⟩
abbrev main_v19 : Ref sig .tc := ⟨.hbm, 92, rfl⟩
abbrev main_v20 : Ref sig .tc := ⟨.hbm, 93, rfl⟩
abbrev main_v21 : Ref sig .tc := ⟨.hbm, 94, rfl⟩
abbrev main_v22 : Ref sig .tc := ⟨.hbm, 95, rfl⟩
abbrev main_v23 : Ref sig .tc := ⟨.hbm, 96, rfl⟩
abbrev main_cst_3 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_v27 : Ref sig .tc := ⟨.hbm, 101, rfl⟩
abbrev main_v28 : Ref sig .tc := ⟨.hbm, 102, rfl⟩
abbrev main_v29 : Ref sig .tc := ⟨.hbm, 103, rfl⟩
abbrev main_v30 : Ref sig .tc := ⟨.hbm, 104, rfl⟩
abbrev main_v31 : Ref sig .tc := ⟨.hbm, 105, rfl⟩
abbrev main_cst_4 : Ref sig .tc := ⟨.hbm, 106, rfl⟩
abbrev main_call4_v0 : Ref sig .tc := ⟨.hbm, 107, rfl⟩
abbrev main_call4_v1 : Ref sig .tc := ⟨.hbm, 108, rfl⟩
abbrev main_v32 : Ref sig .tc := ⟨.hbm, 109, rfl⟩
abbrev main_cst_5 : Ref sig .tc := ⟨.hbm, 110, rfl⟩
abbrev main_v33 : Ref sig .tc := ⟨.hbm, 111, rfl⟩
abbrev main_cst_6 : Ref sig .tc := ⟨.hbm, 112, rfl⟩
abbrev main_v34 : Ref sig .tc := ⟨.hbm, 113, rfl⟩
abbrev main_v35 : Ref sig .tc := ⟨.hbm, 114, rfl⟩
abbrev main_v36 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_cst_7 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩

abbrev nD : Nat := 1
abbrev τ : Topo := Topo.v7x

variable {F : FTy → Type} [FloatOps F]
-- ==== Ffn.lean ====
abbrev S4x4096x1024 : Shape := ⟨3, ![4, 4096, 1024]⟩
abbrev S4x4096x512 : Shape := ⟨3, ![4, 4096, 512]⟩
abbrev S4x1x1024 : Shape := ⟨3, ![4, 1, 1024]⟩
abbrev S512 : Shape := ⟨1, ![512]⟩
abbrev S1024 : Shape := ⟨1, ![1024]⟩
abbrev S1024x1024 : Shape := ⟨2, ![1024, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S16384x1024 : Shape := ⟨2, ![16384, 1024]⟩
abbrev S16384x512 : Shape := ⟨2, ![16384, 512]⟩
abbrev S1x512 : Shape := ⟨2, ![1, 512]⟩
abbrev S1x1024 : Shape := ⟨2, ![1, 1024]⟩
abbrev S1x2816 : Shape := ⟨2, ![1, 2816]⟩
abbrev S4x2x2816 : Shape := ⟨3, ![4, 2, 2816]⟩
abbrev S512x1024 : Shape := ⟨2, ![512, 1024]⟩
abbrev S512x512 : Shape := ⟨2, ![512, 512]⟩
abbrev S1x1x1024 : Shape := ⟨3, ![1, 1, 1024]⟩
abbrev S1x2x2816 : Shape := ⟨3, ![1, 2, 2816]⟩
abbrev S8x2816 : Shape := ⟨2, ![8, 2816]⟩
abbrev S512x2816 : Shape := ⟨2, ![512, 2816]⟩
abbrev S512x1 : Shape := ⟨2, ![512, 1]⟩
abbrev S512x256 : Shape := ⟨2, ![512, 256]⟩
abbrev S1024x256 : Shape := ⟨2, ![1024, 256]⟩
abbrev S1x256 : Shape := ⟨2, ![1, 256]⟩
abbrev S2x256 : Shape := ⟨2, ![2, 256]⟩
abbrev S1x2x256 : Shape := ⟨3, ![1, 2, 256]⟩

abbrev nBuf : Space → Nat
  | .hbm => 25
  | .vmem => 27
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x1x1024, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S512, .f32⟩
  | .hbm, ⟨8, _⟩ => ⟨S1024, .f32⟩
  | .hbm, ⟨9, _⟩ => ⟨S1024x1024, .f32⟩
  | .hbm, ⟨10, _⟩ => ⟨S1024x5632, .f32⟩
  | .hbm, ⟨11, _⟩ => ⟨S3x2816, .f32⟩
  | .hbm, ⟨12, _⟩ => ⟨S2816, .f32⟩
  | .hbm, ⟨13, _⟩ => ⟨S2816x1024, .f32⟩
  | .hbm, ⟨14, _⟩ => ⟨S16384x1024, .f32⟩
  | .hbm, ⟨15, _⟩ => ⟨S16384x512, .f32⟩
  | .hbm, ⟨16, _⟩ => ⟨S16384x512, .f32⟩
  | .hbm, ⟨17, _⟩ => ⟨S1x512, .f32⟩
  | .hbm, ⟨18, _⟩ => ⟨S1x1024, .f32⟩
  | .hbm, ⟨19, _⟩ => ⟨S1024x1024, .bf16⟩
  | .hbm, ⟨20, _⟩ => ⟨S1024x5632, .bf16⟩
  | .hbm, ⟨21, _⟩ => ⟨S1x2816, .f32⟩
  | .hbm, ⟨22, _⟩ => ⟨S2816x1024, .bf16⟩
  | .hbm, ⟨23, _⟩ => ⟨S16384x1024, .f32⟩
  | .hbm, ⟨24, _⟩ => ⟨S4x2x2816, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x512, .f32⟩
  | .local _ .vmem, ⟨15, _⟩ => ⟨S1x1024, .f32⟩
  | .local _ .vmem, ⟨16, _⟩ => ⟨S1024x1024, .bf16⟩
  | .local _ .vmem, ⟨17, _⟩ => ⟨S1024x5632, .bf16⟩
  | .local _ .vmem, ⟨18, _⟩ => ⟨S3x2816, .f32⟩
  | .local _ .vmem, ⟨19, _⟩ => ⟨S1x2816, .f32⟩
  | .local _ .vmem, ⟨20, _⟩ => ⟨S2816x1024, .bf16⟩
  | .local _ .vmem, ⟨21, _⟩ => ⟨S512x1024, .f32⟩
  | .local _ .vmem, ⟨22, _⟩ => ⟨S512x1024, .f32⟩
  | .local _ .vmem, ⟨23, _⟩ => ⟨S1x2x2816, .f32⟩
  | .local _ .vmem, ⟨24, _⟩ => ⟨S1x2x2816, .f32⟩
  | .local _ .vmem, ⟨25, _⟩ => ⟨S8x2816, .f32⟩
  | .local _ .vmem, ⟨26, _⟩ => ⟨S512x2816, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x2x2816 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== FfnRefIdeal.lean ====
abbrev S4x4096x1024 : Shape := ⟨3, ![4, 4096, 1024]⟩
abbrev S4x4096x512 : Shape := ⟨3, ![4, 4096, 512]⟩
abbrev S4x1x1024 : Shape := ⟨3, ![4, 1, 1024]⟩
abbrev S512 : Shape := ⟨1, ![512]⟩
abbrev S1024 : Shape := ⟨1, ![1024]⟩
abbrev S1024x1024 : Shape := ⟨2, ![1024, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S4x2x2816 : Shape := ⟨3, ![4, 2, 2816]⟩
abbrev S4x4098x2816 : Shape := ⟨3, ![4, 4098, 2816]⟩
abbrev S1x2816 : Shape := ⟨2, ![1, 2816]⟩
abbrev S1x1x2816 : Shape := ⟨3, ![1, 1, 2816]⟩
abbrev S16384x1024 : Shape := ⟨2, ![16384, 1024]⟩

abbrev nBuf : Space → Nat
  | .hbm => 106
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x1x1024, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S512, .f32⟩
  | .hbm, ⟨8, _⟩ => ⟨S1024, .f32⟩
  | .hbm, ⟨9, _⟩ => ⟨S1024x1024, .f32⟩
  | .hbm, ⟨10, _⟩ => ⟨S1024x5632, .f32⟩
  | .hbm, ⟨11, _⟩ => ⟨S3x2816, .f32⟩
  | .hbm, ⟨12, _⟩ => ⟨S2816, .f32⟩
  | .hbm, ⟨13, _⟩ => ⟨S2816x1024, .f32⟩
  | .hbm, ⟨14, _⟩ => ⟨S4x4096x512, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x512, .f32⟩
  | .hbm, ⟨26, _⟩ => ⟨S4x4096x512, .f32⟩
  | .hbm, ⟨27, _⟩ => ⟨S1x1x512, .f32⟩
  | .hbm, ⟨28, _⟩ => ⟨S4x4096x512, .f32⟩
  | .hbm, ⟨29, _⟩ => ⟨S4x4096x512, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x1, .f32⟩
  | .hbm, ⟨46, _⟩ => ⟨S4x4096x1024, .f32⟩
  | .hbm, ⟨47, _⟩ => ⟨S4x4096x1024, .f32⟩
  | .hbm, ⟨48, _⟩ => ⟨S1x1x1024, .f32⟩
  | .hbm, ⟨49, _⟩ => ⟨S4x4096x1024, .f32⟩
  | .hbm, ⟨50, _⟩ => ⟨S4x4096x1024, .f32⟩
  | .hbm, ⟨51, _⟩ => ⟨S_, .f32⟩
  | .hbm, ⟨52, _⟩ => ⟨S4x1x1024, .f32⟩
  | .hbm, ⟨53, _⟩ => ⟨S4x1x1024, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | .hbm, ⟨58, _⟩ => ⟨S4x4096x5632, .f32⟩
  | .hbm, ⟨59, _⟩ => ⟨S4x4096x2816, .f32⟩
  | .hbm, ⟨60, _⟩ => ⟨S4x4096x2816, .f32⟩
  | .hbm, ⟨61, _⟩ => ⟨S_, .f32⟩
  | .hbm, ⟨62, _⟩ => ⟨S4x2x2816, .f32⟩
  | .hbm, ⟨63, _⟩ => ⟨S4x4098x2816, .f32⟩
  | .hbm, ⟨64, _⟩ => ⟨S1x2816, .f32⟩
  | .hbm, ⟨65, _⟩ => ⟨S2816, .f32⟩
  | .hbm, ⟨66, _⟩ => ⟨S4x4096x2816, .f32⟩
  | .hbm, ⟨67, _⟩ => ⟨S1x1x2816, .f32⟩
  | .hbm, ⟨68, _⟩ => ⟨S4x4096x2816, .f32⟩
  | .hbm, ⟨69, _⟩ => ⟨S4x4096x2816, .f32⟩
  | .hbm, ⟨70, _⟩ => ⟨S_, .f32⟩
  | .hbm, ⟨71, _⟩ => ⟨S4x4096x2816, .f32⟩
  | .hbm, ⟨72, _⟩ => ⟨S4x4096x2816, .f32⟩
  | .hbm, ⟨73, _⟩ => ⟨S1x2816, .f32⟩
  | .hbm, ⟨74, _⟩ => ⟨S2816, .f32⟩
  | .hbm, ⟨75, _⟩ => ⟨S4x4096x2816, .f32⟩
  | .hbm, ⟨76, _⟩ => ⟨S1x1x2816, .f32⟩
  | .hbm, ⟨77, _⟩ => ⟨S4x4096x2816, .f32⟩
  | .hbm, ⟨78, _⟩ => ⟨S4x4096x2816, .f32⟩
  | .hbm, ⟨79, _⟩ => ⟨S4x4096x2816, .f32⟩
  | .hbm, ⟨80, _⟩ => ⟨S1x2816, .f32⟩
  | .hbm, ⟨81, _⟩ => ⟨S2816, .f32⟩
  | .hbm, ⟨82, _⟩ => ⟨S4x4096x2816, .f32⟩
  | .hbm, ⟨83, _⟩ => ⟨S1x1x2816, .f32⟩
  | .hbm, ⟨84, _⟩ => ⟨S4x4096x2816, .f32⟩
  | .hbm, ⟨85, _⟩ => ⟨S4x4096x2816, .f32⟩
  | .hbm, ⟨86, _⟩ => ⟨S4x4096x2816, .f32⟩
  | .hbm, ⟨87, _⟩ => ⟨S1x1x2816, .f32⟩
  | .hbm, ⟨88, _⟩ => ⟨S4x4096x2816, .f32⟩
  | .hbm, ⟨89, _⟩ => ⟨S4x4096x2816, .f32⟩
  | .hbm, ⟨90, _⟩ => ⟨S4x4096x2816, .f32⟩
  | .hbm, ⟨91, _⟩ => ⟨S4x4096x2816, .f32⟩
  | .hbm, ⟨92, _⟩ => ⟨S_, .f32⟩
  | .hbm, ⟨93, _⟩ => ⟨S4x4096x2816, .f32⟩
  | .hbm, ⟨94, _⟩ => ⟨S4x4096x2816, .f32⟩
  | .hbm, ⟨95, _⟩ => ⟨S_, .f32⟩
  | .hbm, ⟨96, _⟩ => ⟨S4x4096x2816, .f32⟩
  | .hbm, ⟨97, _⟩ => ⟨S4x4096x2816, .f32⟩
  | .hbm, ⟨98, _⟩ => ⟨S4x4096x2816, .f32⟩
  | .hbm, ⟨99, _⟩ => ⟨S4x4096x2816, .f32⟩
  | .hbm, ⟨100, _⟩ => ⟨S4x4096x1024, .f32⟩
  | .hbm, ⟨101, _⟩ => ⟨S4x4096x1024, .f32⟩
  | .hbm, ⟨102, _⟩ => ⟨S4x4096x1024, .f32⟩
  | .hbm, ⟨103, _⟩ => ⟨S4x4096x1024, .f32⟩
  | .hbm, ⟨104, _⟩ => ⟨S16384x1024, .f32⟩
  | .hbm, ⟨105, _⟩ => ⟨S4x2x2816, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call0_v0 : Ref sig .tc := ⟨.hbm, 90, rfl⟩
abbrev main_call0_v1 : Ref sig .tc := ⟨.hbm, 91, rfl⟩
abbrev main_call0_cst : Ref sig .tc := ⟨.hbm, 92, rfl⟩
abbrev main_call0_v2 : Ref sig .tc := ⟨.hbm, 93, rfl⟩
abbrev main_call0_v3 : Ref sig .tc := ⟨.hbm, 94, rfl⟩
abbrev main_call0_cst_0 : Ref sig .tc := ⟨.hbm, 95, rfl⟩
abbrev main_call0_v4 : Ref sig .tc := ⟨.hbm, 96, rfl⟩
abbrev main_call0_v5 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩

abbrev nD : Nat := 1
abbrev τ : Topo := Topo.v7x

variable {F : FTy → Type} [FloatOps F]
-- ==== In.lean ====
abbrev S32x4x1024 : Shape := ⟨3, ![32, 4, 1024]⟩
abbrev S32x1x1024 : Shape := ⟨3, ![32, 1, 1024]⟩
abbrev S1024 : Shape := ⟨1, ![1024]⟩
abbrev S1024x2560 : Shape := ⟨2, ![1024, 2560]⟩
abbrev S64 : Shape := ⟨1, ![64]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1x64 : Shape := ⟨2, ![1, 64]⟩
abbrev S8x64 : Shape := ⟨2, ![8, 64]⟩
abbrev S128 : Shape := ⟨1, ![128]⟩
abbrev S8 : Shape := ⟨1, ![8]⟩
abbrev S128x1 : Shape := ⟨2, ![128, 1]⟩
abbrev S1x8 : Shape := ⟨2, ![1, 8]⟩
abbrev S128x8 : Shape := ⟨2, ![128, 8]⟩
abbrev S128x48 : Shape := ⟨2, ![128, 48]⟩
abbrev S128x64 : Shape := ⟨2, ![128, 64]⟩
abbrev S128x128 : Shape := ⟨2, ![128, 128]⟩
abbrev S128x1024 : Shape := ⟨2, ![128, 1024]⟩
abbrev S32x1024 : Shape := ⟨2, ![32, 1024]⟩
abbrev S1x128x1024 : Shape := ⟨3, ![1, 128, 1024]⟩
abbrev S1x1024 : Shape := ⟨2, ![1, 1024]⟩
abbrev S128x512 : Shape := ⟨2, ![128, 512]⟩
abbrev S8x128x128 : Shape := ⟨3, ![8, 128, 128]⟩
abbrev S128x2560 : Shape := ⟨2, ![128, 2560]⟩
abbrev S1x128x128 : Shape := ⟨3, ![1, 128, 128]⟩

abbrev nBuf : Space → Nat
  | .hbm => 118
  | .vmem => 17
  | .smem => 0
  | _ => 0

abbrev bufTy : (tb : Table) → Fin (tcTables nBuf tb) → BufTy
  | .hbm, ⟨0, _⟩ => ⟨S32x4x1024, .f32⟩
  | .hbm, ⟨1, _⟩ => ⟨S32x1x1024, .f32⟩
  | .hbm, ⟨2, _⟩ => ⟨S32x1x1024, .f32⟩
  | .hbm, ⟨3, _⟩ => ⟨S1024, .f32⟩
  | .hbm, ⟨4, _⟩ => ⟨S1024x2560, .f32⟩
  | .hbm, ⟨5, _⟩ => ⟨S64, .f32⟩
  | .hbm, ⟨6, _⟩ => ⟨S64, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S1x512, .i32⟩
  | .hbm, ⟨28, _⟩ => ⟨S512x512, .i32⟩
  | .hbm, ⟨29, _⟩ => ⟨S512x512, .i32⟩
  | .hbm, ⟨30, _⟩ => ⟨S512x512, .i1⟩
  | .hbm, ⟨31, _⟩ => ⟨S_, .f32⟩
  | .hbm, ⟨32, _⟩ => ⟨S_, .f32⟩
  | .hbm, ⟨33, _⟩ => ⟨S512x512, .f32⟩
  | .hbm, ⟨34, _⟩ => ⟨S512x512, .f32⟩
  | .hbm, ⟨35, _⟩ => ⟨S512x512, .f32⟩
  | .hbm, ⟨36, _⟩ => ⟨S512x512, .bf16⟩
  | .hbm, ⟨37, _⟩ => ⟨S1x64, .f32⟩
  | .hbm, ⟨38, _⟩ => ⟨S8x64, .f32⟩
  | .hbm, ⟨39, _⟩ => ⟨S512, .f32⟩
  | .hbm, ⟨40, _⟩ => ⟨S1x512, .f32⟩
  | .hbm, ⟨41, _⟩ => ⟨S1x64, .f32⟩
  | .hbm, ⟨42, _⟩ => ⟨S8x64, .f32⟩
  | .hbm, ⟨43, _⟩ => ⟨S512, .f32⟩
  | .hbm, ⟨44, _⟩ => ⟨S1x512, .f32⟩
  | .hbm, ⟨45, _⟩ => ⟨S128, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S128, .i32⟩
  | .hbm, ⟨53, _⟩ => ⟨S128, .i32⟩
  | .hbm, ⟨54, _⟩ => ⟨S_, .i32⟩
  | .hbm, ⟨55, _⟩ => ⟨S128, .i32⟩
  | .hbm, ⟨56, _⟩ => ⟨S128, .i1⟩
  | .hbm, ⟨57, _⟩ => ⟨S_, .i32⟩
  | .hbm, ⟨58, _⟩ => ⟨S128, .i32⟩
  | .hbm, ⟨59, _⟩ => ⟨S128, .i1⟩
  | .hbm, ⟨60, _⟩ => ⟨S_, .i32⟩
  | .hbm, ⟨61, _⟩ => ⟨S_, .i1⟩
  | .hbm, ⟨62, _⟩ => ⟨S128, .i1⟩
  | .hbm, ⟨63, _⟩ => ⟨S128, .i1⟩
  | .hbm, ⟨64, _⟩ => ⟨S128, .i1⟩
  | .hbm, ⟨65, _⟩ => ⟨S128, .i32⟩
  | .hbm, ⟨66, _⟩ => ⟨S128, .i32⟩
  | .hbm, ⟨67, _⟩ => ⟨S128, .i32⟩
  | .hbm, ⟨68, _⟩ => ⟨S_, .i32⟩
  | .hbm, ⟨69, _⟩ => ⟨S128, .i32⟩
  | .hbm, ⟨70, _⟩ => ⟨S128, .i32⟩
  | .hbm, ⟨71, _⟩ => ⟨S8, .f32⟩
  | .hbm, ⟨72, _⟩ => ⟨S_, .f32⟩
  | .hbm, ⟨73, _⟩ => ⟨S8, .f32⟩
  | .hbm, ⟨74, _⟩ => ⟨S8, .f32⟩
  | .hbm, ⟨75, _⟩ => ⟨S_, .f32⟩
  | .hbm, ⟨76, _⟩ => ⟨S8, .f32⟩
  | .hbm, ⟨77, _⟩ => ⟨S8, .f32⟩
  | .hbm, ⟨78, _⟩ => ⟨S8, .f32⟩
  | .hbm, ⟨79, _⟩ => ⟨S128, .f32⟩
  | .hbm, ⟨80, _⟩ => ⟨S128x1, .f32⟩
  | .hbm, ⟨81, _⟩ => ⟨S1x8, .f32⟩
  | .hbm, ⟨82, _⟩ => ⟨S128x8, .f32⟩
  | .hbm, ⟨83, _⟩ => ⟨S128x8, .f32⟩
  | .hbm, ⟨84, _⟩ => ⟨S128x8, .f32⟩
  | .hbm, ⟨85, _⟩ => ⟨S128x8, .f32⟩
  | .hbm, ⟨86, _⟩ => ⟨S128x8, .f32⟩
  | .hbm, ⟨87, _⟩ => ⟨S_, .f32⟩
  | .hbm, ⟨88, _⟩ => ⟨S128x48, .f32⟩
  | .hbm, ⟨89, _⟩ => ⟨S_, .f32⟩
  | .hbm, ⟨90, _⟩ => ⟨S128x8, .f32⟩
  | .hbm, ⟨91, _⟩ => ⟨S_, .f32⟩
  | .hbm, ⟨92, _⟩ => ⟨S128x48, .f32⟩
  | .hbm, ⟨93, _⟩ => ⟨S128x48, .f32⟩
  | .hbm, ⟨94, _⟩ => ⟨S128x64, .f32⟩
  | .hbm, ⟨95, _⟩ => ⟨S128x8, .f32⟩
  | .hbm, ⟨96, _⟩ => ⟨S128x64, .f32⟩
  | .hbm, ⟨97, _⟩ => ⟨S128x64, .f32⟩
  | .hbm, ⟨98, _⟩ => ⟨S128x128, .f32⟩
  | .hbm, ⟨99, _⟩ => ⟨S128x128, .f32⟩
  | .hbm, ⟨100, _⟩ => ⟨S128x128, .f32⟩
  | .hbm, ⟨101, _⟩ => ⟨S128x1024, .f32⟩
  | .hbm, ⟨102, _⟩ => ⟨S32x1024, .f32⟩
  | .hbm, ⟨103, _⟩ => ⟨S32x4x1024, .f32⟩
  | .hbm, ⟨104, _⟩ => ⟨S128x1024, .f32⟩
  | .hbm, ⟨105, _⟩ => ⟨S1x128x1024, .f32⟩
  | .hbm, ⟨106, _⟩ => ⟨S32x1024, .f32⟩
  | .hbm, ⟨107, _⟩ => ⟨S32x4x1024, .f32⟩
  | .hbm, ⟨108, _⟩ => ⟨S128x1024, .f32⟩
  | .hbm, ⟨109, _⟩ => ⟨S1x128x1024, .f32⟩
  | .hbm, ⟨110, _⟩ => ⟨S1x1024, .f32⟩
  | .hbm, ⟨111, _⟩ => ⟨S1024x2560, .bf16⟩
  | .hbm, ⟨112, _⟩ => ⟨S128x512, .f32⟩
  | .hbm, ⟨113, _⟩ => ⟨S128x512, .f32⟩
  | .hbm, ⟨114, _⟩ => ⟨S128x512, .f32⟩
  | .hbm, ⟨115, _⟩ => ⟨S8x128x128, .f32⟩
  | .hbm, ⟨116, _⟩ => ⟨S8x128x128, .f32⟩
  | .hbm, ⟨117, _⟩ => ⟨S8x128x128, .f32⟩
  | .local _ .vmem, ⟨0, _⟩ => ⟨S128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x1024, .f32⟩
  | .local _ .vmem, ⟨4, _⟩ => ⟨S1024x2560, .bf16⟩
  | .local _ .vmem, ⟨5, _⟩ => ⟨S512x512, .bf16⟩
  | .local _ .vmem, ⟨6, _⟩ => ⟨S1x512, .f32⟩
  | .local _ .vmem, ⟨7, _⟩ => ⟨S1x512, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S8x128x128, .f32⟩
  | .local _ .vmem, ⟨15, _⟩ => ⟨S8x128x128, .f32⟩
  | .local _ .vmem, ⟨16, _⟩ => ⟨S8x128x128, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_1 : Ref sig .tc := ⟨.hbm, 46, rfl⟩
abbrev main_call2_v0 : Ref sig .tc := ⟨.hbm, 47, rfl⟩
abbrev main_call2_c : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_c_1 : Ref sig .tc := ⟨.hbm, 54, rfl⟩
abbrev main_call2_v5 : Ref sig .tc := ⟨.hbm, 55, rfl⟩
abbrev main_call2_v6 : Ref sig .tc := ⟨.hbm, 56, rfl⟩
abbrev main_call2_c_2 : Ref sig .tc := ⟨.hbm, 57, rfl⟩
abbrev main_call2_v7 : Ref sig .tc := ⟨.hbm, 58, rfl⟩
abbrev main_call2_v8 : Ref sig .tc := ⟨.hbm, 59, rfl⟩
abbrev main_call2_c_3 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_v12 : Ref sig .tc := ⟨.hbm, 64, rfl⟩
abbrev main_call2_v13 : Ref sig .tc := ⟨.hbm, 65, rfl⟩
abbrev main_call2_v14 : Ref sig .tc := ⟨.hbm, 66, rfl⟩
abbrev main_v18 : Ref sig .tc := ⟨.hbm, 67, rfl⟩
abbrev main_c_2 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_cst_3 : Ref sig .tc := ⟨.hbm, 72, rfl⟩
abbrev main_v22 : Ref sig .tc := ⟨.hbm, 73, rfl⟩
abbrev main_v23 : Ref sig .tc := ⟨.hbm, 74, rfl⟩
abbrev main_cst_4 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_cst_5 : Ref sig .tc := ⟨.hbm, 87, rfl⟩
abbrev main_v35 : Ref sig .tc := ⟨.hbm, 88, rfl⟩
abbrev main_cst_6 : Ref sig .tc := ⟨.hbm, 89, rfl⟩
abbrev main_v36 : Ref sig .tc := ⟨.hbm, 90, rfl⟩
abbrev main_cst_7 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57_0 : Ref sig .tc := ⟨.hbm, 112, rfl⟩
abbrev main_v57_1 : Ref sig .tc := ⟨.hbm, 113, rfl⟩
abbrev main_v57_2 : Ref sig .tc := ⟨.hbm, 114, rfl⟩
abbrev main_v57_3 : Ref sig .tc := ⟨.hbm, 115, rfl⟩
abbrev main_v57_4 : Ref sig .tc := ⟨.hbm, 116, rfl⟩
abbrev main_v57_5 : Ref sig .tc := ⟨.hbm, 117, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S8x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S8x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S8x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]
-- ==== InRefIdeal.lean ====
abbrev S32x4x1024 : Shape := ⟨3, ![32, 4, 1024]⟩
abbrev S32x1x1024 : Shape := ⟨3, ![32, 1, 1024]⟩
abbrev S1024 : Shape := ⟨1, ![1024]⟩
abbrev S1024x2560 : Shape := ⟨2, ![1024, 2560]⟩
abbrev S64 : Shape := ⟨1, ![64]⟩
abbrev S4 : Shape := ⟨1, ![4]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x2560 : Shape := ⟨3, ![32, 4, 2560]⟩
abbrev S32x4x512 : Shape := ⟨3, ![32, 4, 512]⟩
abbrev S32x4x8x64 : Shape := ⟨4, ![32, 4, 8, 64]⟩
abbrev S32x4x8 : Shape := ⟨3, ![32, 4, 8]⟩
abbrev S32x4x8x1 : Shape := ⟨4, ![32, 4, 8, 1]⟩
abbrev S1x1x1x64 : Shape := ⟨4, ![1, 1, 1, 64]⟩
abbrev S8 : Shape := ⟨1, ![8]⟩
abbrev S4x1 : Shape := ⟨2, ![4, 1]⟩
abbrev S1x8 : Shape := ⟨2, ![1, 8]⟩
abbrev S4x8 : Shape := ⟨2, ![4, 8]⟩
abbrev S4x1x8 : Shape := ⟨3, ![4, 1, 8]⟩
abbrev S32x4x8x8 : Shape := ⟨4, ![32, 4, 8, 8]⟩
abbrev S1x4x1x8 : Shape := ⟨4, ![1, 4, 1, 8]⟩
abbrev S32x4x8x48 : Shape := ⟨4, ![32, 4, 8, 48]⟩
abbrev S128x512 : Shape := ⟨2, ![128, 512]⟩
abbrev S128x8x64 : Shape := ⟨3, ![128, 8, 64]⟩
abbrev S8x128x64 : Shape := ⟨3, ![8, 128, 64]⟩
abbrev S8x128x128 : Shape := ⟨3, ![8, 128, 128]⟩

abbrev nBuf : Space → Nat
  | .hbm => 174
  | .vmem => 0
  | .smem => 0
  | _ => 0

abbrev hbmTy0_0 (i : Nat) : BufTy := match i % 128 with
  | 0 => ⟨S32x4x1024, .f32⟩
  | 1 => ⟨S32x1x1024, .f32⟩
  | 2 => ⟨S32x1x1024, .f32⟩
  | 3 => ⟨S1024, .f32⟩
  | 4 => ⟨S1024x2560, .f32⟩
  | 5 => ⟨S64, .f32⟩
  | 6 => ⟨S64, .f32⟩
  | 7 => ⟨S4, .i32⟩
  | 8 => ⟨S_, .i32⟩
  | 9 => ⟨S4, .i32⟩
  | 10 => ⟨S4, .i32⟩
  | 11 => ⟨S32x4x1024, .f32⟩
  | 12 => ⟨S_, .f32⟩
  | 13 => ⟨S32x4, .f32⟩
  | 14 => ⟨S32x4x1, .f32⟩
  | 15 => ⟨S_, .f32⟩
  | 16 => ⟨S32x4x1, .f32⟩
  | 17 => ⟨S32x4x1, .f32⟩
  | 18 => ⟨S_, .f32⟩
  | 19 => ⟨S32x4x1, .f32⟩
  | 20 => ⟨S32x4x1, .f32⟩
  | 21 => ⟨S32x4x1, .f32⟩
  | 22 => ⟨S32x4x1024, .f32⟩
  | 23 => ⟨S32x4x1024, .f32⟩
  | 24 => ⟨S1x1x1024, .f32⟩
  | 25 => ⟨S32x4x1024, .f32⟩
  | 26 => ⟨S32x4x1024, .f32⟩
  | 27 => ⟨S_, .f32⟩
  | 28 => ⟨S32x1x1024, .f32⟩
  | 29 => ⟨S32x1x1024, .f32⟩
  | 30 => ⟨S32x4x1024, .f32⟩
  | 31 => ⟨S32x4x1024, .f32⟩
  | 32 => ⟨S32x4x1024, .f32⟩
  | 33 => ⟨S32x4x1024, .f32⟩
  | 34 => ⟨S32x4x2560, .f32⟩
  | 35 => ⟨S32x4x512, .f32⟩
  | 36 => ⟨S32x4x512, .f32⟩
  | 37 => ⟨S32x4x512, .f32⟩
  | 38 => ⟨S32x4x512, .f32⟩
  | 39 => ⟨S32x4x512, .f32⟩
  | 40 => ⟨S32x4x8x64, .f32⟩
  | 41 => ⟨S32x4x8x64, .f32⟩
  | 42 => ⟨S_, .f32⟩
  | 43 => ⟨S32x4x8, .f32⟩
  | 44 => ⟨S32x4x8x1, .f32⟩
  | 45 => ⟨S_, .f32⟩
  | 46 => ⟨S32x4x8x1, .f32⟩
  | 47 => ⟨S32x4x8x1, .f32⟩
  | 48 => ⟨S_, .f32⟩
  | 49 => ⟨S32x4x8x1, .f32⟩
  | 50 => ⟨S32x4x8x1, .f32⟩
  | 51 => ⟨S32x4x8x1, .f32⟩
  | 52 => ⟨S32x4x8x64, .f32⟩
  | 53 => ⟨S32x4x8x64, .f32⟩
  | 54 => ⟨S1x1x1x64, .f32⟩
  | 55 => ⟨S32x4x8x64, .f32⟩
  | 56 => ⟨S32x4x8x64, .f32⟩
  | 57 => ⟨S8, .f32⟩
  | 58 => ⟨S_, .f32⟩
  | 59 => ⟨S8, .f32⟩
  | 60 => ⟨S8, .f32⟩
  | 61 => ⟨S_, .f32⟩
  | 62 => ⟨S8, .f32⟩
  | 63 => ⟨S8, .f32⟩
  | 64 => ⟨S8, .f32⟩
  | 65 => ⟨S4, .f32⟩
  | 66 => ⟨S4x1, .f32⟩
  | 67 => ⟨S1x8, .f32⟩
  | 68 => ⟨S4x8, .f32⟩
  | 69 => ⟨S4x8, .f32⟩
  | 70 => ⟨S4x8, .f32⟩
  | 71 => ⟨S4x8, .f32⟩
  | 72 => ⟨S4x1x8, .f32⟩
  | 73 => ⟨S4x8, .f32⟩
  | 74 => ⟨S4x1x8, .f32⟩
  | 75 => ⟨S32x4x8x8, .f32⟩
  | 76 => ⟨S32x4x8x8, .f32⟩
  | 77 => ⟨S1x4x1x8, .f32⟩
  | 78 => ⟨S32x4x8x8, .f32⟩
  | 79 => ⟨S32x4x8x8, .f32⟩
  | 80 => ⟨S1x4x1x8, .f32⟩
  | 81 => ⟨S32x4x8x8, .f32⟩
  | 82 => ⟨S32x4x8x8, .f32⟩
  | 83 => ⟨S32x4x8x8, .f32⟩
  | 84 => ⟨S1x4x1x8, .f32⟩
  | 85 => ⟨S32x4x8x8, .f32⟩
  | 86 => ⟨S32x4x8x8, .f32⟩
  | 87 => ⟨S1x4x1x8, .f32⟩
  | 88 => ⟨S32x4x8x8, .f32⟩
  | 89 => ⟨S32x4x8x8, .f32⟩
  | 90 => ⟨S32x4x8x8, .f32⟩
  | 91 => ⟨S32x4x8x48, .f32⟩
  | 92 => ⟨S32x4x8x64, .f32⟩
  | 93 => ⟨S32x4x8x64, .f32⟩
  | 94 => ⟨S32x4x8x64, .f32⟩
  | 95 => ⟨S_, .f32⟩
  | 96 => ⟨S32x4x8, .f32⟩
  | 97 => ⟨S32x4x8x1, .f32⟩
  | 98 => ⟨S_, .f32⟩
  | 99 => ⟨S32x4x8x1, .f32⟩
  | 100 => ⟨S32x4x8x1, .f32⟩
  | 101 => ⟨S_, .f32⟩
  | 102 => ⟨S32x4x8x1, .f32⟩
  | 103 => ⟨S32x4x8x1, .f32⟩
  | 104 => ⟨S32x4x8x1, .f32⟩
  | 105 => ⟨S32x4x8x64, .f32⟩
  | 106 => ⟨S32x4x8x64, .f32⟩
  | 107 => ⟨S1x1x1x64, .f32⟩
  | 108 => ⟨S32x4x8x64, .f32⟩
  | 109 => ⟨S32x4x8x64, .f32⟩
  | 110 => ⟨S8, .f32⟩
  | 111 => ⟨S_, .f32⟩
  | 112 => ⟨S8, .f32⟩
  | 113 => ⟨S8, .f32⟩
  | 114 => ⟨S_, .f32⟩
  | 115 => ⟨S8, .f32⟩
  | 116 => ⟨S8, .f32⟩
  | 117 => ⟨S8, .f32⟩
  | 118 => ⟨S4, .f32⟩
  | 119 => ⟨S4x1, .f32⟩
  | 120 => ⟨S1x8, .f32⟩
  | 121 => ⟨S4x8, .f32⟩
  | 122 => ⟨S4x8, .f32⟩
  | 123 => ⟨S4x8, .f32⟩
  | 124 => ⟨S4x8, .f32⟩
  | 125 => ⟨S4x1x8, .f32⟩
  | 126 => ⟨S4x8, .f32⟩
  | 127 => ⟨S4x1x8, .f32⟩
  | _ => ⟨S32x4x1024, .f32⟩

abbrev hbmTy0_1 (i : Nat) : BufTy := match i % 128 with
  | 0 => ⟨S32x4x8x8, .f32⟩
  | 1 => ⟨S32x4x8x8, .f32⟩
  | 2 => ⟨S1x4x1x8, .f32⟩
  | 3 => ⟨S32x4x8x8, .f32⟩
  | 4 => ⟨S32x4x8x8, .f32⟩
  | 5 => ⟨S1x4x1x8, .f32⟩
  | 6 => ⟨S32x4x8x8, .f32⟩
  | 7 => ⟨S32x4x8x8, .f32⟩
  | 8 => ⟨S32x4x8x8, .f32⟩
  | 9 => ⟨S1x4x1x8, .f32⟩
  | 10 => ⟨S32x4x8x8, .f32⟩
  | 11 => ⟨S32x4x8x8, .f32⟩
  | 12 => ⟨S1x4x1x8, .f32⟩
  | 13 => ⟨S32x4x8x8, .f32⟩
  | 14 => ⟨S32x4x8x8, .f32⟩
  | 15 => ⟨S32x4x8x8, .f32⟩
  | 16 => ⟨S32x4x8x48, .f32⟩
  | 17 => ⟨S32x4x8x64, .f32⟩
  | 18 => ⟨S32x4x8x64, .f32⟩
  | 19 => ⟨S32x4x512, .f32⟩
  | 20 => ⟨S32x4x512, .f32⟩
  | 21 => ⟨S_, .f32⟩
  | 22 => ⟨S32x4x512, .f32⟩
  | 23 => ⟨S32x4x512, .f32⟩
  | 24 => ⟨S_, .f32⟩
  | 25 => ⟨S32x4x512, .f32⟩
  | 26 => ⟨S32x4x512, .f32⟩
  | 27 => ⟨S32x4x512, .f32⟩
  | 28 => ⟨S128x512, .f32⟩
  | 29 => ⟨S128x512, .f32⟩
  | 30 => ⟨S128x512, .f32⟩
  | 31 => ⟨S128x8x64, .f32⟩
  | 32 => ⟨S8x128x64, .f32⟩
  | 33 => ⟨S_, .i32⟩
  | 34 => ⟨S_, .f32⟩
  | 35 => ⟨S8x128x128, .f32⟩
  | 36 => ⟨S128x8x64, .f32⟩
  | 37 => ⟨S8x128x64, .f32⟩
  | 38 => ⟨S_, .i32⟩
  | 39 => ⟨S_, .f32⟩
  | 40 => ⟨S8x128x128, .f32⟩
  | 41 => ⟨S128x8x64, .f32⟩
  | 42 => ⟨S8x128x64, .f32⟩
  | 43 => ⟨S_, .i32⟩
  | 44 => ⟨S_, .f32⟩
  | 45 => ⟨S8x128x128, .f32⟩
  | _ => ⟨S32x4x1024, .f32⟩

abbrev hbmTy (i : Nat) : BufTy := match i / 128 with
  | 0 => hbmTy0_0 i
  | 1 => hbmTy0_1 i
  | _ => ⟨S32x4x1024, .f32⟩

abbrev bufTy : (tb : Table) → Fin (tcTables nBuf tb) → BufTy
  | .hbm, ⟨i, _⟩ => hbmTy i
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_8 : Ref sig .tc := ⟨.hbm, 95, rfl⟩
abbrev main_v78 : Ref sig .tc := ⟨.hbm, 96, rfl⟩
abbrev main_v79 : Ref sig .tc := ⟨.hbm, 97, rfl⟩
abbrev main_cst_9 : Ref sig .tc := ⟨.hbm, 98, rfl⟩
abbrev main_v80 : Ref sig .tc := ⟨.hbm, 99, rfl⟩
abbrev main_v81 : Ref sig .tc := ⟨.hbm, 100, rfl⟩
abbrev main_cst_10 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_cst_11 : Ref sig .tc := ⟨.hbm, 111, rfl⟩
abbrev main_v91 : Ref sig .tc := ⟨.hbm, 112, rfl⟩
abbrev main_v92 : Ref sig .tc := ⟨.hbm, 113, rfl⟩
abbrev main_cst_12 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_cst_13 : Ref sig .tc := ⟨.hbm, 149, rfl⟩
abbrev main_v127 : Ref sig .tc := ⟨.hbm, 150, rfl⟩
abbrev main_v128 : Ref sig .tc := ⟨.hbm, 151, rfl⟩
abbrev main_cst_14 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_c_15 : Ref sig .tc := ⟨.hbm, 161, rfl⟩
abbrev main_call0_v0 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_c_16 : Ref sig .tc := ⟨.hbm, 166, rfl⟩
abbrev main_call1_v0 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_c_17 : Ref sig .tc := ⟨.hbm, 171, rfl⟩
abbrev main_call2_v0 : Ref sig .tc := ⟨.hbm, 172, rfl⟩
abbrev main_v143 : Ref sig .tc := ⟨.hbm, 173, rfl⟩

abbrev nD : Nat := 1
abbrev τ : Topo := Topo.v7x

variable {F : FTy → Type} [FloatOps F]
-- ==== Proof.Softmax.lean ====
module

public import Idealize.ShloMosaic.Lib.Pointwise

@[expose] public section

/-!
# The running softmax over the extended reals

One query row sees its keys in groups of columns.  A score is a real number or `⊥` (a masked key).
The kernel starts from one group and takes the earlier groups one by one, rescaling what it has
summed so far; the statements below say that the running state is the plain softmax sum.
-/

noncomputable section

namespace Cert.RunSoftmax

open Idealize.ShloMosaic Finset

/-- A masked or real score, shifted by one real and then by another. -/
theorem exp_shift {s : EReal} (hs : s ≠ ⊤) (a b : ℝ) :
    Ideal.exp (s - (a : EReal)) * Ideal.exp ((a : EReal) - (b : EReal)) = Ideal.exp (s - (b : EReal)) := by
  induction s with
  | top => exact absurd rfl hs
  | bot => simp
  | coe x =>
    rw [← EReal.coe_sub, ← EReal.coe_sub, ← EReal.coe_sub, Ideal.exp_coe, Ideal.exp_coe, Ideal.exp_coe,
      ← EReal.coe_mul, ← Real.exp_add]
    congr 2; ring

/-- The weight of a masked or real score is a real number, not negative. -/
theorem exp_real {s : EReal} (hs : s ≠ ⊤) (a : ℝ) :
    ∃ e : ℝ, 0 ≤ e ∧ Ideal.exp (s - (a : EReal)) = (e : EReal) := by
  induction s with
  | top => exact absurd rfl hs
  | bot => exact ⟨0, le_rfl, by simp⟩
  | coe x =>
    refine ⟨Real.exp (x - a), (Real.exp_pos _).le, ?_⟩
    rw [← EReal.coe_sub, Ideal.exp_coe]

/-- The weight of a real score is positive. -/
theorem exp_pos_of_ne {s : EReal} (hs : s ≠ ⊤) (hb : s ≠ ⊥) (a : ℝ) : 0 < Ideal.exp (s - (a : EReal)) := by
  induction s with
  | top => exact absurd rfl hs
  | bot => exact absurd rfl hb
  | coe x =>
    rw [← EReal.coe_sub, Ideal.exp_coe]
    exact_mod_cast Real.exp_pos _

/-- A real factor that is not negative goes inside a sum of extended reals. -/
theorem sum_mul_real {ι : Type} (S : Finset ι) (f : ι → EReal) (r : ℝ) (hr : 0 ≤ r) :
    (∑ k ∈ S, f k) * (r : EReal) = ∑ k ∈ S, f k * (r : EReal) := by
  classical
  induction S using Finset.induction_on with
  | empty => simp
  | insert a S ha ih =>
    rw [sum_insert ha, sum_insert ha, ← ih,
      EReal.right_distrib_of_nonneg_of_ne_top (by exact_mod_cast hr) (EReal.coe_ne_top r)]

/-- A sum of real weights, none negative, is a real number, not negative. -/
theorem sum_real {ι : Type} (S : Finset ι) (f : ι → EReal)
    (h : ∀ k ∈ S, ∃ e : ℝ, 0 ≤ e ∧ f k = (e : EReal)) : ∃ e : ℝ, 0 ≤ e ∧ ∑ k ∈ S, f k = (e : EReal) := by
  classical
  induction S using Finset.induction_on with
  | empty => exact ⟨0, le_rfl, by simp⟩
  | insert a S ha ih =>
    obtain ⟨x, hx, ex⟩ := h a (mem_insert_self a S)
    obtain ⟨y, hy, ey⟩ := ih fun k hk => h k (mem_insert_of_mem hk)
    exact ⟨x + y, by positivity, by rw [sum_insert ha, ex, ey, EReal.coe_add]⟩

/-- The greatest score of a row of scores. -/
abbrev top1 {n : ℕ} (s : Fin n → EReal) : EReal := (univ : Finset (Fin n)).fold max ⊥ s

theorem top1_ne_top {n : ℕ} (s : Fin n → EReal) (h : ∀ c, s c ≠ ⊤) : top1 s ≠ ⊤ := by
  refine ne_of_lt ?_
  rw [Finset.fold_max_lt]
  exact ⟨bot_lt_top, fun c _ => lt_top_iff_ne_top.2 (h c)⟩

theorem top1_ne_bot {n : ℕ} (s : Fin n → EReal) (c : Fin n) (h : s c ≠ ⊥) : top1 s ≠ ⊥ := by
  refine (ne_of_lt ?_).symm
  rw [Finset.lt_fold_max]
  exact Or.inr ⟨c, mem_univ _, bot_lt_iff_ne_bot.2 h⟩

/-- The running maximum: group `g` first, then groups `0, 1, …`. -/
def runM {n : ℕ} (s : ℕ → Fin n → EReal) (g : ℕ) : ℕ → EReal
  | 0 => top1 (s g)
  | k + 1 => max (runM s g k) (top1 (s k))

/-- The running weighted sum, rescaled at each group. -/
def runA {n : ℕ} (s v : ℕ → Fin n → EReal) (g : ℕ) : ℕ → EReal
  | 0 => ∑ c : Fin n, Ideal.exp (s g c - runM s g 0) * v g c
  | k + 1 => runA s v g k * Ideal.exp (runM s g k - runM s g (k + 1))
      + ∑ c : Fin n, Ideal.exp (s k c - runM s g (k + 1)) * v k c

variable {n : ℕ} (s v : ℕ → Fin n → EReal) (g : ℕ)

theorem runM_real (hs : ∀ j c, s j c ≠ ⊤) (c : Fin n) (hc : s g c ≠ ⊥) (k : ℕ) :
    ∃ r : ℝ, runM s g k = (r : EReal) := by
  have h : runM s g k ≠ ⊤ ∧ runM s g k ≠ ⊥ := by
    induction k with
    | zero => exact ⟨top1_ne_top _ (hs g), top1_ne_bot _ c hc⟩
    | succ k ih =>
      constructor
      · refine ne_of_lt (max_lt (lt_top_iff_ne_top.2 ih.1) (lt_top_iff_ne_top.2 (top1_ne_top _ (hs k))))
      · exact (ne_of_lt (lt_of_lt_of_le (bot_lt_iff_ne_bot.2 ih.2) (le_max_left _ _))).symm
  exact ⟨_, (EReal.coe_toReal h.1 h.2).symm⟩

/-- The running sum is the weighted sum of all keys seen so far, at the running maximum. -/
theorem runA_eq (hs : ∀ j c, s j c ≠ ⊤) (c : Fin n) (hc : s g c ≠ ⊥) (k : ℕ) :
    runA s v g k = (∑ c : Fin n, Ideal.exp (s g c - runM s g k) * v g c)
      + ∑ j ∈ range k, ∑ c : Fin n, Ideal.exp (s j c - runM s g k) * v j c := by
  induction k with
  | zero => simp [runA]
  | succ k ih =>
    obtain ⟨a, ha⟩ := runM_real s g hs c hc k
    obtain ⟨b, hb⟩ := runM_real s g hs c hc (k + 1)
    obtain ⟨e, he, ee⟩ := exp_real (s := (a : EReal)) (EReal.coe_ne_top a) b
    have step : ∀ j, (∑ c : Fin n, Ideal.exp (s j c - (a : EReal)) * v j c) * (e : EReal)
        = ∑ c : Fin n, Ideal.exp (s j c - (b : EReal)) * v j c := fun j => by
      rw [sum_mul_real _ _ _ he]
      refine sum_congr rfl fun c _ => ?_
      rw [mul_right_comm, ← ee, exp_shift (hs j c)]
    rw [runA, ih, ha, hb, ee,
      EReal.right_distrib_of_nonneg_of_ne_top (by exact_mod_cast he) (EReal.coe_ne_top e),
      step, sum_mul_real _ _ _ he, sum_congr rfl fun j _ => step j, sum_range_succ, add_assoc]

/-- The running maximum is the greatest score of all keys seen so far. -/
theorem runM_le_iff (k : ℕ) (x : EReal) :
    runM s g k ≤ x ↔ (∀ c, s g c ≤ x) ∧ ∀ j < k, ∀ c, s j c ≤ x := by
  induction k with
  | zero => simp [runM, top1, Finset.fold_max_le]
  | succ k ih =>
    rw [runM, max_le_iff, ih, top1, Finset.fold_max_le]
    constructor
    · rintro ⟨⟨h1, h2⟩, -, h3⟩
      refine ⟨h1, fun j hj c => ?_⟩
      rcases Nat.lt_succ_iff_lt_or_eq.1 hj with h | rfl
      · exact h2 j h c
      · exact h3 c (mem_univ _)
    · rintro ⟨h1, h2⟩
      exact ⟨⟨h1, fun j hj c => h2 j (Nat.lt_succ_of_lt hj) c⟩, bot_le, fun c _ => h2 k (Nat.lt_succ_self k) c⟩

/-- Four groups of `n` columns laid out in one row of `4 * n`. -/
def key (j : Fin 4) (c : Fin n) : Fin (4 * n) := finProdFinEquiv (j, c)

theorem key_val (j : Fin 4) (c : Fin n) : (key j c).val = c.val + n * j.val := rfl

theorem sum_key {M : Type} [AddCommMonoid M] (f : Fin (4 * n) → M) :
    ∑ k, f k = ∑ j : Fin 4, ∑ c : Fin n, f (key j c) := by
  rw [← Fintype.sum_prod_type' (f := fun j c => f (key j c)), ← (finProdFinEquiv (m := 4) (n := n)).sum_comp]
  rfl

theorem exists_key (k : Fin (4 * n)) : ∃ j c, k = key j c :=
  ⟨(finProdFinEquiv.symm k).1, (finProdFinEquiv.symm k).2, (finProdFinEquiv.apply_symm_apply k).symm⟩

/-- **The running softmax is the softmax.**  `S` is the row of scores and `V` the row of values, over
all keys; keys in the groups after `g` are masked.  The kernel's quotient of its two running sums is
the sum of the values, each weighted by its normalised weight. -/
theorem run_eq_softmax (S V : Fin (4 * n) → EReal) (g : Fin 4)
    (hS : ∀ j : Fin 4, ∀ c, j.val ≤ g.val → s j.val c = S (key j c))
    (hV : ∀ j : Fin 4, ∀ c, j.val ≤ g.val → v j.val c = V (key j c))
    (hmask : ∀ j : Fin 4, ∀ c, g.val < j.val → S (key j c) = ⊥)
    (htop : ∀ j c, s j c ≠ ⊤) (c : Fin n) (hc : s g.val c ≠ ⊥) :
    Ideal.div (runA s v g.val g.val) (runA s (fun _ _ => 1) g.val g.val)
      = ∑ k, V k * Ideal.div (Ideal.exp (S k - top1 S)) (0 + ∑ k, Ideal.exp (S k - top1 S)) := by
  have hStop : ∀ k, S k ≠ ⊤ := fun k => by
    obtain ⟨j, c, rfl⟩ := exists_key k
    by_cases h : j.val ≤ g.val
    · rw [← hS j c h]; exact htop _ _
    · rw [hmask j c (by omega)]; exact bot_ne_top
  have hM : runM s g.val g.val = top1 S := by
    refine le_antisymm ?_ ?_
    · rw [runM_le_iff]
      have hle : ∀ k, S k ≤ top1 S := fun k =>
        (Finset.le_fold_max _).2 (Or.inr ⟨k, mem_univ _, le_rfl⟩)
      refine ⟨fun c => ?_, fun j hj c => ?_⟩
      · rw [hS g c le_rfl]; exact hle _
      · have := hS ⟨j, by omega⟩ c (by simpa using hj.le)
        simp only at this
        rw [this]; exact hle _
    · rw [top1, Finset.fold_max_le]
      have hh := (runM_le_iff s g.val g.val (runM s g.val g.val)).1 le_rfl
      refine ⟨bot_le, fun k _ => ?_⟩
      obtain ⟨j, c, rfl⟩ := exists_key k
      rcases lt_trichotomy j.val g.val with h | h | h
      · rw [← hS j c h.le]; exact hh.2 _ h c
      · rw [← hS j c h.le, h]; exact hh.1 c
      · rw [hmask j c h]; exact bot_le
  obtain ⟨a, ha⟩ := runM_real s g.val htop c hc g.val
  have hA : top1 S = (a : EReal) := hM ▸ ha
  have full : ∀ (w : ℕ → Fin n → EReal) (W : Fin (4 * n) → EReal),
      (∀ j : Fin 4, ∀ c, j.val ≤ g.val → w j.val c = W (key j c)) →
      runA s w g.val g.val = ∑ k, Ideal.exp (S k - (a : EReal)) * W k := fun w W hw => by
    rw [runA_eq s w g.val htop c hc, ha, sum_key]
    have e1 : ∀ j : Fin 4, j.val ≤ g.val →
        (∑ c : Fin n, Ideal.exp (s j.val c - (a : EReal)) * w j.val c)
          = ∑ c : Fin n, Ideal.exp (S (key j c) - (a : EReal)) * W (key j c) := fun j hj =>
      sum_congr rfl fun c _ => by rw [hS j c hj, hw j c hj]
    have e2 : ∀ j : Fin 4, g.val < j.val →
        (∑ c : Fin n, Ideal.exp (S (key j c) - (a : EReal)) * W (key j c)) = 0 := fun j hj =>
      sum_eq_zero fun c _ => by rw [hmask j c hj]; simp
    rw [Fin.sum_univ_four]
    obtain rfl | rfl | rfl | rfl : g = 0 ∨ g = 1 ∨ g = 2 ∨ g = 3 := by omega
    · rw [e2 1 (by decide), e2 2 (by decide), e2 3 (by decide), ← e1 0 (by decide)]; simp
    · rw [e2 2 (by decide), e2 3 (by decide), ← e1 0 (by decide), ← e1 1 (by decide)]
      simp [sum_range_succ, add_comm]
    · rw [e2 3 (by decide), ← e1 0 (by decide), ← e1 1 (by decide), ← e1 2 (by decide)]
      simp [sum_range_succ, add_comm]
    · rw [← e1 0 (by decide), ← e1 1 (by decide), ← e1 2 (by decide), ← e1 3 (by decide)]
      simp [sum_range_succ, add_comm]
  rw [full v V hV, full (fun _ _ => 1) (fun _ => 1) (fun _ _ _ => rfl), hA]
  simp only [mul_one, zero_add]
  obtain ⟨D, hD, eD⟩ := sum_real univ (fun k => Ideal.exp (S k - (a : EReal)))
    fun k _ => exp_real (hStop k) a
  have hpos : (0 : EReal) < ∑ k, Ideal.exp (S k - (a : EReal)) := by
    refine lt_of_lt_of_le (b := Ideal.exp (S (key g c) - (a : EReal))) ?_ ?_
    · exact exp_pos_of_ne (hStop _) (by rw [← hS g c le_rfl]; exact hc) a
    · refine single_le_sum (f := fun k => Ideal.exp (S k - (a : EReal))) (fun k _ => ?_) (mem_univ (key g c))
      obtain ⟨e, he, ee⟩ := exp_real (hStop k) a
      show (0 : EReal) ≤ Ideal.exp (S k - (a : EReal))
      rw [ee]; exact_mod_cast he
  rw [eD] at hpos ⊢
  have hD0 : D ≠ 0 := by
    have : (0 : ℝ) < D := by exact_mod_cast hpos
    exact this.ne'
  rw [Ideal.div_coe hD0, sum_mul_real _ _ _ (by positivity)]
  refine sum_congr rfl fun k _ => ?_
  rw [Ideal.div_coe hD0, mul_right_comm, mul_comm]

end Cert.RunSoftmax
end
-- ==== Proof.AttnPay.lean ====
module

public import proofs.«01_k».proof.Proof.Gen.AttnIdeal.Value
public import proofs.«01_k».proof.Proof.Softmax
public import Idealize.ShloMosaic.Lib.Pipeline.ValueKit
public import Idealize.ShloMosaic.Lib.Pointwise

@[expose] public section

set_option maxRecDepth 16384

noncomputable section

namespace Cert.AttnIdeal.Val

open Cert.AttnIdeal Cert.AttnIdeal.Gen Idealize.ShloMosaic Idealize.ShloMosaic.TcCoe Idealize.SL.Sem
open Idealize.ShloMosaic.Pipeline (Dat)

/-- The kernel's own group of a query block, as it computes it. -/
def gword (a : BitVec 32) : BitVec 32 :=
  Scalar.select
    (Scalar.andi
      (Scalar.cmpi CmpIPredicate.ne
        (Scalar.subi (Scalar.extui (Scalar.cmpi CmpIPredicate.sgt a 0#32))
          (Scalar.extui (Scalar.cmpi CmpIPredicate.slt a 0#32)))
        (Scalar.subi (Scalar.extui (Scalar.cmpi CmpIPredicate.sgt 4#32 0#32))
          (Scalar.extui (Scalar.cmpi CmpIPredicate.slt 4#32 0#32))))
      (Scalar.cmpi CmpIPredicate.ne (Scalar.remsi a 4#32) 0#32))
    (Scalar.subi (Scalar.divsi a 4#32) 1#32)
    (Scalar.divsi a 4#32)

theorem gword_eq : ∀ n : Fin 16, gword (BitVec.ofNat 32 n.val) = BitVec.ofNat 32 (n.val / 4) := by
  decide +kernel

theorem toInt_small (n : ℕ) (h : n < 4096) : (BitVec.ofNat 32 n).toInt = n := by
  rw [BitVec.toInt_ofNat', Int.bmod_def]
  omega

/-- A comparison of a difference of small words is that of the numbers. -/
theorem sle_small (c r z : ℕ) (hc : c < 4096) (hr : r < 4096) (hz : z < 4096) :
    IntOp.cmpi .sle (IntOp.subi (BitVec.ofNat 32 c) (BitVec.ofNat 32 r)) (BitVec.ofNat 32 z)
      = if c ≤ r + z then 1#1 else 0#1 := by
  have e : (BitVec.ofNat 32 c - BitVec.ofNat 32 r).toInt = (c : ℤ) - r := by
    rw [BitVec.toInt_sub, toInt_small c hc, toInt_small r hr, Int.bmod_def]
    omega
  show BitVec.ofBool (BitVec.sle (BitVec.ofNat 32 c - BitVec.ofNat 32 r) (BitVec.ofNat 32 z)) = _
  rw [BitVec.sle, e, toInt_small z hz]
  by_cases h : c ≤ r + z
  · rw [if_pos h, decide_eq_true (by omega)]; rfl
  · rw [if_neg h, decide_eq_false (by omega)]; rfl

theorem trips1 (i : grid0.Coords) : (k0_t1_loop i).trips = (i 2).val / 4 :=
  (by decide +kernel : ∀ n : Fin 16,
    (⟨0#32, Scalar.addi 0#32 (Scalar.muli (Scalar.divsi (Scalar.subi (gword (BitVec.ofNat 32 n.val)) 0#32) 1#32) 1#32), 1#32⟩
      : Scf.Loop 32).trips = n.val / 4) (i 2)

theorem trips2 (i : grid0.Coords) : (k0_t2_loop i).trips = 0 :=
  (by decide +kernel : ∀ n : Fin 16,
    (⟨Scalar.addi 0#32 (Scalar.muli (Scalar.divsi (Scalar.subi (gword (BitVec.ofNat 32 n.val)) 0#32) 1#32) 1#32),
      Scalar.addi 0#32 (Scalar.subi (gword (BitVec.ofNat 32 n.val)) 0#32), 1#32⟩
      : Scf.Loop 32).trips = 0) (i 2)

theorem off1_eq (i : grid0.Coords) : k0_off1 i = ![0, 0, 1024 * ((i 2).val / 4), 0] := by
  have h := (by decide +kernel : ∀ n : Fin 16,
    (Scalar.indexCast (Scalar.muli (gword (BitVec.ofNat 32 n.val)) 1024#32)).toNat = 1024 * (n.val / 4)) (i 2)
  exact congrArg (fun x => ![0, 0, x, 0]) h

theorem off2_eq (i : grid0.Coords) : k0_off2 i = ![0, 1, 1024 * ((i 2).val / 4), 0] := by
  have h := (by decide +kernel : ∀ n : Fin 16,
    (Scalar.indexCast (Scalar.muli (gword (BitVec.ofNat 32 n.val)) 1024#32)).toNat = 1024 * (n.val / 4)) (i 2)
  exact congrArg (fun x => ![0, 1, x, 0]) h

theorem iv_eq : ∀ k : Fin 4,
    (Scalar.indexCast (Scalar.muli (Scf.iv 0#32 1#32 k.val) 1024#32)).toNat = 1024 * k.val := by
  decide +kernel

theorem trips1_lt (i : grid0.Coords) (k : Fin (k0_t1_loop i).trips) : k.val < 4 := by
  have h : k.val < (k0_t1_loop i).trips := k.isLt
  have h2 : (i 2).val < 16 := (i 2).isLt
  have h3 := trips1 i
  omega

theorem off3_eq (i : grid0.Coords) (k : Fin (k0_t1_loop i).trips) : k0_off3 i k = ![0, 0, 1024 * k.val, 0] :=
  congrArg (fun x => ![0, 0, x, 0]) (iv_eq ⟨k.val, trips1_lt i k⟩)

theorem off4_eq (i : grid0.Coords) (k : Fin (k0_t1_loop i).trips) : k0_off4 i k = ![0, 1, 1024 * k.val, 0] :=
  congrArg (fun x => ![0, 1, x, 0]) (iv_eq ⟨k.val, trips1_lt i k⟩)

/-- The causal mask in the own group, as a comparison of numbers. -/
theorem causal_eq (i : grid0.Coords) (r : Fin 256) (c : Fin 1024) :
    k0_pay18 i (ix2 r c) = if c.val ≤ r.val + (i 2).val % 4 * 256 then 1#1 else 0#1 := by
  have h := (by decide +kernel : ∀ n : Fin 16,
    Scalar.muli (Scalar.subi (BitVec.ofNat 32 n.val) (Scalar.muli (gword (BitVec.ofNat 32 n.val)) 4#32)) 256#32
      = BitVec.ofNat 32 (n.val % 4 * 256)) (i 2)
  have e : k0_pay18 i (ix2 r c) = IntOp.cmpi .sle (IntOp.subi (BitVec.ofNat 32 c.val) (BitVec.ofNat 32 r.val))
      (BitVec.ofNat 32 ((i 2).val % 4 * 256)) := by
    rw [← h]
    pointwise [k0_pay18]
    rfl
  rw [e, sle_small _ _ _ (by omega) (by omega) (by omega)]

/-- A load of one group of rows of one head, at an index. -/
theorem ldk (x1 : Vec Ideal S1x2x4096x128 .bf16) (hh : Fin 2) (j : ℕ) (hj : j < 4) (off : Fin 4 → ℕ) (ho : off = ![0, hh.val, 1024 * j, 0])
  (inb) (c : Fin 1024) (d : Fin 128) : (View.ld x1 (Rect.unit (s := S1x2x4096x128) off ![1, 1, 1024, 128] inb)) (ix4 0 0 c d) = x1 (ix4 0 hh ⟨1024 * j + c, by omega⟩ d) := by
  subst ho
  pointwise

/-- One trip of the loop over the earlier groups, its loads read off the whole arrays. -/
theorem trip1 (c : Dev nD) (i : grid0.Coords) (a3 h3 a4) (h4 : Memref.IsWhole a4) (a5) (h5 : Memref.IsWhole a5) (a6 h6)
    (v27 v29 : FVec Ideal S256x128 .bf16) (b)
    (x1 : Vec Ideal S1x2x4096x128 .bf16) (x2 : Vec Ideal S1x2x4096x128 .bf16) (k) (acc)
    (i3 : ∀ a, k0_off3 i k a + ![1, 1, 1024, 128] a ≤ S1x2x4096x128.size a)
    (i4 : ∀ a, k0_off4 i k a + ![1, 1, 1024, 128] a ≤ S1x2x4096x128.size a) :
    tripR_k0_t1 (F := Ideal) Variants.none c none i a3 h3 a4 h4 a5 h5 a6 h6 v27 v29 b (h4.unread x1) (h5.unread x2) k acc
      = (k0_pay5 v27 acc.1 (View.ld x1 (Rect.unit (k0_off3 i k) ![1, 1, 1024, 128] i3)),
         k0_pay6 v27 acc.1 acc.2.1 (View.ld x1 (Rect.unit (k0_off3 i k) ![1, 1, 1024, 128] i3))
           (View.ld x2 (Rect.unit (k0_off3 i k) ![1, 1, 1024, 128] i3)),
         k0_pay8 v29 acc.2.2.1 (View.ld x1 (Rect.unit (k0_off4 i k) ![1, 1, 1024, 128] i4)),
         k0_pay1 (k0_pay9 v29 acc.2.2.1 acc.2.2.2 (View.ld x1 (Rect.unit (k0_off4 i k) ![1, 1, 1024, 128] i4)))
           (k0_pay10 v29 acc.2.2.1 (View.ld x1 (Rect.unit (k0_off4 i k) ![1, 1, 1024, 128] i4)))
           (View.ld x2 (Rect.unit (k0_off4 i k) ![1, 1, 1024, 128] i4))) := by
  unfold tripR_k0_t1
  unfold trip_k0_t1
  dsimp only
  sl_unfold_words
  simp only [View.readAt_eq_ld, Memref.IsWhole.read_unread]

/-- The row of keys that group `j`, column `c` is (for `j < 4`). -/
def rowOf (j : ℕ) (c : Fin 1024) : Fin 4096 := ⟨(1024 * j + c.val) % 4096, Nat.mod_lt _ (by decide)⟩

variable (x0 : Vec Ideal S1x2x256x128 .bf16) (x1 x2 : Vec Ideal S1x2x4096x128 .bf16)

/-- The scores of head `hh`, query row `r` of query block `n`: the product over the 128 lanes, masked in the own group
by the causal mask. -/
def sc (hh : Fin 2) (n : ℕ) (r : Fin 256) (j : ℕ) (c : Fin 1024) : EReal :=
  if j = n / 4 ∧ ¬ c.val ≤ r.val + n % 4 * 256 then ⊥
  else ∑ d : Fin 128, x0 (ix4 0 hh r d) * x1 (ix4 0 hh (rowOf j c) d)

/-- The values of head `hh`, lane `l`. -/
def vl (hh : Fin 2) (l : Fin 128) (j : ℕ) (c : Fin 1024) : EReal := x2 (ix4 0 hh (rowOf j c) l)

theorem ld_row (x : Vec Ideal S1x2x4096x128 .bf16) (hh : Fin 2) (j : ℕ) (hj : j < 4) (off : Fin 4 → ℕ)
    (ho : off = ![0, hh.val, 1024 * j, 0]) (inb) (c : Fin 1024) (d : Fin 128) :
    (View.ld x (Rect.unit (s := S1x2x4096x128) off ![1, 1, 1024, 128] inb)) (ix4 0 0 c d) = x (ix4 0 hh (rowOf j c) d) := by
  rw [ldk x hh j hj off ho inb]
  congr 2
  apply Fin.ext
  show 1024 * j + c.val = (1024 * j + c.val) % 4096
  omega

/-- The query load of head 0 and head 1. -/
theorem q0_apply (inb) (r : Fin 256) (d : Fin 128) :
    k0_pay19 (F := Ideal) (View.ld x0 (Rect.unit (s := S1x2x256x128) ![0, 0, 0, 0] ![1, 1, 256, 128] inb)) (ix2 r d) = x0 (ix4 0 0 r d) := by
  pointwise [k0_pay19]

theorem q1_apply (inb) (r : Fin 256) (d : Fin 128) :
    k0_pay20 (F := Ideal) (View.ld x0 (Rect.unit (s := S1x2x256x128) ![0, 1, 0, 0] ![1, 1, 256, 128] inb)) (ix2 r d) = x0 (ix4 0 1 r d) := by
  pointwise [k0_pay20]

theorem negInf : Ideal.ofBits .f32 0xFF800000#32 = (⊥ : EReal) := by
  simp [Ideal.ofBits, Ideal.ieee]

section step
variable (q : FVec Ideal S256x128 .bf16) (M : FVec Ideal S256x1 .f32) (A : FVec Ideal S256x128 .f32)
variable (K V : Vec Ideal S1x1x1024x128 .bf16)

/-- The score of one key, from a loaded group. -/
abbrev dotq (r : Fin 256) (c : Fin 1024) : EReal := ∑ d : Fin 128, q (ix2 r d) * K (ix4 0 0 c d)

open RunSoftmax

theorem pay5_apply (r : Fin 256) :
    k0_pay5 q M K (ix2 r 0) = max (M (ix2 r 0)) (top1 (dotq q K r)) := by
  pointwise [k0_pay5, k0_pay4]
  rw [negInf]

theorem pay8_apply (r : Fin 256) :
    k0_pay8 q M K (ix2 r 0) = max (M (ix2 r 0)) (top1 (dotq q K r)) := by
  pointwise [k0_pay8, k0_pay7]
  rw [negInf]

theorem pay6_apply (r : Fin 256) (l : Fin 128) :
    k0_pay6 q M A K V (ix2 r l) = A (ix2 r l) * Ideal.exp (M (ix2 r 0) - max (M (ix2 r 0)) (top1 (dotq q K r)))
      + ∑ c, Ideal.exp (dotq q K r c - max (M (ix2 r 0)) (top1 (dotq q K r))) * V (ix4 0 0 c l) := by
  pointwise [k0_pay6, k0_pay5, k0_pay4]
  rw [negInf]

theorem pay9_apply (r : Fin 256) (l : Fin 128) :
    k0_pay1 (k0_pay9 q M A K) (k0_pay10 q M K) V (ix2 r l)
      = A (ix2 r l) * Ideal.exp (M (ix2 r 0) - max (M (ix2 r 0)) (top1 (dotq q K r)))
        + ∑ c, Ideal.exp (dotq q K r c - max (M (ix2 r 0)) (top1 (dotq q K r))) * V (ix4 0 0 c l) := by
  pointwise [k0_pay9, k0_pay10, k0_pay1, k0_pay7, k0_pay8]
  rw [negInf]

variable (b : IVec S256x1024 1)

/-- The score of one key in the own group, masked. -/
abbrev dotm (r : Fin 256) (c : Fin 1024) : EReal := Scalar.select (b (ix2 r c)) (dotq q K r c) ⊥

theorem pay23_apply (r : Fin 256) :
    k0_pay23 b q (k0_pay21 K) (constant S256x1024 FTy.f32 0#32) (ix2 r 0) = top1 (dotm q K b r) := by
  pointwise [k0_pay23, k0_pay22, k0_pay21]
  rw [negInf]

theorem pay26_apply (r : Fin 256) : k0_pay26 b q K (ix2 r 0) = top1 (dotm q K b r) := by
  pointwise [k0_pay26, k0_pay25]
  rw [negInf]

theorem pay24_apply (r : Fin 256) (l : Fin 128) :
    k0_pay24 b q (k0_pay21 K) (constant S256x1024 FTy.f32 0#32) V (ix2 r l)
      = ∑ c, Ideal.exp (dotm q K b r c - top1 (dotm q K b r)) * V (ix4 0 0 c l) := by
  pointwise [k0_pay24, k0_pay23, k0_pay22, k0_pay21]
  rw [negInf]

theorem pay27_apply (r : Fin 256) (l : Fin 128) :
    k0_pay27 b q K V (ix2 r l) = ∑ c, Ideal.exp (dotm q K b r c - top1 (dotm q K b r)) * V (ix4 0 0 c l) := by
  pointwise [k0_pay27, k0_pay26, k0_pay25]
  rw [negInf]

end step

end Cert.AttnIdeal.Val
end
-- ==== Proof.AttnBody.lean ====
module

public import proofs.«01_k».proof.Proof.AttnPay

@[expose] public section

set_option maxRecDepth 16384

/-!
# What one grid point of the attention kernel stores
-/

noncomputable section

namespace Cert.AttnIdeal.Val

open Cert.AttnIdeal Cert.AttnIdeal.Gen Idealize.ShloMosaic Idealize.ShloMosaic.TcCoe Idealize.SL.Sem RunSoftmax

/-- The carried value of the kernel's loops: both heads' running maximum and running sum. -/
abbrev Carry := FVec Ideal S256x1 .f32 × FVec Ideal S256x128 .f32 × FVec Ideal S256x1 .f32 × FVec Ideal S256x128 .f32

variable (x0 : Vec Ideal S1x2x256x128 .bf16) (x1 x2 : Vec Ideal S1x2x4096x128 .bf16)

/-- The carried value is the running softmax after `k` of the earlier groups. -/
structure Good (n k : ℕ) (s : Carry) : Prop where
  m0 : ∀ r, s.1 (ix2 r 0) = runM (sc x0 x1 0 n r) (n / 4) k
  a0 : ∀ r l, s.2.1 (ix2 r l) = runA (sc x0 x1 0 n r) (vl x2 0 l) (n / 4) k
  m1 : ∀ r, s.2.2.1 (ix2 r 0) = runM (sc x0 x1 1 n r) (n / 4) k
  a1 : ∀ r l, s.2.2.2 (ix2 r l) = runA (sc x0 x1 1 n r) (vl x2 1 l) (n / 4) k

/-- The scores of an earlier group are the loaded products. -/
theorem sc_past (hh : Fin 2) (q : FVec Ideal S256x128 .bf16) (hq : ∀ r d, q (ix2 r d) = x0 (ix4 0 hh r d))
    (n k : ℕ) (hk : k < n / 4) (K : Vec Ideal S1x1x1024x128 .bf16)
    (hK : ∀ c d, K (ix4 0 0 c d) = x1 (ix4 0 hh (rowOf k c) d)) (r : Fin 256) :
    dotq q K r = sc x0 x1 hh n r k := by
  funext c
  rw [sc, if_neg (fun h => absurd h.1 hk.ne)]
  exact Finset.sum_congr rfl fun d _ => by rw [hq, hK]

/-- The scores of the own group are the loaded products under the causal mask. -/
theorem sc_own (hh : Fin 2) (q : FVec Ideal S256x128 .bf16) (hq : ∀ r d, q (ix2 r d) = x0 (ix4 0 hh r d))
    (i : grid0.Coords) (K : Vec Ideal S1x1x1024x128 .bf16)
    (hK : ∀ c d, K (ix4 0 0 c d) = x1 (ix4 0 hh (rowOf ((i 2).val / 4) c) d)) (r : Fin 256) :
    dotm q K (k0_pay18 i) r = sc x0 x1 hh (i 2).val r ((i 2).val / 4) := by
  funext c
  rw [sc, dotm, causal_eq]
  by_cases h : c.val ≤ r.val + (i 2).val % 4 * 256
  · rw [if_pos h, if_neg (fun h' => h'.2 h)]
    show dotq q K r c = _
    exact Finset.sum_congr rfl fun d _ => by rw [hq, hK]
  · rw [if_neg h, if_pos ⟨rfl, h⟩]
    rfl

/-- One trip of the loop takes the running softmax one group on. -/
theorem good_succ (c : Dev nD) (i : grid0.Coords) (a3 h3 a4) (h4 : Memref.IsWhole a4) (a5) (h5 : Memref.IsWhole a5) (a6 h6)
    (q0 q1 : FVec Ideal S256x128 .bf16) (b) (hq0 : ∀ r d, q0 (ix2 r d) = x0 (ix4 0 0 r d))
    (hq1 : ∀ r d, q1 (ix2 r d) = x0 (ix4 0 1 r d)) (k : Fin (k0_t1_loop i).trips) (acc : Carry)
    (h : Good x0 x1 x2 (i 2).val k.val acc) :
    Good x0 x1 x2 (i 2).val (k.val + 1)
      (tripR_k0_t1 (F := Ideal) Variants.none c none i a3 h3 a4 h4 a5 h5 a6 h6 q0 q1 b (h4.unread x1) (h5.unread x2) k acc) := by
  have hk4 := trips1_lt i k
  have hkn : k.val < (i 2).val / 4 := by have := k.isLt; have := trips1 i; omega
  have i3 : ∀ a, k0_off3 i k a + ![1, 1, 1024, 128] a ≤ S1x2x4096x128.size a := by
    rw [off3_eq]; intro a
    match a with
    | ⟨0, _⟩ => exact (by decide : 0 + 1 ≤ 1)
    | ⟨1, _⟩ => exact (by decide : 0 + 1 ≤ 2)
    | ⟨2, _⟩ => show 1024 * k.val + 1024 ≤ 4096; omega
    | ⟨3, _⟩ => exact (by decide : 0 + 128 ≤ 128)
  have i4 : ∀ a, k0_off4 i k a + ![1, 1, 1024, 128] a ≤ S1x2x4096x128.size a := by
    rw [off4_eq]; intro a
    match a with
    | ⟨0, _⟩ => exact (by decide : 0 + 1 ≤ 1)
    | ⟨1, _⟩ => exact (by decide : 1 + 1 ≤ 2)
    | ⟨2, _⟩ => show 1024 * k.val + 1024 ≤ 4096; omega
    | ⟨3, _⟩ => exact (by decide : 0 + 128 ≤ 128)
  rw [trip1 c i a3 h3 a4 h4 a5 h5 a6 h6 q0 q1 b x1 x2 k acc i3 i4]
  have e0 := fun (x : Vec Ideal S1x2x4096x128 .bf16) c d => ld_row x 0 k.val hk4 _ (off3_eq i k) i3 c d
  have e1 := fun (x : Vec Ideal S1x2x4096x128 .bf16) c d => ld_row x 1 k.val hk4 _ (off4_eq i k) i4 c d
  have s0 := fun r => sc_past x0 x1 0 q0 hq0 _ _ hkn _ (e0 x1) r
  have s1 := fun r => sc_past x0 x1 1 q1 hq1 _ _ hkn _ (e1 x1) r
  refine ⟨fun r => ?_, fun r l => ?_, fun r => ?_, fun r l => ?_⟩
  · dsimp only; rw [pay5_apply, s0, h.m0]; rfl
  · dsimp only; rw [pay6_apply, s0, h.m0, h.a0]
    exact congrArg₂ (· + ·) rfl (Finset.sum_congr rfl fun c _ => by rw [e0 x2]; rfl)
  · dsimp only; rw [pay8_apply, s1, h.m1]; rfl
  · dsimp only; rw [pay9_apply, s1, h.m1, h.a1]
    exact congrArg₂ (· + ·) rfl (Finset.sum_congr rfl fun c _ => by rw [e1 x2]; rfl)

/-- The loop over the earlier groups runs the softmax through them. -/
theorem good_loop (c : Dev nD) (i : grid0.Coords) (a3 h3 a4) (h4 : Memref.IsWhole a4) (a5) (h5 : Memref.IsWhole a5) (a6 h6)
    (q0 q1 : FVec Ideal S256x128 .bf16) (b) (hq0 : ∀ r d, q0 (ix2 r d) = x0 (ix4 0 0 r d))
    (hq1 : ∀ r d, q1 (ix2 r d) = x0 (ix4 0 1 r d)) (init : Carry) (h : Good x0 x1 x2 (i 2).val 0 init)
    (k : ℕ) (hk : k ≤ (k0_t1_loop i).trips) :
    Good x0 x1 x2 (i 2).val k
      (st_k0_t1 (F := Ideal) Variants.none c none i a3 h3 a4 h4 a5 h5 a6 h6 q0 q1 b (h4.unread x1) (h5.unread x2) init k) := by
  induction k with
  | zero => exact h
  | succ k ih =>
    have := st_k0_t1_succ (F := Ideal) Variants.none c none i a3 h3 a4 h4 a5 h5 a6 h6 q0 q1 b (h4.unread x1) (h5.unread x2)
      init ⟨k, hk⟩
    rw [show k + 1 = (⟨k, hk⟩ : Fin (k0_t1_loop i).trips).val + 1 from rfl, this]
    exact good_succ x0 x1 x2 c i a3 h3 a4 h4 a5 h5 a6 h6 q0 q1 b hq0 hq1 ⟨k, hk⟩ _ (ih (Nat.le_of_succ_le hk))

/-- The state the kernel starts its loop from: the own group. -/
theorem good_init (i : grid0.Coords) (q0 q1 : FVec Ideal S256x128 .bf16) (hq0 : ∀ r d, q0 (ix2 r d) = x0 (ix4 0 0 r d))
    (hq1 : ∀ r d, q1 (ix2 r d) = x0 (ix4 0 1 r d)) (i1 i2) :
    Good x0 x1 x2 (i 2).val 0
      (k0_pay23 (k0_pay18 i) q0 (k0_pay21 (View.ld x1 (Rect.unit (s := S1x2x4096x128) (k0_off1 i) ![1, 1, 1024, 128] i1)))
          (constant S256x1024 FTy.f32 0#32),
       k0_pay24 (k0_pay18 i) q0 (k0_pay21 (View.ld x1 (Rect.unit (s := S1x2x4096x128) (k0_off1 i) ![1, 1, 1024, 128] i1)))
          (constant S256x1024 FTy.f32 0#32) (View.ld x2 (Rect.unit (s := S1x2x4096x128) (k0_off1 i) ![1, 1, 1024, 128] i1)),
       k0_pay26 (k0_pay18 i) q1 (View.ld x1 (Rect.unit (s := S1x2x4096x128) (k0_off2 i) ![1, 1, 1024, 128] i2)),
       k0_pay27 (k0_pay18 i) q1 (View.ld x1 (Rect.unit (s := S1x2x4096x128) (k0_off2 i) ![1, 1, 1024, 128] i2))
          (View.ld x2 (Rect.unit (s := S1x2x4096x128) (k0_off2 i) ![1, 1, 1024, 128] i2))) := by
  have hn : (i 2).val < 16 := (i 2).isLt
  have hk4 : (i 2).val / 4 < 4 := by omega
  have e0 := fun (x : Vec Ideal S1x2x4096x128 .bf16) c d => ld_row x 0 _ hk4 _ (off1_eq i) i1 c d
  have e1 := fun (x : Vec Ideal S1x2x4096x128 .bf16) c d => ld_row x 1 _ hk4 _ (off2_eq i) i2 c d
  have s0 := fun r => sc_own x0 x1 0 q0 hq0 i _ (e0 x1) r
  have s1 := fun r => sc_own x0 x1 1 q1 hq1 i _ (e1 x1) r
  refine ⟨fun r => ?_, fun r l => ?_, fun r => ?_, fun r l => ?_⟩
  · dsimp only; rw [pay23_apply, s0]; rfl
  · dsimp only; rw [pay24_apply, s0]
    exact Finset.sum_congr rfl fun c _ => by rw [e0 x2]; rfl
  · dsimp only; rw [pay26_apply, s1]; rfl
  · dsimp only; rw [pay27_apply, s1]
    exact Finset.sum_congr rfl fun c _ => by rw [e1 x2]; rfl

/-- The quotient of the running sums of head `hh` at value lane `l`, over the ones in lane `l'`. -/
def quot (hh : Fin 2) (n : ℕ) (r : Fin 256) (l l' : Fin 128) : EReal :=
  Ideal.div (runA (sc x0 x1 hh n r) (vl x2 hh l) (n / 4) (n / 4)) (runA (sc x0 x1 hh n r) (vl x2 hh l') (n / 4) (n / 4))

/-- The stored lanes: the first head's quotient below lane 64, the second head's from there on. -/
theorem pay3_apply (v0 : IVec S256x128 32) (hv : ∀ r l, v0 (ix2 r l) = BitVec.ofNat 32 l.val)
    (A B : FVec Ideal S256x128 .f32) (r : Fin 256) (l : Fin 128) :
    k0_pay3 v0 A B (ix3 0 r l)
      = if l.val < 64 then Ideal.div (A (ix2 r l)) (A (ix2 r ⟨(l.val + 128 - 64) % 128, Nat.mod_lt _ (by decide)⟩))
        else Ideal.div (B (ix2 r ⟨(l.val + 128 - 64) % 128, Nat.mod_lt _ (by decide)⟩)) (B (ix2 r l)) := by
  pointwise [k0_pay3]
  rw [hv, (by decide +kernel : ∀ l : Fin 128,
    IntOp.cmpi .slt (BitVec.ofNat 32 l.val) 64#32 = if l.val < 64 then 1#1 else 0#1) l]
  by_cases h : l.val < 64
  · rw [if_pos h, if_pos h]; rfl
  · rw [if_neg h, if_neg h]; rfl

/-- The store of a carried value that is the running softmax. -/
theorem store_good (n : ℕ) (s : Carry) (g : Good x0 x1 x2 n (n / 4) s) (v0 : IVec S256x128 32)
    (hv : ∀ r l, v0 (ix2 r l) = BitVec.ofNat 32 l.val) (r : Fin 256) (l : Fin 128) :
    k0_pay3 v0 s.2.1 s.2.2.2 (ix3 0 r l)
      = if l.val < 64 then quot x0 x1 x2 0 n r l ⟨(l.val + 128 - 64) % 128, Nat.mod_lt _ (by decide)⟩
        else quot x0 x1 x2 1 n r ⟨(l.val + 128 - 64) % 128, Nat.mod_lt _ (by decide)⟩ l := by
  rw [pay3_apply v0 hv, quot, quot, g.a0, g.a0, g.a1, g.a1]

/-- The own group's load lies inside the keys. -/
theorem in1 (i : grid0.Coords) : ∀ a, k0_off1 i a + ![1, 1, 1024, 128] a ≤ S1x2x4096x128.size a := by
  rw [off1_eq]; intro a
  have hn : (i 2).val < 16 := (i 2).isLt
  match a with
  | ⟨0, _⟩ => exact (by decide : 0 + 1 ≤ 1)
  | ⟨1, _⟩ => exact (by decide : 0 + 1 ≤ 2)
  | ⟨2, _⟩ => show 1024 * ((i 2).val / 4) + 1024 ≤ 4096; omega
  | ⟨3, _⟩ => exact (by decide : 0 + 128 ≤ 128)

/-- The own group's load lies inside the keys. -/
theorem in2 (i : grid0.Coords) : ∀ a, k0_off2 i a + ![1, 1, 1024, 128] a ≤ S1x2x4096x128.size a := by
  rw [off2_eq]; intro a
  have hn : (i 2).val < 16 := (i 2).isLt
  match a with
  | ⟨0, _⟩ => exact (by decide : 0 + 1 ≤ 1)
  | ⟨1, _⟩ => exact (by decide : 1 + 1 ≤ 2)
  | ⟨2, _⟩ => show 1024 * ((i 2).val / 4) + 1024 ≤ 4096; omega
  | ⟨3, _⟩ => exact (by decide : 0 + 128 ≤ 128)

/-- What one grid point stores: in the first 64 lanes the first head, in the others the second. -/
theorem out_apply (c : Dev nD) (i : grid0.Coords) (a3 h3 a4) (h4 : Memref.IsWhole a4) (a5) (h5 : Memref.IsWhole a5) (a6 h6)
    (r : Fin 256) (l : Fin 128) :
    out0_A_3 c i a3 h3 a4 h4 a5 h5 a6 h6 x0 x1 x2 (ix3 0 r l)
      = if l.val < 64 then quot x0 x1 x2 0 (i 2).val r l ⟨(l.val + 128 - 64) % 128, Nat.mod_lt _ (by decide)⟩
        else quot x0 x1 x2 1 (i 2).val r ⟨(l.val + 128 - 64) % 128, Nat.mod_lt _ (by decide)⟩ l := by
  frame_out
  show k0_pay3 _ (st_k0_t2 (F := Ideal) Variants.none c none i a3 h3 a4 h4 a5 h5 a6 h6 _ _ _ _ _ (_, _, _, _)
      (k0_t2_loop i).trips).2.1 (st_k0_t2 (F := Ideal) Variants.none c none i a3 h3 a4 h4 a5 h5 a6 h6 _ _ _ _ _ (_, _, _, _)
      (k0_t2_loop i).trips).2.2.2 (ix3 0 r l) = _
  rw [trips2, st_k0_t2_zero]
  dsimp only
  refine store_good x0 x1 x2 (i 2).val _ ?_ _ (fun r l => by pointwise) r l
  refine (congrArg (fun k => Good x0 x1 x2 (i 2).val k _) (trips1 i)).mp ?_
  exact good_loop x0 x1 x2 c i a3 h3 a4 h4 a5 h5 a6 h6 _ _ 0#32
    (q0_apply x0 inb_S1x2x256x128_S1x1x256x128_0_0_0_0) (q1_apply x0 inb_S1x2x256x128_S1x1x256x128_0_1_0_0) _
    (good_init x0 x1 x2 i _ _ (q0_apply x0 inb_S1x2x256x128_S1x1x256x128_0_0_0_0)
      (q1_apply x0 inb_S1x2x256x128_S1x1x256x128_0_1_0_0) (in1 i) (in2 i)) _ le_rfl

end Cert.AttnIdeal.Val
end
-- ==== Proof.AttnSpec.lean ====
module

public import proofs.«01_k».proof.Proof.Softmax
public import Idealize.ShloMosaic.Lib.Pointwise
public import Idealize.ShloMosaic.PureOps.Ideal.Laws

@[expose] public section

set_option maxRecDepth 16384

/-!
# The block-sparse causal attention, as a function of its arrays

Queries, keys and values are indexed by prompt, position, head and channel; the selection by prompt, head, position and
key block.
-/

noncomputable section

namespace Cert.AttnSpec

open Idealize.ShloMosaic RunSoftmax

/-- An array of queries, keys or values. -/
abbrev Arr := (⟨4, ![4, 4096, 8, 64]⟩ : Shape).Idx → EReal
/-- The selection of key blocks. -/
abbrev Sel := (⟨4, ![4, 8, 4096, 16]⟩ : Shape).Idx → EReal

/-- The scale of the scores, one eighth. -/
def scale : EReal := Ideal.ofBits .f32 0x3E000000#32

theorem scale_real : ∃ r : ℝ, scale = (r : EReal) := by
  refine ⟨(1 / 8 : ℝ), ?_⟩
  unfold scale
  simp [Ideal.ofBits, Ideal.ieee]
  rw [← EReal.coe_mul]
  congr 1
  norm_num

/-- The key block of a position. -/
def blk (t : Fin 4096) : Fin 16 := ⟨t.val / 256, by have := t.isLt; omega⟩

/-- A key a query sees: one of its own block not after it, or one of an earlier selected block. -/
def sees (w : Sel) (b : Fin 4) (h : Fin 8) (s t : Fin 4096) : Prop :=
  (t.val / 256 = s.val / 256 ∧ t.val ≤ s.val) ∨ (t.val / 256 < s.val / 256 ∧ w (ix4 b h s (blk t)) ≠ 0)

open Classical in
/-- The masked score of query `s` and key `t`. -/
def score (q k : Arr) (w : Sel) (b : Fin 4) (h : Fin 8) (s t : Fin 4096) : EReal :=
  if sees w b h s t then (∑ d : Fin 64, q (ix4 b s h d) * k (ix4 b t h d)) * scale else ⊥

/-- The attention's result: the values weighted by the softmax of the scores. -/
def attn (q k v : Arr) (w : Sel) (b : Fin 4) (s : Fin 4096) (h : Fin 8) (d : Fin 64) : EReal :=
  ∑ t : Fin 4096, v (ix4 b t h d) * Ideal.div (Ideal.exp (score q k w b h s t - top1 (score q k w b h s)))
    (0 + ∑ t : Fin 4096, Ideal.exp (score q k w b h s t - top1 (score q k w b h s)))

/-- Every entry is a real number. -/
def Fin' (x : Arr) : Prop := ∀ i, ∃ r : ℝ, x i = (r : EReal)

/-- The sum of real numbers, taken among the extended reals. -/
theorem coe_sum {ι : Type} (S : Finset ι) (g : ι → ℝ) : ((∑ i ∈ S, g i : ℝ) : EReal) = ∑ i ∈ S, (g i : EReal) := by
  classical
  induction S using Finset.induction_on with
  | empty => simp
  | insert a S ha ih => rw [Finset.sum_insert ha, Finset.sum_insert ha, EReal.coe_add, ih]

/-- A sum of real numbers is one. -/
theorem sum_real {n : ℕ} (f : Fin n → EReal) (hf : ∀ i, ∃ r : ℝ, f i = (r : EReal)) :
    ∃ r : ℝ, ∑ i, f i = (r : EReal) := by
  choose g hg using hf
  exact ⟨∑ i, g i, by rw [Finset.sum_congr rfl fun i _ => hg i, coe_sum]⟩

/-- The scale, taken out of a sum of real products. -/
theorem dot_scale (q k : Fin 64 → EReal) (hq : ∀ d, ∃ r : ℝ, q d = (r : EReal)) (hk : ∀ d, ∃ r : ℝ, k d = (r : EReal)) :
    ∑ d, (q d * scale) * k d = (∑ d, q d * k d) * scale ∧ ∃ r : ℝ, (∑ d, q d * k d) * scale = (r : EReal) := by
  obtain ⟨z, hz⟩ := scale_real
  choose a ha using hq
  choose e he using hk
  have h1 : ∑ d, q d * k d = ((∑ d, a d * e d : ℝ) : EReal) := by
    rw [coe_sum]; exact Finset.sum_congr rfl fun d _ => by rw [ha, he, EReal.coe_mul]
  have h2 : ∑ d, (q d * scale) * k d = ((∑ d, (a d * z) * e d : ℝ) : EReal) := by
    rw [coe_sum]; exact Finset.sum_congr rfl fun d _ => by rw [ha, he, hz, EReal.coe_mul, EReal.coe_mul]
  refine ⟨?_, ⟨(∑ d, a d * e d) * z, by rw [h1, hz, EReal.coe_mul]⟩⟩
  rw [h1, h2, hz, ← EReal.coe_mul, Finset.sum_mul]
  congr 1
  exact Finset.sum_congr rfl fun d _ => by ring

/-- A sum against an indicator is the entry indicated. -/
theorem sum_pick (f : Fin 64 → EReal) (g : ℕ) (hg : g < 64) :
    ∑ d : Fin 64, f d * (if d.val = g then 1 else 0) = f ⟨g, hg⟩ := by
  rw [Finset.sum_eq_single ⟨g, hg⟩]
  · simp
  · intro d _ hd
    rw [if_neg fun h => hd (Fin.ext h), mul_zero]
  · simp

/-- The host's floor division of a position by the block length. -/
theorem floor256 : ∀ s : Fin 4096, Scalar.select
            (IntOp.andi
              (IntOp.cmpi CmpIPredicate.ne
                (if BitVec.ofNat 32 s.val = 0 then 0 else if (BitVec.ofNat 32 s.val).msb = true then -1 else 1 : BitVec 32)
                (if 256#32 = 0 then 0 else if (256#32).msb = true then -1 else 1))
              (IntOp.cmpi CmpIPredicate.ne (IntOp.remsi ArithUnit.host (BitVec.ofNat 32 s.val) 256#32) 0#32))
            (IntOp.subi (IntOp.divsi ArithUnit.host (BitVec.ofNat 32 s.val) 256#32) 1#32)
            (IntOp.divsi ArithUnit.host (BitVec.ofNat 32 s.val) 256#32) = BitVec.ofNat 32 (s.val / 256) := by
  decide +kernel

theorem toInt_small (n : ℕ) (h : n < 4096) : (BitVec.ofNat 32 n).toInt = n := by
  rw [BitVec.toInt_ofNat', Int.bmod_def]
  omega

/-- Small words are equal as the numbers are. -/
theorem eqW (a b : ℕ) (ha : a < 4096) (hb : b < 4096) :
    IntOp.cmpi .eq (BitVec.ofNat 32 a) (BitVec.ofNat 32 b) = if a = b then 1#1 else 0#1 := by
  show BitVec.ofBool (BitVec.ofNat 32 a == BitVec.ofNat 32 b) = _
  by_cases g : a = b
  · rw [if_pos g, g]; simp
  · rw [if_neg g, beq_eq_false_iff_ne.mpr]
    · rfl
    · intro he
      have := congrArg BitVec.toNat he
      simp only [BitVec.toNat_ofNat] at this
      omega

/-- Small words are ordered as the numbers are. -/
theorem ltW (a b : ℕ) (ha : a < 4096) (hb : b < 4096) :
    IntOp.cmpi .slt (BitVec.ofNat 32 a) (BitVec.ofNat 32 b) = if a < b then 1#1 else 0#1 := by
  show BitVec.ofBool (BitVec.slt _ _) = _
  rw [BitVec.slt, toInt_small _ ha, toInt_small _ hb]
  by_cases g : a < b
  · rw [if_pos g, decide_eq_true (by omega)]; rfl
  · rw [if_neg g, decide_eq_false (by omega)]; rfl

/-- Small words are ordered as the numbers are. -/
theorem leW (a b : ℕ) (ha : a < 4096) (hb : b < 4096) :
    IntOp.cmpi .sle (BitVec.ofNat 32 a) (BitVec.ofNat 32 b) = if a ≤ b then 1#1 else 0#1 := by
  show BitVec.ofBool (BitVec.sle _ _) = _
  rw [BitVec.sle, toInt_small _ ha, toInt_small _ hb]
  by_cases g : a ≤ b
  · rw [if_pos g, decide_eq_true (by omega)]; rfl
  · rw [if_neg g, decide_eq_false (by omega)]; rfl

/-- The word of minus infinity. -/
theorem negInf : Ideal.ofBits .f32 0xFF800000#32 = (⊥ : EReal) := by
  simp [Ideal.ofBits, Ideal.ieee]

end Cert.AttnSpec
end
-- ==== Proof.AttnHost.lean ====
module

public import proofs.«01_k».proof.Proof.AttnBody
public import proofs.«01_k».proof.Proof.AttnSpec
public import Idealize.ShloMosaic.Lib.KernelVsHost

@[expose] public section

set_option maxRecDepth 16384

/-!
# The arrays the attention kernel is given

The queries carry the selection in their last 64 lanes, the keys their block's indicator, the values ones.
-/

noncomputable section

namespace Cert.AttnIdeal.Val

open Cert.AttnIdeal Cert.AttnIdeal.Gen Idealize.ShloMosaic Idealize.ShloMosaic.TcCoe Idealize.SL.Sem RunSoftmax Idealize.ShloMosaic.StableHlo

variable (m : (ℓ : Loc nD τ sig) → Buf (Elt Ideal) ℓ)

/-- The queries. -/
def aQ (c : Dev nD) : AttnSpec.Arr := m (c, Proc.tc.devRef main_arg0)
/-- The keys. -/
def aK (c : Dev nD) : AttnSpec.Arr := m (c, Proc.tc.devRef main_arg1)
/-- The values. -/
def aV (c : Dev nD) : AttnSpec.Arr := m (c, Proc.tc.devRef main_arg2)
/-- The selection. -/
def aW (c : Dev nD) : AttnSpec.Sel := m (c, Proc.tc.devRef main_arg3)

/-- The queries as the kernel reads them. -/
def QA (c : Dev nD) : S4x8x4096x128.Idx → EReal := V m c main_v27
/-- The keys as the kernel reads them. -/
def KA (c : Dev nD) : S4x8x4096x128.Idx → EReal := V m c main_v17
/-- The values as the kernel reads them. -/
def VA (c : Dev nD) : S4x8x4096x128.Idx → EReal := V m c main_v21

theorem vA_apply (c : Dev nD) (b : Fin 4) (h : Fin 8) (s : Fin 4096) (d : Fin 128) :
    VA m c (ix4 b h s d) = if hd : d.val < 64 then aV m c (ix4 b s h ⟨d.val, hd⟩) else 1 := by
  unfold VA aV
  unfold_abbrev_sides
  simp only [List.flatten_cons, List.flatten_nil, List.cons_append, List.nil_append]
  after_results
  pointwise

theorem kA_apply (c : Dev nD) (b : Fin 4) (h : Fin 8) (s : Fin 4096) (d : Fin 128) :
    KA m c (ix4 b h s d) = if hd : d.val < 64 then aK m c (ix4 b s h ⟨d.val, hd⟩)
      else if d.val - 64 = s.val / 256 then 1 else 0 := by
  unfold KA aK
  unfold_abbrev_sides
  simp only [List.flatten_cons, List.flatten_nil, List.cons_append, List.nil_append]
  after_results
  simp only [TRef.ofBuf, TRef.toBuf, cast_eq, id]
  pointwise
  have hd := d.isLt
  have hs := s.isLt
  refine dite_congr rfl (fun _ => rfl) fun h64 => ?_
  refine (congrArg (fun z => Scalar.select (IntOp.cmpi .eq (BitVec.ofNat 32 (d.val - 64)) z) (1 : EReal) 0)
    (AttnSpec.floor256 s)).trans ?_
  rw [AttnSpec.eqW _ _ (by omega) (by omega)]
  by_cases e : d.val - 64 = s.val / 256 <;> simp [e, Scalar.select]

theorem qA_apply (c : Dev nD) (b : Fin 4) (h : Fin 8) (s : Fin 4096) (d : Fin 128) :
    QA m c (ix4 b h s d) = if hd : d.val < 64 then aQ m c (ix4 b s h ⟨d.val, hd⟩) * AttnSpec.scale
      else if hn : d.val - 64 < 16 then
        if d.val - 64 < s.val / 256 ∧ aW m c (ix4 b h s ⟨d.val - 64, hn⟩) = 0 then ⊥ else 0
      else 0 := by
  unfold QA aQ aW AttnSpec.scale
  unfold_abbrev_sides
  simp only [List.flatten_cons, List.flatten_nil, List.cons_append, List.nil_append]
  after_results
  simp only [TRef.ofBuf, TRef.toBuf, cast_eq, id]
  pointwise
  simp only [negInf]
  have hd := d.isLt
  have hs := s.isLt
  refine dite_congr rfl (fun _ => rfl) fun h64 => ?_
  refine dite_congr rfl (fun hn => ?_) fun _ => ?_
  · refine (congrArg (fun z => Scalar.select (IntOp.andi (IntOp.cmpi .slt (BitVec.ofNat 32 (d.val - 64)) z) _) (⊥ : EReal) 0)
      (AttnSpec.floor256 s)).trans ?_
    rw [AttnSpec.ltW _ _ (by omega) (by omega)]
    by_cases g : d.val - 64 < s.val / 256 <;>
      by_cases z : m (c, Proc.tc.devRef main_arg3) (ix4 b h s ⟨d.val - 64, hn⟩) = (0 : EReal) <;>
      simp [g, z, Scalar.select, IntOp.andi]
  · show (((0#32 : BitVec 32).toInt : ℝ) : EReal) = 0
    simp

end Cert.AttnIdeal.Val
end
-- ==== Proof.AttnArr.lean ====
module

public import proofs.«01_k».proof.Proof.AttnHost
public import Idealize.ShloMosaic.Lib.Pipeline.Covers

@[expose] public section

set_option maxRecDepth 16384

/-!
# The array the attention kernel leaves
-/

noncomputable section

namespace Cert.AttnIdeal.Val

open Cert.AttnIdeal Cert.AttnIdeal.Gen Idealize.ShloMosaic Idealize.ShloMosaic.TcCoe Idealize.SL.Sem RunSoftmax
open Idealize.ShloMosaic.Pipeline (Dat)

variable (m : (ℓ : Loc nD τ sig) → Buf (Elt Ideal) ℓ)

/-- The product the kernel forms of a query and a key, over all 128 lanes. -/
def prod (c : Dev nD) (b : Fin 4) (h : Fin 8) (s t : Fin 4096) : EReal :=
  ∑ d : Fin 128, QA m c (ix4 b h s d) * KA m c (ix4 b h t d)

/-- It is the scaled score, and minus infinity where the key's block is earlier and not selected. -/
theorem prod_eq (c : Dev nD) (hq : AttnSpec.Fin' (aQ m c)) (hk : AttnSpec.Fin' (aK m c)) (b : Fin 4) (h : Fin 8)
    (s t : Fin 4096) :
    prod m c b h s t = (∑ d : Fin 64, aQ m c (ix4 b s h d) * aK m c (ix4 b t h d)) * AttnSpec.scale
      + (if t.val / 256 < s.val / 256 ∧ aW m c (ix4 b h s (AttnSpec.blk t)) = 0 then ⊥ else 0) := by
  have ht := t.isLt
  have hs := s.isLt
  unfold prod
  have split : ∀ f : Fin 128 → EReal, ∑ d, f d = ∑ d : Fin 64, f (Fin.castAdd 64 d) + ∑ d : Fin 64, f (Fin.natAdd 64 d) :=
    fun f => Fin.sum_univ_add (a := 64) (b := 64) f
  rw [split]
  congr 1
  · rw [← (AttnSpec.dot_scale _ _ (fun d => hq (ix4 b s h d)) (fun d => hk (ix4 b t h d))).1]
    refine Finset.sum_congr rfl fun d _ => ?_
    rw [qA_apply, kA_apply, dif_pos (show (Fin.castAdd 64 d).val < 64 from d.isLt),
      dif_pos (show (Fin.castAdd 64 d).val < 64 from d.isLt)]
    rfl
  · have hg : t.val / 256 < 64 := by omega
    rw [Finset.sum_congr rfl (g := fun d : Fin 64 => QA m c (ix4 b h s (Fin.natAdd 64 d)) * (if d.val = t.val / 256 then 1 else 0))
      fun d _ => by
        rw [kA_apply, dif_neg (show ¬ (Fin.natAdd 64 d).val < 64 by show ¬ 64 + d.val < 64; omega),
          show (Fin.natAdd 64 d).val - 64 = d.val by show 64 + d.val - 64 = d.val; omega],
      AttnSpec.sum_pick _ _ hg, qA_apply,
      dif_neg (show ¬ (Fin.natAdd 64 (⟨t.val / 256, hg⟩ : Fin 64)).val < 64 by show ¬ 64 + t.val / 256 < 64; omega),
      dif_pos (show (Fin.natAdd 64 (⟨t.val / 256, hg⟩ : Fin 64)).val - 64 < 16 by show 64 + t.val / 256 - 64 < 16; omega)]
    have e : (Fin.natAdd 64 (⟨t.val / 256, hg⟩ : Fin 64)).val - 64 = t.val / 256 := by
      show 64 + t.val / 256 - 64 = _; omega
    simp only [e]
    rfl

/-- The kernel's masked product is the masked score. -/
theorem prod_score (c : Dev nD) (hq : AttnSpec.Fin' (aQ m c)) (hk : AttnSpec.Fin' (aK m c)) (b : Fin 4) (h : Fin 8)
    (s t : Fin 4096) :
    (if t.val ≤ s.val then prod m c b h s t else ⊥)
      = AttnSpec.score (aQ m c) (aK m c) (aW m c) b h s t := by
  have ht := t.isLt
  have hs := s.isLt
  rw [prod_eq m c hq hk]
  unfold AttnSpec.score AttnSpec.sees
  by_cases l : t.val ≤ s.val
  · rw [if_pos l]
    by_cases o : t.val / 256 = s.val / 256
    · rw [if_neg (fun h => by omega), if_pos (Or.inl ⟨o, l⟩), add_zero]
    · have g : t.val / 256 < s.val / 256 := by omega
      by_cases z : aW m c (ix4 b h s (AttnSpec.blk t)) = 0
      · rw [if_pos ⟨g, z⟩, if_neg (by rintro (h | h); exacts [o h.1, h.2 z]), EReal.add_bot]
      · rw [if_neg (fun h => z h.2), if_pos (Or.inr ⟨g, z⟩), add_zero]
  · rw [if_neg l, if_neg]
    rintro (h | h)
    · exact l h.2
    · have := h.1; omega

theorem prod_ne_top (c : Dev nD) (hq : AttnSpec.Fin' (aQ m c)) (hk : AttnSpec.Fin' (aK m c)) (b : Fin 4) (h : Fin 8)
    (s t : Fin 4096) : prod m c b h s t ≠ ⊤ := by
  obtain ⟨r, hr⟩ := (AttnSpec.dot_scale _ _ (fun d => hq (ix4 b s h d)) (fun d => hk (ix4 b t h d))).2
  rw [prod_eq m c hq hk, hr]
  split_ifs
  · rw [EReal.add_bot]; exact bot_ne_top
  · rw [add_zero]; exact EReal.coe_ne_top r

theorem prod_own_ne_bot (c : Dev nD) (hq : AttnSpec.Fin' (aQ m c)) (hk : AttnSpec.Fin' (aK m c)) (b : Fin 4) (h : Fin 8)
    (s : Fin 4096) : prod m c b h s s ≠ ⊥ := by
  obtain ⟨r, hr⟩ := (AttnSpec.dot_scale _ _ (fun d => hq (ix4 b s h d)) (fun d => hk (ix4 b s h d))).2
  rw [prod_eq m c hq hk, hr, if_neg (fun h => absurd h.1 (lt_irrefl _)), add_zero]
  exact EReal.coe_ne_bot r

/-- A point's quotient, from blocks that are rows of the whole arrays, is the attention. -/
theorem quot_eq (c : Dev nD) (hq : AttnSpec.Fin' (aQ m c)) (hk : AttnSpec.Fin' (aK m c)) (b : Fin 4) (h : Fin 8)
    (x0 : Vec Ideal S1x2x256x128 .bf16) (x1 x2 : Vec Ideal S1x2x4096x128 .bf16) (hh : Fin 2) (n : ℕ) (hn : n < 16)
    (h0 : ∀ (r : Fin 256) (d : Fin 128), x0 (ix4 0 hh r d) = QA m c (ix4 b h ⟨256 * n + r.val, by omega⟩ d))
    (h1 : ∀ (t : Fin 4096) (d : Fin 128), x1 (ix4 0 hh t d) = KA m c (ix4 b h t d))
    (h2 : ∀ (t : Fin 4096) (d : Fin 128), x2 (ix4 0 hh t d) = VA m c (ix4 b h t d))
    (r : Fin 256) (l l' : Fin 128) (hl : l.val < 64) (hl' : 64 ≤ l'.val) :
    quot x0 x1 x2 hh n r l l'
      = AttnSpec.attn (aQ m c) (aK m c) (aV m c) (aW m c) b ⟨256 * n + r.val, by omega⟩ h ⟨l.val, hl⟩ := by
  have hr := r.isLt
  set s : Fin 4096 := ⟨256 * n + r.val, by omega⟩ with hs
  have ones : vl x2 hh l' = fun _ _ => 1 := by
    funext j k
    unfold vl
    rw [h2, vA_apply, dif_neg (by omega)]
  have rk : ∀ (j : Fin 4) (k : Fin 1024), rowOf j.val k = (key j k : Fin (4 * 1024)) := by
    intro j k
    have := j.isLt
    have := k.isLt
    apply Fin.ext
    rw [key_val]
    show (1024 * j.val + k.val) % 4096 = _
    omega
  have scE : ∀ (j : ℕ) (k : Fin 1024), sc x0 x1 hh n r j k
      = if j = n / 4 ∧ ¬ k.val ≤ r.val + n % 4 * 256 then ⊥ else prod m c b h s (rowOf j k) := by
    intro j k
    unfold sc prod
    refine if_congr Iff.rfl rfl (Finset.sum_congr rfl fun d _ => ?_)
    rw [h0, h1]
  unfold quot
  rw [ones]
  have key1 := run_eq_softmax (n := 1024) (sc x0 x1 hh n r) (vl x2 hh l)
    (AttnSpec.score (aQ m c) (aK m c) (aW m c) b h s) (fun t => aV m c (ix4 b t h ⟨l.val, hl⟩)) ⟨n / 4, by omega⟩
    (fun j k hj => by
      rw [scE, ← prod_score m c hq hk, ← rk]
      have := k.isLt
      have := j.isLt
      have e : (rowOf j.val k).val = 1024 * j.val + k.val := by
        show (1024 * j.val + k.val) % 4096 = _
        omega
      have hj' : j.val ≤ n / 4 := hj
      by_cases o : j.val = n / 4
      · by_cases a : k.val ≤ r.val + n % 4 * 256
        · rw [if_neg (fun h => h.2 a), if_pos (by rw [e, hs]; show _ ≤ 256 * n + r.val; omega)]
        · rw [if_pos ⟨o, a⟩, if_neg (by rw [e, hs]; show ¬ _ ≤ 256 * n + r.val; omega)]
      · rw [if_neg (fun h => o h.1), if_pos (by rw [e, hs]; show _ ≤ 256 * n + r.val; omega)])
    (fun j k hj => by
      rw [← rk]
      unfold vl
      rw [h2, vA_apply, dif_pos hl])
    (fun j k hj => by
      rw [← prod_score m c hq hk, ← rk, if_neg]
      have := k.isLt
      have := j.isLt
      have hj' : n / 4 < j.val := hj
      show ¬ (1024 * j.val + k.val) % 4096 ≤ 256 * n + r.val
      omega)
    (fun j k => by
      rw [scE]
      split_ifs
      · exact bot_ne_top
      · exact prod_ne_top m c hq hk _ _ _ _)
    ⟨r.val + n % 4 * 256, by omega⟩
    (by
      show sc x0 x1 hh n r (n / 4) _ ≠ ⊥
      rw [scE, if_neg (fun h => h.2 le_rfl)]
      have e : rowOf (n / 4) ⟨r.val + n % 4 * 256, by omega⟩ = s := by
        apply Fin.ext
        show (1024 * (n / 4) + (r.val + n % 4 * 256)) % 4096 = 256 * n + r.val
        omega
      rw [e]
      exact prod_own_ne_bot m c hq hk _ _ _)
  exact key1

theorem idx_facts : ∀ t : Fin cfg0.N, (cfg0.win 0).index t = ![(grid0.coords t 0).val, (grid0.coords t 1).val, (grid0.coords t 2).val, 0]
   ∧ (cfg0.win 1).index t = ![(grid0.coords t 0).val, (grid0.coords t 1).val, 0, 0]
   ∧ (cfg0.win 2).index t = ![(grid0.coords t 0).val, (grid0.coords t 1).val, 0, 0]
   ∧ (cfg0.win 3).index t = ![(grid0.coords t 0).val, (grid0.coords t 2).val, (grid0.coords t 1).val] := by decide +kernel

theorem cov : (cfg0.win 3).Covers := by decide +kernel

theorem lt1 (t : Fin cfg0.N) : (grid0.coords t 1).val < 4 := (grid0.coords t 1).isLt
theorem lt2 (t : Fin cfg0.N) : (grid0.coords t 2).val < 16 := (grid0.coords t 2).isLt

/-- A point's queries. -/
theorem iblk0 (c : Dev nD) (t : Fin cfg0.N) (hh : Fin 2) (r : Fin 256) (d : Fin 128) :
    (iblk m c 0 t : Vec Ideal S1x2x256x128 .bf16) (ix4 0 hh r d) = QA m c (ix4 (grid0.coords t 0)
      ⟨2 * (grid0.coords t 1).val + hh.val, by have := lt1 t; omega⟩
      ⟨256 * (grid0.coords t 2).val + r.val, by have := lt2 t; omega⟩ d) := by
  unfold QA
  blk_ext [iblk, V, (idx_facts t).1]

/-- A point's keys. -/
theorem iblk1 (c : Dev nD) (t : Fin cfg0.N) (hh : Fin 2) (r : Fin 4096) (d : Fin 128) :
    (iblk m c 1 t : Vec Ideal S1x2x4096x128 .bf16) (ix4 0 hh r d) = KA m c (ix4 (grid0.coords t 0)
      ⟨2 * (grid0.coords t 1).val + hh.val, by have := lt1 t; omega⟩ r d) := by
  unfold KA
  blk_ext [iblk, V, (idx_facts t).2.1]

/-- A point's values. -/
theorem iblk2 (c : Dev nD) (t : Fin cfg0.N) (hh : Fin 2) (r : Fin 4096) (d : Fin 128) :
    (iblk m c 2 t : Vec Ideal S1x2x4096x128 .bf16) (ix4 0 hh r d) = VA m c (ix4 (grid0.coords t 0)
      ⟨2 * (grid0.coords t 1).val + hh.val, by have := lt1 t; omega⟩ r d) := by
  unfold VA
  blk_ext [iblk, V, (idx_facts t).2.2.1]

/-- The attention, at an index of the kernel's result. -/
def G (c : Dev nD) (i : S4x4096x512.Idx) : EReal :=
  AttnSpec.attn (aQ m c) (aK m c) (aV m c) (aW m c) (i 0) (i 1) ⟨(i 2).val / 64, by have : (i 2).val < 512 := (i 2).isLt; omega⟩
    ⟨(i 2).val % 64, by omega⟩

/-- What a point stores is the attention, at the rows and lanes the point covers. -/
theorem point_eq (c : Dev nD) (hq : AttnSpec.Fin' (aQ m c)) (hk : AttnSpec.Fin' (aK m c)) (t : Fin cfg0.N) (r : Fin 256)
    (l : Fin 128) :
    outsAt0 m c t (ix3 0 r l) = G m c (ix3 (grid0.coords t 0) ⟨256 * (grid0.coords t 2).val + r.val, by have := lt2 t; omega⟩
      ⟨128 * (grid0.coords t 1).val + l.val, by have := lt1 t; omega⟩) := by
  have l1 := lt1 t
  have l2 := lt2 t
  have hl := l.isLt
  unfold outsAt0
  rw [out_apply]
  unfold G
  by_cases a : l.val < 64
  · rw [if_pos a, quot_eq m c hq hk (grid0.coords t 0) ⟨2 * (grid0.coords t 1).val + 0, by omega⟩ _ _ _ 0 _ l2
      (fun r d => iblk0 m c t 0 r d) (fun r d => iblk1 m c t 0 r d) (fun r d => iblk2 m c t 0 r d) r l _ a
      (by show 64 ≤ (l.val + 128 - 64) % 128; omega)]
    congr 1
    · apply Fin.ext
      show 2 * (grid0.coords t 1).val + 0 = (128 * (grid0.coords t 1).val + l.val) / 64
      omega
    · apply Fin.ext
      show l.val = (128 * (grid0.coords t 1).val + l.val) % 64
      omega
  · rw [if_neg a, quot_eq m c hq hk (grid0.coords t 0) ⟨2 * (grid0.coords t 1).val + 1, by omega⟩ _ _ _ 1 _ l2
      (fun r d => iblk0 m c t 1 r d) (fun r d => iblk1 m c t 1 r d) (fun r d => iblk2 m c t 1 r d) r _ l
      (by show (l.val + 128 - 64) % 128 < 64; omega) (by omega)]
    congr 1
    · apply Fin.ext
      show 2 * (grid0.coords t 1).val + 1 = (128 * (grid0.coords t 1).val + l.val) / 64
      omega
    · apply Fin.ext
      show (l.val + 128 - 64) % 128 = (128 * (grid0.coords t 1).val + l.val) % 64
      omega

/-- The array the kernel leaves is the attention. -/
theorem arr (c : Dev nD) (hq : AttnSpec.Fin' (aQ m c)) (hk : AttnSpec.Fin' (aK m c)) :
    (dats m 0 c).arrAt 3 cfg0.N = G m c := by
  refine (dats m 0 c).arrAt_eq_of_covers 3 _ cov fun t hf y => ?_
  blk_simp
  rw [after0_3]
  obtain ⟨r, l, rfl⟩ : ∃ (r : Fin 256) (l : Fin 128), y = ix3 (0 : Fin 1) r l := ⟨y 1, y 2, funext fun a => match a with
    | ⟨0, _⟩ => Fin.ext (by have : (y 0).val < 1 := (y 0).isLt; show (y 0).val = 0; omega)
    | ⟨1, _⟩ => rfl
    | ⟨2, _⟩ => rfl⟩
  refine (point_eq m c hq hk t r l).trans (congrArg (G m c) (funext fun a => Fin.ext ?_))
  blk_simp [(idx_facts t).2.2.2]
  match a with
  | ⟨0, _⟩ => show (grid0.coords t 0).val = (grid0.coords t 0).val * 1 + 0; omega
  | ⟨1, _⟩ => show 256 * (grid0.coords t 2).val + r.val = (grid0.coords t 2).val * 256 + r.val; omega
  | ⟨2, _⟩ => show 128 * (grid0.coords t 1).val + l.val = (grid0.coords t 1).val * 128 + l.val; omega

end Cert.AttnIdeal.Val
end
-- ==== Proof.AttnRef.lean ====
module

public import proofs.«01_k».proof.Proof.AttnSpec
public import proofs.«01_k».proof.Proof.Gen.AttnRefIdeal.Read

@[expose] public section

set_option maxRecDepth 16384

/-!
# The attention reference, read at an index
-/

noncomputable section

namespace Cert.AttnRefIdeal.Val

open Cert.AttnRefIdeal Cert.AttnRefIdeal.Gen Cert.AttnRefIdeal.Read Idealize.ShloMosaic Idealize.ShloMosaic.TcCoe Idealize.SL.Sem RunSoftmax
open AttnSpec (Arr Sel)

variable (q k v : Arr) (w : Sel)

/-- The block of a position, on axis 1. -/
theorem v4_apply (t : Fin 4096) : val_main_v4 (F := Ideal) (ix2 0 t) = BitVec.ofNat 32 (t.val / 256) := by
  pointwise [val_main_v4, val_main_call0_v11, val_main_call0_v13, val_main_call0_v2, val_main_call0_v6, val_main_call0_v10, val_main_call0_v1, val_main_call0_v0, val_main_call0_v12, val_main_call0_v3, val_main_call0_v4, val_main_call0_v5, val_main_call0_v7, val_main_call0_v8, val_main_call0_v9, val_main_call0_c, val_main_call0_c_0, val_main_v3, val_main_v2, val_main_c]
  exact AttnSpec.floor256 t

/-- The block of a position, on axis 0. -/
theorem v5_apply (t : Fin 4096) : val_main_v5 (F := Ideal) (ix2 t 0) = BitVec.ofNat 32 (t.val / 256) := by
  pointwise [val_main_v5, val_main_call1_v11, val_main_call1_v13, val_main_call1_v2, val_main_call1_v6, val_main_call1_v10, val_main_call1_v1, val_main_call1_v0, val_main_call1_v12, val_main_call1_v3, val_main_call1_v4, val_main_call1_v5, val_main_call1_v7, val_main_call1_v8, val_main_call1_v9, val_main_call1_c, val_main_call1_c_0, val_main_v1, val_main_v0, val_main_c_0]
  exact AttnSpec.floor256 t

/-- The block of a position, on axis 1. -/
theorem v13_apply (t : Fin 4096) : val_main_v13 (F := Ideal) (ix2 0 t) = BitVec.ofNat 32 (t.val / 256) := by
  pointwise [val_main_v13, val_main_call2_v11, val_main_call2_v13, val_main_call2_v2, val_main_call2_v6, val_main_call2_v10, val_main_call2_v1, val_main_call2_v0, val_main_call2_v12, val_main_call2_v3, val_main_call2_v4, val_main_call2_v5, val_main_call2_v7, val_main_call2_v8, val_main_call2_v9, val_main_call2_c, val_main_call2_c_0, val_main_v3, val_main_v2, val_main_c_1]
  exact AttnSpec.floor256 t

/-- The block of a position, on axis 0. -/
theorem v14_apply (t : Fin 4096) : val_main_v14 (F := Ideal) (ix2 t 0) = BitVec.ofNat 32 (t.val / 256) := by
  pointwise [val_main_v14, val_main_call3_v11, val_main_call3_v13, val_main_call3_v2, val_main_call3_v6, val_main_call3_v10, val_main_call3_v1, val_main_call3_v0, val_main_call3_v12, val_main_call3_v3, val_main_call3_v4, val_main_call3_v5, val_main_call3_v7, val_main_call3_v8, val_main_call3_v9, val_main_call3_c, val_main_call3_c_0, val_main_v1, val_main_v0, val_main_c_2]
  exact AttnSpec.floor256 t

theorem v12_apply (s t : Fin 4096) :
    val_main_v12 (F := Ideal) (ix2 s t) = if t.val / 256 = s.val / 256 ∧ t.val ≤ s.val then 1#1 else 0#1 := by
  pointwise [val_main_v12, val_main_v11, val_main_v10, val_main_v9, val_main_v8, val_main_v7, val_main_v6, val_main_v3,
    val_main_v2, val_main_v1, val_main_v0]
  rw [v4_apply, v5_apply, AttnSpec.eqW _ _ (by omega) (by omega), AttnSpec.leW _ _ (by omega) (by omega)]
  by_cases e : t.val / 256 = s.val / 256 <;> by_cases l : t.val ≤ s.val <;> simp [e, l, IntOp.andi]

theorem v17_apply (s t : Fin 4096) :
    val_main_v17 (F := Ideal) (ix2 s t) = if t.val / 256 < s.val / 256 then 1#1 else 0#1 := by
  pointwise [val_main_v17, val_main_v16, val_main_v15]
  rw [v13_apply, v14_apply, AttnSpec.ltW _ _ (by omega) (by omega)]

theorem one_or (x : BitVec 1) : 1#1 ||| x = 1#1 := by revert x; decide

theorem sub_at (x y : EReal) : FloatOps.subf (F := Ideal) (φ := .f32) x y = x - y := rfl
theorem max_at (x y : EReal) : FloatOps.maximumf (F := Ideal) (φ := .f32) x y = max x y := rfl
theorem exp_at (x : EReal) : FloatOps.hostUnary (F := Ideal) (φ := .f32) .exp x = Ideal.exp x := rfl
theorem div_at (x y : EReal) : FloatOps.hostDivf (F := Ideal) (φ := .f32) x y = Ideal.div x y := rfl
theorem ofBits_at (x : BitVec 32) : (FloatOps.ofBits (F := Ideal) .f32 x : EReal) = Ideal.ofBits .f32 x := rfl

/-- The reference's masked scores. -/
theorem v32_apply (b : Fin 4) (h : Fin 8) (s t : Fin 4096) :
    val_main_v32 (F := Ideal) q k w (ix4 b h s t) = AttnSpec.score q k w b h s t := by
  pointwise [val_main_v32, val_main_v31, val_main_v25, val_main_call4_v1, val_main_call4_v0, val_main_cst_4, val_main_v24,
    val_main_cst_3, val_main_v23, val_main_v30, val_main_v29, val_main_v28, val_main_v27, val_main_v26, val_main_v22,
    val_main_v21, val_main_v20, val_main_v19, val_main_v18, val_main_cst]
  rw [v12_apply, v17_apply]
  show Scalar.select (IntOp.ori _ (IntOp.andi _ (BitVec.ofBool (decide (w (ix4 b h s (AttnSpec.blk t)) ≠ 0)))))
    ((∑ d, q (ix4 b s h d) * k (ix4 b t h d)) * AttnSpec.scale) (Ideal.ofBits .f32 0xFF800000#32) = _
  rw [AttnSpec.negInf]
  unfold AttnSpec.score AttnSpec.sees
  by_cases e : t.val / 256 = s.val / 256 ∧ t.val ≤ s.val
  · rw [if_pos e, if_pos (Or.inl e)]
    simp [Scalar.select, IntOp.ori, one_or]
  · rw [if_neg e]
    by_cases g : t.val / 256 < s.val / 256
    · rw [if_pos g]
      by_cases z : w (ix4 b h s (AttnSpec.blk t)) = 0
      · rw [if_neg (by rintro (h | h); exacts [e h, h.2 z])]
        simp [z, Scalar.select, IntOp.andi, IntOp.ori]
      · rw [if_pos (Or.inr ⟨g, z⟩)]
        simp [z, Scalar.select, IntOp.andi, IntOp.ori]
    · rw [if_neg g, if_neg (by rintro (h | h); exacts [e h, g h.1])]
      simp [Scalar.select, IntOp.andi, IntOp.ori]

/-- The greatest score of a row. -/
theorem v33_apply (b : Fin 4) (h : Fin 8) (s : Fin 4096) :
    val_main_v33 (F := Ideal) q k w (ix3 b h s) = top1 (AttnSpec.score q k w b h s) := by
  rw [show AttnSpec.score q k w b h s = fun t => val_main_v32 (F := Ideal) q k w (ix4 b h s t) from
    funext fun t => (v32_apply q k w b h s t).symm]
  unfold val_main_v33 val_main_cst_5
  generalize val_main_v32 (F := Ideal) q k w = y
  pointwise
  rw [AttnSpec.negInf]

/-- A score's exponential, the row's greatest score subtracted. -/
theorem v39_apply (b : Fin 4) (h : Fin 8) (s t : Fin 4096) :
    val_main_v39 (F := Ideal) q k w (ix4 b h s t)
      = Ideal.exp (AttnSpec.score q k w b h s t - top1 (AttnSpec.score q k w b h s)) := by
  have e : idx_main_v36 (idx_main_v37 (ix4 b h s t)) = ix3 b h s := by
    funext a
    match a with
    | ⟨0, _⟩ => rfl
    | ⟨1, _⟩ => rfl
    | ⟨2, _⟩ => rfl
  rw [val_main_v39_apply, val_main_v38_apply, val_main_v37_apply, val_main_v36_apply, val_main_v35_apply,
    val_main_v34_apply, val_main_cst_6_apply, e, v33_apply, v32_apply, sub_at, exp_at, max_at, ofBits_at, AttnSpec.negInf,
    max_bot_left]

/-- A row's weights. -/
theorem v43_apply (b : Fin 4) (h : Fin 8) (s t : Fin 4096) :
    val_main_v43 (F := Ideal) q k w (ix4 b h s t)
      = Ideal.div (Ideal.exp (AttnSpec.score q k w b h s t - top1 (AttnSpec.score q k w b h s)))
          (0 + ∑ t : Fin 4096, Ideal.exp (AttnSpec.score q k w b h s t - top1 (AttnSpec.score q k w b h s))) := by
  have e : ∀ x : Fin 4096, idx_main_v40 (idx_main_v41 (idx_main_v42 (ix4 b h s t))) x = ix4 b h s x := by
    intro x
    funext a
    match a with
    | ⟨0, _⟩ => rfl
    | ⟨1, _⟩ => rfl
    | ⟨2, _⟩ => rfl
    | ⟨3, _⟩ => rfl
  rw [val_main_v43_apply, val_main_v42_apply, val_main_v41_apply, val_main_v40_apply, v39_apply, val_main_cst_7_apply,
    div_at, ofBits_at, Ideal.ofBits_zero_f32, Finset.sum_congr rfl fun x _ => by rw [e x, v39_apply]]

/-- The reference's result is the attention. -/
theorem v46_apply (b : Fin 4) (s : Fin 4096) (c : Fin 512) :
    val_main_v46 (F := Ideal) q k v w (ix3 b s c)
      = AttnSpec.attn q k v w b s ⟨c.val / 64, by omega⟩ ⟨c.val % 64, by omega⟩ := by
  have e : idx_main_v46 (ix3 b s c) = ix4 b s ⟨c.val / 64, by omega⟩ ⟨c.val % 64, by omega⟩ := by
    have hb := b.isLt
    have hs := s.isLt
    have hc := c.isLt
    funext a
    match a with
    | ⟨0, _⟩ => apply Fin.ext; show ((b.val * 4096 + s.val) * 512 + c.val) / 2097152 = b.val; omega
    | ⟨1, _⟩ => apply Fin.ext; show ((b.val * 4096 + s.val) * 512 + c.val) / 512 % 4096 = s.val; omega
    | ⟨2, _⟩ => apply Fin.ext; show ((b.val * 4096 + s.val) * 512 + c.val) / 64 % 8 = c.val / 64; omega
    | ⟨3, _⟩ => apply Fin.ext; show ((b.val * 4096 + s.val) * 512 + c.val) % 64 = c.val % 64; omega
  rw [val_main_v46_apply, e, val_main_v45_apply, val_main_v44_apply]
  refine Finset.sum_congr rfl fun t _ => ?_
  rw [← v43_apply]
  congr 2
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl

end Cert.AttnRefIdeal.Val
end
-- ==== Proof.AttnEq.lean ====
module

public import proofs.«01_k».proof.Defs
public import proofs.«01_k».proof.Proof.AttnArr
public import proofs.«01_k».proof.Proof.AttnRef

@[expose] public section

set_option maxRecDepth 16384

/-!
# The attention kernel equals its reference
-/

noncomputable section

namespace Cert.AttnEq

open Idealize.ShloMosaic Idealize.ShloMosaic.TcCoe Idealize.SL.Sem

instance preFacts : Cert.Pre_finite_qk.Facts where
  bcast_S_S4x4096x8x64 := by decide

theorem posInf : Ideal.ofBits .f32 0x7F800000#32 = (⊤ : EReal) := by
  simp [Ideal.ofBits, Ideal.ieee]

/-- An entry whose absolute value is below infinity is a real number. -/
theorem real_of_abs (x : EReal) (h : BitVec.ofBool (decide (max x (-x) < ⊤)) = 1#1) : ∃ r : ℝ, x = (r : EReal) := by
  induction x with
  | top => simp at h
  | bot => simp at h
  | coe r => exact ⟨r, rfl⟩

/-- The precondition says that the queries and the keys are real numbers. -/
theorem real_of_pre (q k v : AttnSpec.Arr) (w : AttnSpec.Sel)
    (h1 : (Cert.Pre_finite_qk.fn (F := Ideal) q k v w).1 = fun _ => 1#1)
    (h2 : (Cert.Pre_finite_qk.fn (F := Ideal) q k v w).2 = fun _ => 1#1) : AttnSpec.Fin' q ∧ AttnSpec.Fin' k := by
  refine ⟨fun i => real_of_abs _ ?_, fun i => real_of_abs _ ?_⟩
  · have := congrFun h1 i
    unfold Cert.Pre_finite_qk.fn at this
    dsimp only at this
    revert this
    pointwise [posInf]
    exact id
  · have := congrFun h2 i
    unfold Cert.Pre_finite_qk.fn at this
    dsimp only at this
    revert this
    pointwise [posInf]
    exact id

/-- The reference runs and keeps its arguments; it has no counter. -/
theorem frame : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The kernel's and the reference's results are equal. -/
theorem algebraic : Cert.algebraic_AttnIdeal_AttnRefIdeal_pre_finite_qk := by
  intro m g m' g' pre agree
  have fin : ∀ c, AttnSpec.Fin' (AttnIdeal.Val.aQ m c) ∧ AttnSpec.Fin' (AttnIdeal.Val.aK m c) := fun c =>
    real_of_pre _ _ (AttnIdeal.Val.aV m c) (AttnIdeal.Val.aW m c) (pre c).1 (pre c).2
  refine ⟨fun c => AttnIdeal.Val.G m c, ?_, ?_⟩
  · refine (θ_run _ _ _).mono (fun r h c => ?_) (Cert.AttnIdeal.Value.run_blocks m g)
    obtain ⟨h0, h1⟩ := h c
    exact ⟨h0.trans (AttnIdeal.Val.arr m c (fin c).1 (fin c).2), h1⟩
  · refine (θ_run _ _ _).mono (fun r h c => ?_) (Cert.AttnRefIdeal.Value.run (F := Ideal) m' g')
    obtain ⟨h0, h1⟩ := h c
    refine ⟨h0.trans ?_, h1⟩
    obtain ⟨a0, a1, a2, a3⟩ := agree c
    rw [Cert.AttnRefIdeal.Read.val_main_v46_eq, a0, a1, a2, a3]
    funext i
    obtain ⟨b, s, k, rfl⟩ : ∃ (b : Fin 4) (s : Fin 4096) (k : Fin 512), i = ix3 b s k := ⟨i 0, i 1, i 2, funext fun a => match a with
      | ⟨0, _⟩ => rfl
      | ⟨1, _⟩ => rfl
      | ⟨2, _⟩ => rfl⟩
    exact AttnRefIdeal.Val.v46_apply (AttnIdeal.Val.aQ m c) (AttnIdeal.Val.aK m c) (AttnIdeal.Val.aV m c) (AttnIdeal.Val.aW m c) b s k

end Cert.AttnEq
end
-- ==== Proof.FfnSpec.lean ====
module

public import Idealize.ShloMosaic.Lib.Pointwise

@[expose] public section

/-!
# The feed-forward layer, row by row

One row of the layer: the merged attention and convolution outputs are projected and added to the input under a gate, the sum
is normalised and modulated, its products with the first weight matrix give a gate part and an up part, the gate part goes
through a causal convolution of width three over the rows and a smooth threshold, and the product of the two is projected back.
-/

noncomputable section

namespace FfnRow

open Idealize.ShloMosaic

/-- The layer's weights. -/
structure Par where
  ag : Fin 512 → EReal
  ng : Fin 1024 → EReal
  wo : Fin 1024 → Fin 1024 → EReal
  w1 : Fin 1024 → Fin 5632 → EReal
  cw : Fin 3 → Fin 2816 → EReal
  cb : Fin 2816 → EReal
  w2 : Fin 2816 → Fin 1024 → EReal

/-- The modulation of one batch member. -/
structure Mod where
  g1 : Fin 1024 → EReal
  t2 : Fin 1024 → EReal
  s2 : Fin 1024 → EReal
  g2 : Fin 1024 → EReal

/-- Division of a row by the root of its mean square, times a gain; `w` is the number of its entries as a float. -/
def rms {n : ℕ} (w : BitVec 32) (x g : Fin n → EReal) (i : Fin n) : EReal :=
  x i * Ideal.rsqrt (Ideal.div (∑ j, x j * x j) (Ideal.ofBits .f32 w) + Ideal.ofBits .f32 897988541#32) * g i

variable (P : Par) (M : Mod)

/-- The input row plus the gated projection of the merged row. -/
def res (x : Fin 1024 → EReal) (a v : Fin 512 → EReal) (k : Fin 1024) : EReal :=
  x k + M.g1 k * (∑ j : Fin 512, rms 1140850688#32 a P.ag j * P.wo ⟨j.val, by omega⟩ k
    + ∑ j : Fin 512, v j * P.wo ⟨512 + j.val, by omega⟩ k)

/-- The normalised and modulated row. -/
def hid (y : Fin 1024 → EReal) (k : Fin 1024) : EReal :=
  rms 1149239296#32 y P.ng k * (1 + M.s2 k) + M.t2 k

/-- The gate part of the first product. -/
def gate (h : Fin 1024 → EReal) (j : Fin 2816) : EReal := ∑ d : Fin 1024, h d * P.w1 d ⟨j.val, by omega⟩

/-- The up part of the first product. -/
def up (h : Fin 1024 → EReal) (j : Fin 2816) : EReal := ∑ d : Fin 1024, h d * P.w1 d ⟨2816 + j.val, by omega⟩

/-- The convolution of width three at one entry: the rows two before, one before and the row itself. -/
def conv (j : Fin 2816) (b a g : EReal) : EReal := P.cw 0 j * b + P.cw 1 j * a + P.cw 2 j * g + P.cb j

/-- A number times its logistic function. -/
def silu (y : EReal) : EReal := y * Ideal.div 1 (1 + Ideal.exp (0 - y))

/-- The row between the two products, from the gate parts of the two rows before. -/
def act (h : Fin 1024 → EReal) (b a : Fin 2816 → EReal) (j : Fin 2816) : EReal :=
  silu (conv P j (b j) (a j) (gate P h j)) * up P h j

/-- The result row. -/
def out (y : Fin 1024 → EReal) (b a : Fin 2816 → EReal) (k : Fin 1024) : EReal :=
  y k + M.g2 k * ∑ j : Fin 2816, act P (hid P M y) b a j * P.w2 j k

end FfnRow
-- ==== Proof.FfnPay.lean ====
module

public import proofs.«01_k».proof.Proof.Gen.FfnIdeal.Value
public import Idealize.ShloMosaic.Lib.Pipeline.ValueKit
public import Idealize.ShloMosaic.Lib.Pipeline.ReadBack
public import Idealize.ShloMosaic.Lib.Pointwise
public import proofs.«01_k».proof.Proof.FfnSpec

@[expose] public section

set_option maxRecDepth 16384

noncomputable section

namespace Cert.FfnIdeal.Val

open Cert.FfnIdeal Cert.FfnIdeal.Gen Idealize.ShloMosaic Idealize.ShloMosaic.TcCoe Idealize.SL.Sem
open Idealize.ShloMosaic.Pipeline (Dat)

/-- The numbers of the rows. -/
def rowIota : IVec S512x256 32 := iota .tc S512x256 32 [0] iota_S512x256_d0_w32

/-- The kernel's product of the normalised rows with a block of weight columns. -/
theorem dot256 (h : FVec Ideal S512x1024 .bf16) (w : Vec Ideal S1024x256 .bf16) (r : Fin 512) (j : Fin 256) :
    k0_pay40 (F := Ideal) h w (ix2 r j) = ∑ d : Fin 1024, h (ix2 r d) * w (ix2 d j) := by
  pointwise [k0_pay40]

/-- A comparison of a small row number with a literal. -/
theorem cmp_row (r n : ℕ) (hr : r < 512) (hn : n < 512) {α : Type} (x y : α) :
    Scalar.select (IntOp.cmpi .eq (BitVec.ofNat 32 r) (BitVec.ofNat 32 n)) x y = if r = n then x else y := by
  have e : (BitVec.ofNat 32 r = BitVec.ofNat 32 n) ↔ r = n := by
    rw [← BitVec.toNat_inj, BitVec.toNat_ofNat, BitVec.toNat_ofNat]
    omega
  have d : IntOp.cmpi .eq (BitVec.ofNat 32 r) (BitVec.ofNat 32 n) = if r = n then 1#1 else 0#1 := by
    show BitVec.ofBool (BitVec.ofNat 32 r == BitVec.ofNat 32 n) = _
    by_cases h : r = n
    · rw [if_pos h, h, beq_self_eq_true]; rfl
    · rw [if_neg h, beq_eq_false_iff_ne.mpr (fun q => h (e.mp q))]; rfl
  rw [d]
  by_cases h : r = n
  · rw [if_pos h, if_pos h]; rfl
  · rw [if_neg h, if_neg h]; rfl

/-- The gate part of the row before: the carried row for the first. -/
theorem gm1_apply (h : FVec Ideal S512x1024 .bf16) (w : Vec Ideal S1024x256 .bf16) (p : Vec Ideal S1x256 .f32) (r : Fin 512)
    (j : Fin 256) :
    k0_pay42 (F := Ideal) h rowIota w p (ix2 r j)
      = if r.val = 0 then p (ix2 0 j) else k0_pay40 (F := Ideal) h w (ix2 ⟨r.val - 1, by omega⟩ j) := by
  unfold k0_pay42
  generalize k0_pay40 (F := Ideal) h w = g
  pointwise [rowIota]
  refine (cmp_row r.val 0 r.isLt (by decide) _ _).trans ?_
  by_cases h0 : r.val = 0
  · rw [if_pos h0, if_pos h0]
  · rw [if_neg h0, if_neg h0]
    congr 2
    exact Fin.ext (show (r.val + 512 - 1) % 512 = r.val - 1 by omega)

/-- The gate part of the row two before: the carried rows for the first two. -/
theorem gm2_apply (h : FVec Ideal S512x1024 .bf16) (w : Vec Ideal S1024x256 .bf16) (q p : Vec Ideal S1x256 .f32) (r : Fin 512)
    (j : Fin 256) :
    k0_pay43 (F := Ideal) h rowIota w q p (ix2 r j)
      = if r.val = 0 then q (ix2 0 j) else if r.val = 1 then p (ix2 0 j)
        else k0_pay40 (F := Ideal) h w (ix2 ⟨r.val - 2, by omega⟩ j) := by
  unfold k0_pay43
  generalize k0_pay40 (F := Ideal) h w = g
  pointwise [rowIota]
  refine (cmp_row r.val 0 r.isLt (by decide) _ _).trans ?_
  by_cases h0 : r.val = 0
  · rw [if_pos h0, if_pos h0]
  · rw [if_neg h0, if_neg h0]
    refine (cmp_row r.val 1 r.isLt (by decide) _ _).trans ?_
    by_cases h1 : r.val = 1
    · rw [if_pos h1, if_pos h1]
    · rw [if_neg h1, if_neg h1]
      congr 2
      exact Fin.ext (show (r.val + 512 - 2) % 512 = r.val - 2 by omega)

/-- What the kernel computes for one block of 256 columns between the two products. -/
def chunk (h : FVec Ideal S512x1024 .bf16) (it : IVec S512x256 32) (wg wu : Vec Ideal S1024x256 .bf16)
    (q p c0 c1 c2 cb : Vec Ideal S1x256 .f32) : FVec Ideal S512x256 .bf16 :=
  k0_pay44 (k0_pay40 h wg) (k0_pay41 h wu) (k0_pay42 h it wg p) (k0_pay43 h it wg q p) c0 c1 c2 cb

/-- That block at an entry. -/
theorem chunk_apply (h : FVec Ideal S512x1024 .bf16) (wg wu : Vec Ideal S1024x256 .bf16)
    (q p c0 c1 c2 cb : Vec Ideal S1x256 .f32) (r : Fin 512) (j : Fin 256) :
    chunk h rowIota wg wu q p c0 c1 c2 cb (ix2 r j)
      = FfnRow.silu (c0 (ix2 0 j) * k0_pay43 h rowIota wg q p (ix2 r j) + c1 (ix2 0 j) * k0_pay42 h rowIota wg p (ix2 r j)
          + c2 (ix2 0 j) * k0_pay40 h wg (ix2 r j) + cb (ix2 0 j)) * k0_pay40 h wu (ix2 r j) := by
  unfold chunk
  rw [show k0_pay41 (F := Ideal) h wu = k0_pay40 h wu from rfl]
  generalize k0_pay40 (F := Ideal) h wg = g, k0_pay40 (F := Ideal) h wu = u, k0_pay42 (F := Ideal) h rowIota wg p = a,
    k0_pay43 (F := Ideal) h rowIota wg q p = b
  pointwise [k0_pay44]
  rfl

/-- Column block 0 is that function of its loads. -/
theorem chunk_0 (h : FVec Ideal S512x1024 .bf16) (it : IVec S512x256 32) (wg wu : Vec Ideal S1024x256 .bf16)
    (q p c0 c1 c2 cb : Vec Ideal S1x256 .f32) :
    k0_pay14 (F := Ideal) (k0_pay11 h wu) (k0_pay12 h it (k0_pay9 wg) (constant S512x256 FTy.f32 0#32) q p c0 c1 c2 cb) k0_pay13
      = chunk h it wg wu q p c0 c1 c2 cb := rfl

/-- Column block 1 is that function of its loads. -/
theorem chunk_1 (h : FVec Ideal S512x1024 .bf16) (it : IVec S512x256 32) (wg wu : Vec Ideal S1024x256 .bf16)
    (q p c0 c1 c2 cb : Vec Ideal S1x256 .f32) :
    k0_pay22 (F := Ideal) it (k0_pay18 h wg) (k0_pay19 h wu) q p (k0_pay20 h it wg p) (k0_pay21 it) c0 c1 c2 cb
      = chunk h it wg wu q p c0 c1 c2 cb := rfl

/-- Column block 2 is that function of its loads. -/
theorem chunk_2 (h : FVec Ideal S512x1024 .bf16) (it : IVec S512x256 32) (wg wu : Vec Ideal S1024x256 .bf16)
    (q p c0 c1 c2 cb : Vec Ideal S1x256 .f32) :
    k0_pay29 (F := Ideal) (k0_pay26 h wg) (k0_pay27 h wu) (k0_pay28 h it wg q p c0 c1) c2 cb
      = chunk h it wg wu q p c0 c1 c2 cb := rfl

/-- Column block 3 is that function of its loads. -/
theorem chunk_3 (h : FVec Ideal S512x1024 .bf16) (it : IVec S512x256 32) (wg wu : Vec Ideal S1024x256 .bf16)
    (q p c0 c1 c2 cb : Vec Ideal S1x256 .f32) :
    k0_pay36 (F := Ideal) (k0_pay35 it (k0_pay33 h wg) (k0_pay34 h wu) q p c0 c1 c2 cb)
      = chunk h it wg wu q p c0 c1 c2 cb := rfl

/-- Column block 4 is that function of its loads. -/
theorem chunk_4 (h : FVec Ideal S512x1024 .bf16) (it : IVec S512x256 32) (wg wu : Vec Ideal S1024x256 .bf16)
    (q p c0 c1 c2 cb : Vec Ideal S1x256 .f32) :
    k0_pay44 (F := Ideal) (k0_pay40 h wg) (k0_pay41 h wu) (k0_pay42 h it wg p) (k0_pay43 h it wg q p) c0 c1 c2 cb
      = chunk h it wg wu q p c0 c1 c2 cb := rfl

/-- Column block 5 is that function of its loads. -/
theorem chunk_5 (h : FVec Ideal S512x1024 .bf16) (it : IVec S512x256 32) (wg wu : Vec Ideal S1024x256 .bf16)
    (q p c0 c1 c2 cb : Vec Ideal S1x256 .f32) :
    k0_pay53 (F := Ideal) (k0_pay50 h wu) (k0_pay51 h it (k0_pay48 wg) (constant S512x256 FTy.f32 0#32) q p c0 c1 c2 cb) k0_pay52
      = chunk h it wg wu q p c0 c1 c2 cb := rfl

/-- Column block 6 is that function of its loads. -/
theorem chunk_6 (h : FVec Ideal S512x1024 .bf16) (it : IVec S512x256 32) (wg wu : Vec Ideal S1024x256 .bf16)
    (q p c0 c1 c2 cb : Vec Ideal S1x256 .f32) :
    k0_pay61 (F := Ideal) it (k0_pay57 h wg) (k0_pay58 h wu) q p (k0_pay59 h it wg p) (k0_pay60 it) c0 c1 c2 cb
      = chunk h it wg wu q p c0 c1 c2 cb := rfl

/-- Column block 7 is that function of its loads. -/
theorem chunk_7 (h : FVec Ideal S512x1024 .bf16) (it : IVec S512x256 32) (wg wu : Vec Ideal S1024x256 .bf16)
    (q p c0 c1 c2 cb : Vec Ideal S1x256 .f32) :
    k0_pay68 (F := Ideal) (k0_pay65 h wg) (k0_pay66 h wu) (k0_pay67 h it wg q p c0 c1) c2 cb
      = chunk h it wg wu q p c0 c1 c2 cb := rfl

/-- Column block 8 is that function of its loads. -/
theorem chunk_8 (h : FVec Ideal S512x1024 .bf16) (it : IVec S512x256 32) (wg wu : Vec Ideal S1024x256 .bf16)
    (q p c0 c1 c2 cb : Vec Ideal S1x256 .f32) :
    k0_pay75 (F := Ideal) (k0_pay74 it (k0_pay72 h wg) (k0_pay73 h wu) q p c0 c1 c2 cb)
      = chunk h it wg wu q p c0 c1 c2 cb := rfl

/-- Column block 9 is that function of its loads. -/
theorem chunk_9 (h : FVec Ideal S512x1024 .bf16) (it : IVec S512x256 32) (wg wu : Vec Ideal S1024x256 .bf16)
    (q p c0 c1 c2 cb : Vec Ideal S1x256 .f32) :
    k0_pay83 (F := Ideal) (k0_pay79 h wg) (k0_pay80 h wu) (k0_pay81 h it wg p) (k0_pay82 h it wg q p) c0 c1 c2 cb
      = chunk h it wg wu q p c0 c1 c2 cb := rfl

/-- Column block 10 is that function of its loads. -/
theorem chunk_10 (h : FVec Ideal S512x1024 .bf16) (it : IVec S512x256 32) (wg wu : Vec Ideal S1024x256 .bf16)
    (q p c0 c1 c2 cb : Vec Ideal S1x256 .f32) :
    k0_pay92 (F := Ideal) (k0_pay89 h wu) (k0_pay90 h it (k0_pay87 wg) (constant S512x256 FTy.f32 0#32) q p c0 c1 c2 cb) k0_pay91
      = chunk h it wg wu q p c0 c1 c2 cb := rfl

/-- The last two rows of a block of 256 columns, as carried to the next point. -/
theorem tail_apply (g : FVec Ideal S512x256 .f32) (a : Fin 2) (j : Fin 256) :
    k0_pay46 (F := Ideal) g (ix2 a j) = g (ix2 ⟨510 + a.val, by omega⟩ j) := by
  pointwise [k0_pay46, k0_pay45]

/-- The same rows, as stored into the state. -/
theorem tail3_apply (g : FVec Ideal S512x256 .f32) (a : Fin 2) (j : Fin 256) :
    k0_pay47 (F := Ideal) g (ix3 0 a j) = g (ix2 ⟨510 + a.val, by omega⟩ j) := by
  pointwise [k0_pay47, k0_pay45]

/-- What column block 0 carries on and what it stores into the state. -/
theorem tail_0 (h : FVec Ideal S512x1024 .bf16) (w : Vec Ideal S1024x256 .bf16) :
    k0_pay16 (F := Ideal) (k0_pay10 h (k0_pay9 w) (constant S512x256 FTy.f32 0#32)) = k0_pay46 (k0_pay40 h w)
      ∧ k0_pay17 (F := Ideal) (k0_pay10 h (k0_pay9 w) (constant S512x256 FTy.f32 0#32)) = k0_pay47 (k0_pay40 h w) :=
  ⟨rfl, rfl⟩

/-- What column block 1 carries on and what it stores into the state. -/
theorem tail_1 (h : FVec Ideal S512x1024 .bf16) (w : Vec Ideal S1024x256 .bf16) :
    k0_pay24 (F := Ideal) (k0_pay18 h w) = k0_pay46 (k0_pay40 h w)
      ∧ k0_pay25 (F := Ideal) (k0_pay23 (k0_pay18 h w)) = k0_pay47 (k0_pay40 h w) :=
  ⟨rfl, rfl⟩

/-- What column block 2 carries on and what it stores into the state. -/
theorem tail_2 (h : FVec Ideal S512x1024 .bf16) (w : Vec Ideal S1024x256 .bf16) :
    k0_pay31 (F := Ideal) (k0_pay26 h w) = k0_pay46 (k0_pay40 h w)
      ∧ k0_pay32 (F := Ideal) (k0_pay26 h w) = k0_pay47 (k0_pay40 h w) :=
  ⟨rfl, rfl⟩

/-- What column block 3 carries on and what it stores into the state. -/
theorem tail_3 (h : FVec Ideal S512x1024 .bf16) (w : Vec Ideal S1024x256 .bf16) :
    k0_pay38 (F := Ideal) (k0_pay33 h w) = k0_pay46 (k0_pay40 h w)
      ∧ k0_pay39 (F := Ideal) (k0_pay33 h w) = k0_pay47 (k0_pay40 h w) :=
  ⟨rfl, rfl⟩

/-- What column block 4 carries on and what it stores into the state. -/
theorem tail_4 (h : FVec Ideal S512x1024 .bf16) (w : Vec Ideal S1024x256 .bf16) :
    k0_pay46 (F := Ideal) (k0_pay40 h w) = k0_pay46 (k0_pay40 h w)
      ∧ k0_pay47 (F := Ideal) (k0_pay40 h w) = k0_pay47 (k0_pay40 h w) :=
  ⟨rfl, rfl⟩

/-- What column block 5 carries on and what it stores into the state. -/
theorem tail_5 (h : FVec Ideal S512x1024 .bf16) (w : Vec Ideal S1024x256 .bf16) :
    k0_pay55 (F := Ideal) (k0_pay49 h (k0_pay48 w) (constant S512x256 FTy.f32 0#32)) = k0_pay46 (k0_pay40 h w)
      ∧ k0_pay56 (F := Ideal) (k0_pay49 h (k0_pay48 w) (constant S512x256 FTy.f32 0#32)) = k0_pay47 (k0_pay40 h w) :=
  ⟨rfl, rfl⟩

/-- What column block 6 carries on and what it stores into the state. -/
theorem tail_6 (h : FVec Ideal S512x1024 .bf16) (w : Vec Ideal S1024x256 .bf16) :
    k0_pay63 (F := Ideal) (k0_pay57 h w) = k0_pay46 (k0_pay40 h w)
      ∧ k0_pay64 (F := Ideal) (k0_pay62 (k0_pay57 h w)) = k0_pay47 (k0_pay40 h w) :=
  ⟨rfl, rfl⟩

/-- What column block 7 carries on and what it stores into the state. -/
theorem tail_7 (h : FVec Ideal S512x1024 .bf16) (w : Vec Ideal S1024x256 .bf16) :
    k0_pay70 (F := Ideal) (k0_pay65 h w) = k0_pay46 (k0_pay40 h w)
      ∧ k0_pay71 (F := Ideal) (k0_pay65 h w) = k0_pay47 (k0_pay40 h w) :=
  ⟨rfl, rfl⟩

/-- What column block 8 carries on and what it stores into the state. -/
theorem tail_8 (h : FVec Ideal S512x1024 .bf16) (w : Vec Ideal S1024x256 .bf16) :
    k0_pay77 (F := Ideal) (k0_pay72 h w) = k0_pay46 (k0_pay40 h w)
      ∧ k0_pay78 (F := Ideal) (k0_pay72 h w) = k0_pay47 (k0_pay40 h w) :=
  ⟨rfl, rfl⟩

/-- What column block 9 carries on and what it stores into the state. -/
theorem tail_9 (h : FVec Ideal S512x1024 .bf16) (w : Vec Ideal S1024x256 .bf16) :
    k0_pay85 (F := Ideal) (k0_pay79 h w) = k0_pay46 (k0_pay40 h w)
      ∧ k0_pay86 (F := Ideal) (k0_pay79 h w) = k0_pay47 (k0_pay40 h w) :=
  ⟨rfl, rfl⟩

/-- What column block 10 carries on and what it stores into the state. -/
theorem tail_10 (h : FVec Ideal S512x1024 .bf16) (w : Vec Ideal S1024x256 .bf16) :
    k0_pay94 (F := Ideal) (k0_pay88 h (k0_pay87 w) (constant S512x256 FTy.f32 0#32)) = k0_pay46 (k0_pay40 h w)
      ∧ k0_pay95 (F := Ideal) (k0_pay88 h (k0_pay87 w) (constant S512x256 FTy.f32 0#32)) = k0_pay47 (k0_pay40 h w) :=
  ⟨rfl, rfl⟩

open FfnRow in
/-- The normalised attention row. -/
theorem att_apply (x1 : Vec Ideal S512x512 .f32) (x7 : Vec Ideal S1x512 .f32) (r j : Fin 512) :
    k0_pay6 (F := Ideal) x1 x7 (ix2 r j) = rms 1140850688#32 (fun i => x1 (ix2 r i)) (fun i => x7 (ix2 0 i)) j := by
  pointwise [k0_pay6]
  rfl

/-- The input plus the gated projection, at an entry. -/
theorem x1_apply (v14 : FVec Ideal S512x1024 .f32) (v18 : FVec Ideal S512x512 .f32) (v20 : FVec Ideal S1x1024 .f32)
    (v35 : FVec Ideal S512x512 .bf16) (v36 v40 : Vec Ideal S512x1024 .bf16) (r : Fin 512) (j : Fin 1024) :
    k0_pay7 (F := Ideal) v14 v18 v20 v35 v36 v40 (ix2 r j)
      = v14 (ix2 r j) + v20 (ix2 0 j) * (∑ x : Fin 512, v35 (ix2 r x) * v36 (ix2 x j) + ∑ x : Fin 512, v18 (ix2 r x) * v40 (ix2 x j)) := by
  pointwise [k0_pay7]

open FfnRow in
/-- The normalised and modulated row, at an entry. -/
theorem h2_apply (v14 : FVec Ideal S512x1024 .f32) (v18 : FVec Ideal S512x512 .f32) (v20 : FVec Ideal S1x1024 .f32)
    (v35 : FVec Ideal S512x512 .bf16) (v36 v40 : Vec Ideal S512x1024 .bf16) (v47 : Vec Ideal S1x1024 .f32)
    (v61 v67 : Vec Ideal S1x1x1024 .f32) (r : Fin 512) (j : Fin 1024) :
    k0_pay8 (F := Ideal) v14 v18 v20 v35 v36 v40 v47 v61 v67 (ix2 r j)
      = rms 1149239296#32 (fun i => k0_pay7 (F := Ideal) v14 v18 v20 v35 v36 v40 (ix2 r i)) (fun i => v47 (ix2 0 i)) j
        * (1 + v61 (ix3 0 0 j)) + v67 (ix3 0 0 j) := by
  unfold k0_pay8
  generalize k0_pay7 (F := Ideal) v14 v18 v20 v35 v36 v40 = X
  pointwise
  rfl

/-- The result, at an entry. -/
theorem out_apply (v46 : FVec Ideal S512x1024 .f32) (v734 : FVec Ideal S1x1024 .f32) (v : Vec Ideal S512x2816 .bf16)
    (w2 : Vec Ideal S2816x1024 .bf16) (r : Fin 512) (j : Fin 1024) :
    k0_pay1 (F := Ideal) v46 v734 v w2 (ix2 r j)
      = v46 (ix2 r j) + v734 (ix2 0 j) * ∑ x : Fin 2816, v (ix2 r x) * w2 (ix2 x j) := by
  pointwise [k0_pay1]

end Cert.FfnIdeal.Val
-- ==== Proof.FfnPiece.lean ====
module

public import proofs.«01_k».proof.Proof.FfnPay
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FfnIdeal.Val

open Cert.FfnIdeal Cert.FfnIdeal.Gen Idealize.ShloMosaic Idealize.ShloMosaic.TcCoe Idealize.SL.Sem
open Idealize.ShloMosaic.Pipeline (Dat)

section Pieces

variable (h : FVec Ideal S512x1024 .bf16) (x10 : Vec Ideal S1024x5632 .bf16) (x11 : Vec Ideal S3x2816 .f32)
  (x12 : Vec Ideal S1x2816 .f32) (xs : Vec Ideal S8x2816 .f32)

/-- The gate part of row `r`. -/
def gt (r : Fin 512) (j : Fin 2816) : EReal := ∑ d : Fin 1024, h (ix2 r d) * x10 (ix2 d ⟨j.val, by omega⟩)

/-- The up part of row `r`. -/
def ut (r : Fin 512) (j : Fin 2816) : EReal := ∑ d : Fin 1024, h (ix2 r d) * x10 (ix2 d ⟨2816 + j.val, by omega⟩)

/-- The gate part one row before: the carried row for the first. -/
def ga (r : Fin 512) (j : Fin 2816) : EReal :=
  if r.val = 0 then xs (ix2 1 j) else gt h x10 ⟨r.val - 1, by omega⟩ j

/-- The gate part two rows before: the carried rows for the first two. -/
def gb (r : Fin 512) (j : Fin 2816) : EReal :=
  if r.val = 0 then xs (ix2 0 j) else if r.val = 1 then xs (ix2 1 j) else gt h x10 ⟨r.val - 2, by omega⟩ j

/-- The block between the two products. -/
def actT (r : Fin 512) (j : Fin 2816) : EReal :=
  FfnRow.silu (x11 (ix2 0 j) * gb h x10 xs r j + x11 (ix2 1 j) * ga h x10 xs r j + x11 (ix2 2 j) * gt h x10 r j
    + x12 (ix2 0 j)) * ut h x10 r j

/-- The product with a block of columns of the first weights. -/
theorem dot_ld (o n : ℕ) (hn : o + n + 256 ≤ 5632) (m : ℕ) (hm : m = o + n) (i1) (r : Fin 512) (j : Fin 256) :
    k0_pay40 (F := Ideal) h (View.ld x10 (Rect.unit (s := S1024x5632) ![0, m] ![1024, 256] i1)) (ix2 r j)
      = ∑ d : Fin 1024, h (ix2 r d) * x10 (ix2 d ⟨o + (n + j.val), by omega⟩) := by
  subst hm
  refine (dot256 _ _ r j).trans (Finset.sum_congr rfl fun d _ => congrArg (h (ix2 r d) * ·) ?_)
  have e : View.ld x10 (Rect.unit (s := S1024x5632) ![0, o + n] ![1024, 256] i1) (ix2 d j)
      = x10 (ix2 d ⟨o + n + j.val, by omega⟩) := by pointwise
  refine e.trans (congrArg x10 ?_)
  congr 1
  exact Fin.ext (Nat.add_assoc o n j.val)

/-- … which is the gate part. -/
theorem dot_gate (n : ℕ) (hn : n + 256 ≤ 2816) (i1) (r : Fin 512) (j : Fin 256) :
    k0_pay40 (F := Ideal) h (View.ld x10 (Rect.unit (s := S1024x5632) ![0, n] ![1024, 256] i1)) (ix2 r j)
      = gt h x10 r ⟨n + j.val, by omega⟩ := by
  refine (dot_ld h x10 0 n (by omega) n (Nat.zero_add n).symm i1 r j).trans (Finset.sum_congr rfl fun d _ => ?_)
  congr 3
  exact Fin.ext (Nat.zero_add _)

/-- A load of one carried row. -/
theorem ld_carry (a : Fin 8) (n : ℕ) (hn : n + 256 ≤ 2816) (i3) (j : Fin 256) :
    View.ld xs (Rect.unit (s := S8x2816) ![a.val, n] ![1, 256] i3) (ix2 0 j) = xs (ix2 a ⟨n + j.val, by omega⟩) := by
  pointwise

/-- A load of one row of the convolution's weights. -/
theorem ld_tap (a : Fin 3) (n : ℕ) (hn : n + 256 ≤ 2816) (i3) (j : Fin 256) :
    View.ld x11 (Rect.unit (s := S3x2816) ![a.val, n] ![1, 256] i3) (ix2 0 j) = x11 (ix2 a ⟨n + j.val, by omega⟩) := by
  pointwise

/-- Every block of columns the kernel stores is a block of one function. -/
theorem chunk_piece (n : ℕ) (hn : n + 256 ≤ 2816) (i1 i2 i3 i4 i5 i6 i7 i8 i9) (x : S512x256.Idx) :
    chunk h rowIota (View.ld x10 (Rect.unit (s := S1024x5632) ![0, n] ![1024, 256] i1))
        (View.ld x10 (Rect.unit (s := S1024x5632) ![0, 2816 + n] ![1024, 256] i2))
        (View.ld xs (Rect.unit (s := S8x2816) ![0, n] ![1, 256] i3)) (View.ld xs (Rect.unit (s := S8x2816) ![1, n] ![1, 256] i4))
        (View.ld x11 (Rect.unit (s := S3x2816) ![0, n] ![1, 256] i5)) (View.ld x11 (Rect.unit (s := S3x2816) ![1, n] ![1, 256] i6))
        (View.ld x11 (Rect.unit (s := S3x2816) ![2, n] ![1, 256] i7)) (View.ld x12 (Rect.unit (s := S1x2816) ![0, n] ![1, 256] i8)) x
      = (fun y : S512x2816.Idx => actT h x10 x11 x12 xs (y 0) (y 1)) ((Rect.unit (s := S512x2816) ![0, n] ![512, 256] i9).emb x) := by
  obtain ⟨r, j, rfl⟩ : ∃ (r : Fin 512) (j : Fin 256), x = ix2 r j :=
    ⟨x 0, x 1, by funext a; match a with | ⟨0, _⟩ => rfl | ⟨1, _⟩ => rfl⟩
  have ey : (Rect.unit (s := S512x2816) ![0, n] ![512, 256] i9).emb (ix2 r j)
      = (ix2 r ⟨n + j.val, by omega⟩ : S512x2816.Idx) := by
    funext a
    match a with
    | ⟨0, _⟩ => exact Fin.ext (show 0 + 1 * r.val = r.val by omega)
    | ⟨1, _⟩ => exact Fin.ext (show n + 1 * j.val = n + j.val by omega)
  rw [ey]
  refine (chunk_apply _ _ _ _ _ _ _ _ _ r j).trans ?_
  show _ = actT h x10 x11 x12 xs r ⟨n + j.val, by omega⟩
  have eb : View.ld x12 (Rect.unit (s := S1x2816) ![0, n] ![1, 256] i8) (ix2 0 j) = x12 (ix2 0 ⟨n + j.val, by omega⟩) := by
    pointwise
  have e0 : View.ld x11 (Rect.unit (s := S3x2816) ![0, n] ![1, 256] i5) (ix2 0 j) = x11 (ix2 0 ⟨n + j.val, by omega⟩) :=
    ld_tap x11 0 n hn i5 j
  have e1 : View.ld x11 (Rect.unit (s := S3x2816) ![1, n] ![1, 256] i6) (ix2 0 j) = x11 (ix2 1 ⟨n + j.val, by omega⟩) :=
    ld_tap x11 1 n hn i6 j
  have e2 : View.ld x11 (Rect.unit (s := S3x2816) ![2, n] ![1, 256] i7) (ix2 0 j) = x11 (ix2 2 ⟨n + j.val, by omega⟩) :=
    ld_tap x11 2 n hn i7 j
  have f0 : View.ld xs (Rect.unit (s := S8x2816) ![0, n] ![1, 256] i3) (ix2 0 j) = xs (ix2 0 ⟨n + j.val, by omega⟩) :=
    ld_carry xs 0 n hn i3 j
  have f1 : View.ld xs (Rect.unit (s := S8x2816) ![1, n] ![1, 256] i4) (ix2 0 j) = xs (ix2 1 ⟨n + j.val, by omega⟩) :=
    ld_carry xs 1 n hn i4 j
  rw [gm1_apply, gm2_apply, e0, e1, e2, eb, f0, f1, dot_gate h x10 n hn, dot_gate h x10 n hn, dot_gate h x10 n hn,
    dot_ld h x10 2816 n (by omega) _ rfl]
  rfl

/-- Every pair of rows the kernel carries on is a block of one function. -/
theorem tail_piece (n : ℕ) (hn : n + 256 ≤ 2816) (i1 i9) (x : S2x256.Idx) :
    k0_pay46 (k0_pay40 (F := Ideal) h (View.ld x10 (Rect.unit (s := S1024x5632) ![0, n] ![1024, 256] i1))) x
      = (fun y : S8x2816.Idx => gt h x10 ⟨(510 + (y 0).val) % 512, Nat.mod_lt _ (by decide)⟩ (y 1))
          ((Rect.unit (s := S8x2816) ![0, n] ![2, 256] i9).emb x) := by
  obtain ⟨a, j, rfl⟩ : ∃ (a : Fin 2) (j : Fin 256), x = ix2 a j :=
    ⟨x 0, x 1, by funext a; match a with | ⟨0, _⟩ => rfl | ⟨1, _⟩ => rfl⟩
  have ey : (Rect.unit (s := S8x2816) ![0, n] ![2, 256] i9).emb (ix2 a j)
      = (ix2 ⟨a.val, by omega⟩ ⟨n + j.val, by omega⟩ : S8x2816.Idx) := by
    funext b
    match b with
    | ⟨0, _⟩ => exact Fin.ext (show 0 + 1 * a.val = a.val by omega)
    | ⟨1, _⟩ => exact Fin.ext (show n + 1 * j.val = n + j.val by omega)
  rw [ey]
  refine (tail_apply _ a j).trans ((dot_gate h x10 n hn i1 _ j).trans ?_)
  show gt h x10 _ _ = gt h x10 _ _
  congr 1
  exact Fin.ext (show 510 + a.val = (510 + a.val) % 512 by omega)

/-- Every pair of rows the kernel stores into the state is a block of one function. -/
theorem state_piece (n : ℕ) (hn : n + 256 ≤ 2816) (i1 i9) (x : S1x2x256.Idx) :
    k0_pay47 (k0_pay40 (F := Ideal) h (View.ld x10 (Rect.unit (s := S1024x5632) ![0, n] ![1024, 256] i1))) x
      = (fun y : S1x2x2816.Idx => gt h x10 ⟨(510 + (y 1).val) % 512, Nat.mod_lt _ (by decide)⟩ (y 2))
          ((Rect.unit (s := S1x2x2816) ![0, 0, n] ![1, 2, 256] i9).emb x) := by
  obtain ⟨a, j, rfl⟩ : ∃ (a : Fin 2) (j : Fin 256), x = ix3 0 a j :=
    ⟨x 1, x 2, by
      funext a
      match a with
      | ⟨0, _⟩ => exact Subsingleton.elim (α := Fin 1) _ _
      | ⟨1, _⟩ => rfl
      | ⟨2, _⟩ => rfl⟩
  have ey : (Rect.unit (s := S1x2x2816) ![0, 0, n] ![1, 2, 256] i9).emb (ix3 0 a j)
      = (ix3 0 a ⟨n + j.val, by omega⟩ : S1x2x2816.Idx) := by
    funext b
    match b with
    | ⟨0, _⟩ => rfl
    | ⟨1, _⟩ => exact Fin.ext (show 0 + 1 * a.val = a.val by omega)
    | ⟨2, _⟩ => exact Fin.ext (show n + 1 * j.val = n + j.val by omega)
  rw [ey]
  refine (tail3_apply _ a j).trans ((dot_gate h x10 n hn i1 _ j).trans ?_)
  show gt h x10 _ _ = gt h x10 _ _
  congr 1
  exact Fin.ext (show 510 + a.val = (510 + a.val) % 512 by omega)

end Pieces

end Cert.FfnIdeal.Val
-- ==== Proof.FfnBody.lean ====
module

public import proofs.«01_k».proof.Proof.FfnPiece
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FfnIdeal.Val

open Cert.FfnIdeal Cert.FfnIdeal.Gen Idealize.ShloMosaic Idealize.ShloMosaic.TcCoe Idealize.SL.Sem
open Idealize.ShloMosaic.Pipeline (Dat)

/-- Stores that are blocks of one function leave it at every index one of them covers. -/
theorem canon_of_piecesOf {Val : EltTy → Type} [∀ e, Nonempty (Val e)] {s : Shape} {e : EltTy} (G : s.Idx → Val e)
    (L : List (View.Piece Val s e)) (h : View.PiecesOf G L) (y : s.Idx)
    (hc : ∃ p ∈ L, y ∈ p.1.set) : View.canon L y = G y :=
  View.canon_apply_of_pieces G L h.mem y hc

variable (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x512 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x5632 .bf16) (harg11 : arg11.IsWhole) (arg12 : Memref sig .tc .vmem S3x2816 .f32) (harg12 : arg12.IsWhole) (arg13 : Memref sig .tc .vmem S1x2816 .f32) (harg13 : arg13.IsWhole) (arg14 : Memref sig .tc .vmem S2816x1024 .bf16) (harg14 : arg14.IsWhole) (arg15 : Memref sig .tc .vmem S512x1024 .f32) (harg15 : arg15.IsWhole) (arg16 : Memref sig .tc .vmem S1x2x2816 .f32) (harg16 : arg16.IsWhole) (arg17 : Memref sig .tc .vmem S8x2816 .f32) (harg17 : arg17.IsWhole) (arg18 : Memref sig .tc .vmem S512x2816 .bf16) (harg18 : arg18.IsWhole)
  (x0 : Vec Ideal S512x1024 .f32) (x1 : Vec Ideal S512x512 .f32) (x2 : Vec Ideal S512x512 .f32) (x3 : Vec Ideal S1x1x1024 .f32) (x4 : Vec Ideal S1x1x1024 .f32) (x5 : Vec Ideal S1x1x1024 .f32) (x6 : Vec Ideal S1x1x1024 .f32) (x7 : Vec Ideal S1x512 .f32) (x8 : Vec Ideal S1x1024 .f32) (x9 : Vec Ideal S1024x1024 .bf16) (x10 : Vec Ideal S1024x5632 .bf16) (x11 : Vec Ideal S3x2816 .f32) (x12 : Vec Ideal S1x2816 .f32) (x13 : Vec Ideal S2816x1024 .bf16)

/-- The block's rows after the first product and gate. -/
def xb : FVec Ideal S512x1024 .f32 :=
  k0_pay7 (F := Ideal) (k0_pay3 x0) (k0_pay4 x2) (k0_pay5 x3) (k0_pay6 x1 x7)
    (View.ld x9 (Rect.unit (s := S1024x1024) ![0, 0] S512x1024.size inb_S1024x1024_S512x1024_0_0))
    (View.ld x9 (Rect.unit (s := S1024x1024) ![512, 0] S512x1024.size inb_S1024x1024_S512x1024_512_0))

/-- The block's normalised and modulated rows. -/
def hb : FVec Ideal S512x1024 .bf16 :=
  k0_pay8 (F := Ideal) (k0_pay3 x0) (k0_pay4 x2) (k0_pay5 x3) (k0_pay6 x1 x7)
    (View.ld x9 (Rect.unit (s := S1024x1024) ![0, 0] S512x1024.size inb_S1024x1024_S512x1024_0_0))
    (View.ld x9 (Rect.unit (s := S1024x1024) ![512, 0] S512x1024.size inb_S1024x1024_S512x1024_512_0)) x8 x5 x4

/-- What the point stores into the state. -/
theorem state_A (hc0 : cond0_0 i) (a : Fin 2) (j : Fin 2816) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 (ix3 0 a j)
      = gt (hb x0 x1 x2 x3 x4 x5 x7 x8 x9) x10 ⟨510 + a.val, by omega⟩ j := by
  frame_out
  generalize hH : (k0_pay8 (F := Ideal) (k0_pay3 x0) (k0_pay4 x2) (k0_pay5 x3) (k0_pay6 x1 x7)
    (View.ld x9 (Rect.unit (s := S1024x1024) ![0, 0] S512x1024.size inb_S1024x1024_S512x1024_0_0))
    (View.ld x9 (Rect.unit (s := S1024x1024) ![512, 0] S512x1024.size inb_S1024x1024_S512x1024_512_0)) x8 x5 x4) = H
  rw [show hb x0 x1 x2 x3 x4 x5 x7 x8 x9 = H from hH]
  simp only [tail_0, tail_1, tail_2, tail_3, tail_4, tail_5, tail_6, tail_7, tail_8, tail_9, tail_10]
  refine Eq.trans (canon_of_piecesOf (fun y : S1x2x2816.Idx => gt H x10 ⟨(510 + (y 1).val) % 512, Nat.mod_lt _ (by decide)⟩ (y 2)) _
    ?_ _ (View.cover_of_tiledL _ ![1, 2, 256] (by rfl) _)) ?_
  · exact ⟨state_piece H x10 2560 (by decide) _ inb_S1x2x2816_S1x2x256_0_0_2560,
    state_piece H x10 2304 (by decide) _ inb_S1x2x2816_S1x2x256_0_0_2304,
    state_piece H x10 2048 (by decide) _ inb_S1x2x2816_S1x2x256_0_0_2048,
    state_piece H x10 1792 (by decide) _ inb_S1x2x2816_S1x2x256_0_0_1792,
    state_piece H x10 1536 (by decide) _ inb_S1x2x2816_S1x2x256_0_0_1536,
    state_piece H x10 1280 (by decide) _ inb_S1x2x2816_S1x2x256_0_0_1280,
    state_piece H x10 1024 (by decide) _ inb_S1x2x2816_S1x2x256_0_0_1024,
    state_piece H x10 768 (by decide) _ inb_S1x2x2816_S1x2x256_0_0_768,
    state_piece H x10 512 (by decide) _ inb_S1x2x2816_S1x2x256_0_0_512,
    state_piece H x10 256 (by decide) _ inb_S1x2x2816_S1x2x256_0_0_256,
    state_piece H x10 0 (by decide) _ inb_S1x2x2816_S1x2x256_0_0_0,
    trivial⟩
  show gt H x10 _ _ = gt H x10 _ _
  congr 1
  exact Fin.ext (show (510 + a.val) % 512 = 510 + a.val by omega)

/-- The rows the point carries on to the next. -/
theorem carry_A (hc0 : cond0_0 i) (a : Fin 2) (j : Fin 2816) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 (ix2 ⟨a.val, by omega⟩ j)
      = gt (hb x0 x1 x2 x3 x4 x5 x7 x8 x9) x10 ⟨510 + a.val, by omega⟩ j := by
  frame_open
  simp (disch := decide) only [↓ View.readCov_skip, ↓ View.readCov_cons_toLoadRect, ↓ View.readCov_fill]
  frame_out
  generalize hH : (k0_pay8 (F := Ideal) (k0_pay3 x0) (k0_pay4 x2) (k0_pay5 x3) (k0_pay6 x1 x7)
    (View.ld x9 (Rect.unit (s := S1024x1024) ![0, 0] S512x1024.size inb_S1024x1024_S512x1024_0_0))
    (View.ld x9 (Rect.unit (s := S1024x1024) ![512, 0] S512x1024.size inb_S1024x1024_S512x1024_512_0)) x8 x5 x4) = H
  rw [show hb x0 x1 x2 x3 x4 x5 x7 x8 x9 = H from hH]
  simp only [tail_0, tail_1, tail_2, tail_3, tail_4, tail_5, tail_6, tail_7, tail_8, tail_9, tail_10]
  refine Eq.trans (View.canon_append_of_piecesOf (fun y : S8x2816.Idx => gt H x10 ⟨(510 + (y 0).val) % 512, Nat.mod_lt _ (by decide)⟩ (y 1)) [_]
    [_, _, _, _, _, _, _, _, _, _, _] ?_ _ ?_) ?_
  · exact ⟨tail_piece H x10 2560 (by decide) _ inb_S8x2816_S2x256_0_2560,
    tail_piece H x10 2304 (by decide) _ inb_S8x2816_S2x256_0_2304,
    tail_piece H x10 2048 (by decide) _ inb_S8x2816_S2x256_0_2048,
    tail_piece H x10 1792 (by decide) _ inb_S8x2816_S2x256_0_1792,
    tail_piece H x10 1536 (by decide) _ inb_S8x2816_S2x256_0_1536,
    tail_piece H x10 1280 (by decide) _ inb_S8x2816_S2x256_0_1280,
    tail_piece H x10 1024 (by decide) _ inb_S8x2816_S2x256_0_1024,
    tail_piece H x10 768 (by decide) _ inb_S8x2816_S2x256_0_768,
    tail_piece H x10 512 (by decide) _ inb_S8x2816_S2x256_0_512,
    tail_piece H x10 256 (by decide) _ inb_S8x2816_S2x256_0_256,
    tail_piece H x10 0 (by decide) _ inb_S8x2816_S2x256_0_0,
    trivial⟩
  · simp only [List.exists_mem_cons_iff, Rect.mem_set_unit, Fin.forall_fin_two, Matrix.cons_val_zero, Matrix.cons_val_one,
      show ((ix2 ⟨a.val, by omega⟩ j : S8x2816.Idx) 0).val = a.val from rfl,
      show ((ix2 ⟨a.val, by omega⟩ j : S8x2816.Idx) 1).val = j.val from rfl, List.not_mem_nil, false_and, exists_const]
    omega
  · show gt H x10 _ _ = gt H x10 _ _
    congr 1
    exact Fin.ext (show (510 + a.val) % 512 = 510 + a.val by omega)

/-- What the point stores into the result. -/
theorem out_A (hc0 : cond0_0 i) (r : Fin 512) (k : Fin 1024) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 (ix2 r k)
      = xb x0 x1 x2 x3 x7 x9 (ix2 r k) + x6 (ix3 0 0 k) * ∑ j : Fin 2816,
          actT (hb x0 x1 x2 x3 x4 x5 x7 x8 x9) x10 x11 x12 (k0_pay2 (F := Ideal)) r j * x13 (ix2 j k) := by
  frame_open
  simp (disch := decide) only [↓ View.readCov_skip, ↓ View.readCov_cons_toLoadRect, ↓ View.readCov_fill]
  frame_out
  generalize hH : (k0_pay8 (F := Ideal) (k0_pay3 x0) (k0_pay4 x2) (k0_pay5 x3) (k0_pay6 x1 x7)
    (View.ld x9 (Rect.unit (s := S1024x1024) ![0, 0] S512x1024.size inb_S1024x1024_S512x1024_0_0))
    (View.ld x9 (Rect.unit (s := S1024x1024) ![512, 0] S512x1024.size inb_S1024x1024_S512x1024_512_0)) x8 x5 x4) = H
  rw [show hb x0 x1 x2 x3 x4 x5 x7 x8 x9 = H from hH]
  simp only [chunk_0, chunk_1, chunk_2, chunk_3, chunk_4, chunk_5, chunk_6, chunk_7, chunk_8, chunk_9, chunk_10]
  refine (out_apply _ _ _ _ r k).trans ?_
  have e6 : k0_pay96 (F := Ideal) x6 (ix2 0 k) = x6 (ix3 0 0 k) := by pointwise [k0_pay96]
  rw [e6]
  refine congrArg (xb x0 x1 x2 x3 x7 x9 (ix2 r k) + x6 (ix3 0 0 k) * ·) (Finset.sum_congr rfl fun j _ => congrArg (· * x13 (ix2 j k)) ?_)
  refine (congrFun (View.readCov_eq_canon' _ _ _) _).trans ?_
  refine Eq.trans (canon_of_piecesOf (fun y : S512x2816.Idx => actT H x10 x11 x12 (k0_pay2 (F := Ideal)) (y 0) (y 1)) _
    ?_ _ (View.cover_of_tiledL _ ![512, 256] (by rfl) _)) ?_
  · exact ⟨chunk_piece H x10 x11 x12 (k0_pay2 (F := Ideal)) 2560 (by decide) _ _ _ _ _ _ _ _ inb_S512x2816_S512x256_0_2560,
    chunk_piece H x10 x11 x12 (k0_pay2 (F := Ideal)) 2304 (by decide) _ _ _ _ _ _ _ _ inb_S512x2816_S512x256_0_2304,
    chunk_piece H x10 x11 x12 (k0_pay2 (F := Ideal)) 2048 (by decide) _ _ _ _ _ _ _ _ inb_S512x2816_S512x256_0_2048,
    chunk_piece H x10 x11 x12 (k0_pay2 (F := Ideal)) 1792 (by decide) _ _ _ _ _ _ _ _ inb_S512x2816_S512x256_0_1792,
    chunk_piece H x10 x11 x12 (k0_pay2 (F := Ideal)) 1536 (by decide) _ _ _ _ _ _ _ _ inb_S512x2816_S512x256_0_1536,
    chunk_piece H x10 x11 x12 (k0_pay2 (F := Ideal)) 1280 (by decide) _ _ _ _ _ _ _ _ inb_S512x2816_S512x256_0_1280,
    chunk_piece H x10 x11 x12 (k0_pay2 (F := Ideal)) 1024 (by decide) _ _ _ _ _ _ _ _ inb_S512x2816_S512x256_0_1024,
    chunk_piece H x10 x11 x12 (k0_pay2 (F := Ideal)) 768 (by decide) _ _ _ _ _ _ _ _ inb_S512x2816_S512x256_0_768,
    chunk_piece H x10 x11 x12 (k0_pay2 (F := Ideal)) 512 (by decide) _ _ _ _ _ _ _ _ inb_S512x2816_S512x256_0_512,
    chunk_piece H x10 x11 x12 (k0_pay2 (F := Ideal)) 256 (by decide) _ _ _ _ _ _ _ _ inb_S512x2816_S512x256_0_256,
    chunk_piece H x10 x11 x12 (k0_pay2 (F := Ideal)) 0 (by decide) _ _ _ _ _ _ _ _ inb_S512x2816_S512x256_0_0,
    trivial⟩
  exact congrArg₂ (actT H x10 x11 x12 (k0_pay2 (F := Ideal))) (Fin.ext (show 0 + 1 * r.val = r.val by omega))
    (Fin.ext (show 0 + 1 * j.val = j.val by omega))

/-- What the point stores into the state. -/
theorem state_B (hc0 : ¬cond0_0 i) (xs0 : Vec Ideal S8x2816 .f32) (a : Fin 2) (j : Fin 2816) :
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 xs0 (ix3 0 a j)
      = gt (hb x0 x1 x2 x3 x4 x5 x7 x8 x9) x10 ⟨510 + a.val, by omega⟩ j := by
  frame_out
  generalize hH : (k0_pay8 (F := Ideal) (k0_pay3 x0) (k0_pay4 x2) (k0_pay5 x3) (k0_pay6 x1 x7)
    (View.ld x9 (Rect.unit (s := S1024x1024) ![0, 0] S512x1024.size inb_S1024x1024_S512x1024_0_0))
    (View.ld x9 (Rect.unit (s := S1024x1024) ![512, 0] S512x1024.size inb_S1024x1024_S512x1024_512_0)) x8 x5 x4) = H
  rw [show hb x0 x1 x2 x3 x4 x5 x7 x8 x9 = H from hH]
  simp only [tail_0, tail_1, tail_2, tail_3, tail_4, tail_5, tail_6, tail_7, tail_8, tail_9, tail_10]
  refine Eq.trans (canon_of_piecesOf (fun y : S1x2x2816.Idx => gt H x10 ⟨(510 + (y 1).val) % 512, Nat.mod_lt _ (by decide)⟩ (y 2)) _
    ?_ _ (View.cover_of_tiledL _ ![1, 2, 256] (by rfl) _)) ?_
  · exact ⟨state_piece H x10 2560 (by decide) _ inb_S1x2x2816_S1x2x256_0_0_2560,
    state_piece H x10 2304 (by decide) _ inb_S1x2x2816_S1x2x256_0_0_2304,
    state_piece H x10 2048 (by decide) _ inb_S1x2x2816_S1x2x256_0_0_2048,
    state_piece H x10 1792 (by decide) _ inb_S1x2x2816_S1x2x256_0_0_1792,
    state_piece H x10 1536 (by decide) _ inb_S1x2x2816_S1x2x256_0_0_1536,
    state_piece H x10 1280 (by decide) _ inb_S1x2x2816_S1x2x256_0_0_1280,
    state_piece H x10 1024 (by decide) _ inb_S1x2x2816_S1x2x256_0_0_1024,
    state_piece H x10 768 (by decide) _ inb_S1x2x2816_S1x2x256_0_0_768,
    state_piece H x10 512 (by decide) _ inb_S1x2x2816_S1x2x256_0_0_512,
    state_piece H x10 256 (by decide) _ inb_S1x2x2816_S1x2x256_0_0_256,
    state_piece H x10 0 (by decide) _ inb_S1x2x2816_S1x2x256_0_0_0,
    trivial⟩
  show gt H x10 _ _ = gt H x10 _ _
  congr 1
  exact Fin.ext (show (510 + a.val) % 512 = 510 + a.val by omega)

/-- The rows the point carries on to the next. -/
theorem carry_B (hc0 : ¬cond0_0 i) (xs0 : Vec Ideal S8x2816 .f32) (a : Fin 2) (j : Fin 2816) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 xs0 (ix2 ⟨a.val, by omega⟩ j)
      = gt (hb x0 x1 x2 x3 x4 x5 x7 x8 x9) x10 ⟨510 + a.val, by omega⟩ j := by
  frame_out
  generalize hH : (k0_pay8 (F := Ideal) (k0_pay3 x0) (k0_pay4 x2) (k0_pay5 x3) (k0_pay6 x1 x7)
    (View.ld x9 (Rect.unit (s := S1024x1024) ![0, 0] S512x1024.size inb_S1024x1024_S512x1024_0_0))
    (View.ld x9 (Rect.unit (s := S1024x1024) ![512, 0] S512x1024.size inb_S1024x1024_S512x1024_512_0)) x8 x5 x4) = H
  rw [show hb x0 x1 x2 x3 x4 x5 x7 x8 x9 = H from hH]
  simp only [tail_0, tail_1, tail_2, tail_3, tail_4, tail_5, tail_6, tail_7, tail_8, tail_9, tail_10]
  refine (View.read_writes_apply_eq_canon _ _ _ _ ?_).trans ?_
  · simp only [List.exists_mem_cons_iff, Rect.mem_set_unit, Fin.forall_fin_two, Matrix.cons_val_zero, Matrix.cons_val_one,
      show ((ix2 ⟨a.val, by omega⟩ j : S8x2816.Idx) 0).val = a.val from rfl,
      show ((ix2 ⟨a.val, by omega⟩ j : S8x2816.Idx) 1).val = j.val from rfl, List.not_mem_nil, false_and, exists_const]
    omega
  refine Eq.trans (canon_of_piecesOf (fun y : S8x2816.Idx => gt H x10 ⟨(510 + (y 0).val) % 512, Nat.mod_lt _ (by decide)⟩ (y 1)) _
    ?_ _ ?_) ?_
  · exact ⟨tail_piece H x10 2560 (by decide) _ inb_S8x2816_S2x256_0_2560,
    tail_piece H x10 2304 (by decide) _ inb_S8x2816_S2x256_0_2304,
    tail_piece H x10 2048 (by decide) _ inb_S8x2816_S2x256_0_2048,
    tail_piece H x10 1792 (by decide) _ inb_S8x2816_S2x256_0_1792,
    tail_piece H x10 1536 (by decide) _ inb_S8x2816_S2x256_0_1536,
    tail_piece H x10 1280 (by decide) _ inb_S8x2816_S2x256_0_1280,
    tail_piece H x10 1024 (by decide) _ inb_S8x2816_S2x256_0_1024,
    tail_piece H x10 768 (by decide) _ inb_S8x2816_S2x256_0_768,
    tail_piece H x10 512 (by decide) _ inb_S8x2816_S2x256_0_512,
    tail_piece H x10 256 (by decide) _ inb_S8x2816_S2x256_0_256,
    tail_piece H x10 0 (by decide) _ inb_S8x2816_S2x256_0_0,
    trivial⟩
  · simp only [List.exists_mem_cons_iff, Rect.mem_set_unit, Fin.forall_fin_two, Matrix.cons_val_zero, Matrix.cons_val_one,
      show ((ix2 ⟨a.val, by omega⟩ j : S8x2816.Idx) 0).val = a.val from rfl,
      show ((ix2 ⟨a.val, by omega⟩ j : S8x2816.Idx) 1).val = j.val from rfl, List.not_mem_nil, false_and, exists_const]
    omega
  · show gt H x10 _ _ = gt H x10 _ _
    congr 1
    exact Fin.ext (show (510 + a.val) % 512 = 510 + a.val by omega)

/-- What the point stores into the result. -/
theorem out_B (hc0 : ¬cond0_0 i) (xs0 : Vec Ideal S8x2816 .f32) (r : Fin 512) (k : Fin 1024) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 xs0 (ix2 r k)
      = xb x0 x1 x2 x3 x7 x9 (ix2 r k) + x6 (ix3 0 0 k) * ∑ j : Fin 2816,
          actT (hb x0 x1 x2 x3 x4 x5 x7 x8 x9) x10 x11 x12 xs0 r j * x13 (ix2 j k) := by
  frame_out
  generalize hH : (k0_pay8 (F := Ideal) (k0_pay3 x0) (k0_pay4 x2) (k0_pay5 x3) (k0_pay6 x1 x7)
    (View.ld x9 (Rect.unit (s := S1024x1024) ![0, 0] S512x1024.size inb_S1024x1024_S512x1024_0_0))
    (View.ld x9 (Rect.unit (s := S1024x1024) ![512, 0] S512x1024.size inb_S1024x1024_S512x1024_512_0)) x8 x5 x4) = H
  rw [show hb x0 x1 x2 x3 x4 x5 x7 x8 x9 = H from hH]
  simp only [chunk_0, chunk_1, chunk_2, chunk_3, chunk_4, chunk_5, chunk_6, chunk_7, chunk_8, chunk_9, chunk_10]
  refine (out_apply _ _ _ _ r k).trans ?_
  have e6 : k0_pay96 (F := Ideal) x6 (ix2 0 k) = x6 (ix3 0 0 k) := by pointwise [k0_pay96]
  rw [e6]
  refine congrArg (xb x0 x1 x2 x3 x7 x9 (ix2 r k) + x6 (ix3 0 0 k) * ·) (Finset.sum_congr rfl fun j _ => congrArg (· * x13 (ix2 j k)) ?_)
  refine (congrFun (View.readCov_eq_canon' _ _ _) _).trans ?_
  refine Eq.trans (canon_of_piecesOf (fun y : S512x2816.Idx => actT H x10 x11 x12 xs0 (y 0) (y 1)) _
    ?_ _ (View.cover_of_tiledL _ ![512, 256] (by rfl) _)) ?_
  · exact ⟨chunk_piece H x10 x11 x12 xs0 2560 (by decide) _ _ _ _ _ _ _ _ inb_S512x2816_S512x256_0_2560,
    chunk_piece H x10 x11 x12 xs0 2304 (by decide) _ _ _ _ _ _ _ _ inb_S512x2816_S512x256_0_2304,
    chunk_piece H x10 x11 x12 xs0 2048 (by decide) _ _ _ _ _ _ _ _ inb_S512x2816_S512x256_0_2048,
    chunk_piece H x10 x11 x12 xs0 1792 (by decide) _ _ _ _ _ _ _ _ inb_S512x2816_S512x256_0_1792,
    chunk_piece H x10 x11 x12 xs0 1536 (by decide) _ _ _ _ _ _ _ _ inb_S512x2816_S512x256_0_1536,
    chunk_piece H x10 x11 x12 xs0 1280 (by decide) _ _ _ _ _ _ _ _ inb_S512x2816_S512x256_0_1280,
    chunk_piece H x10 x11 x12 xs0 1024 (by decide) _ _ _ _ _ _ _ _ inb_S512x2816_S512x256_0_1024,
    chunk_piece H x10 x11 x12 xs0 768 (by decide) _ _ _ _ _ _ _ _ inb_S512x2816_S512x256_0_768,
    chunk_piece H x10 x11 x12 xs0 512 (by decide) _ _ _ _ _ _ _ _ inb_S512x2816_S512x256_0_512,
    chunk_piece H x10 x11 x12 xs0 256 (by decide) _ _ _ _ _ _ _ _ inb_S512x2816_S512x256_0_256,
    chunk_piece H x10 x11 x12 xs0 0 (by decide) _ _ _ _ _ _ _ _ inb_S512x2816_S512x256_0_0,
    trivial⟩
  exact congrArg₂ (actT H x10 x11 x12 xs0) (Fin.ext (show 0 + 1 * r.val = r.val by omega))
    (Fin.ext (show 0 + 1 * j.val = j.val by omega))

end Cert.FfnIdeal.Val
-- ==== Proof.FfnBlock.lean ====
module

public import proofs.«01_k».proof.Proof.FfnBody

@[expose] public section

set_option maxRecDepth 16384

/-!
# One point's blocks, row by row
-/

noncomputable section

namespace Cert.FfnIdeal.Val

open Cert.FfnIdeal Cert.FfnIdeal.Gen Idealize.ShloMosaic Idealize.ShloMosaic.TcCoe Idealize.SL.Sem

section Blocks

variable (x0 : Vec Ideal S512x1024 .f32) (x1 x2 : Vec Ideal S512x512 .f32) (x3 x4 x5 x6 : Vec Ideal S1x1x1024 .f32)
  (x7 : Vec Ideal S1x512 .f32) (x8 : Vec Ideal S1x1024 .f32) (x9 : Vec Ideal S1024x1024 .bf16) (x10 : Vec Ideal S1024x5632 .bf16)
  (x11 : Vec Ideal S3x2816 .f32) (x12 : Vec Ideal S1x2816 .f32) (x13 : Vec Ideal S2816x1024 .bf16) (xs : Vec Ideal S8x2816 .f32)

/-- The weights a point reads. -/
def bP : FfnRow.Par where
  ag i := x7 (ix2 0 i)
  ng i := x8 (ix2 0 i)
  wo i j := x9 (ix2 i j)
  w1 i j := x10 (ix2 i j)
  cw i j := x11 (ix2 i j)
  cb i := x12 (ix2 0 i)
  w2 i j := x13 (ix2 i j)

/-- The modulation a point reads. -/
def bM : FfnRow.Mod where
  g1 k := x3 (ix3 0 0 k)
  t2 k := x4 (ix3 0 0 k)
  s2 k := x5 (ix3 0 0 k)
  g2 k := x6 (ix3 0 0 k)

/-- Row `r` of the point's block after the first product and gate. -/
def bY (r : Fin 512) : Fin 1024 → EReal :=
  FfnRow.res (bP x7 x8 x9 x10 x11 x12 x13) (bM x3 x4 x5 x6) (fun k => x0 (ix2 r k)) (fun i => x1 (ix2 r i)) (fun i => x2 (ix2 r i))

/-- The first half of the rows of the output weights. -/
theorem ld_wo0 (i1) (x : Fin 512) (k : Fin 1024) :
    View.ld x9 (Rect.unit (s := S1024x1024) ![0, 0] S512x1024.size i1) (ix2 x k) = x9 (ix2 ⟨x.val, by omega⟩ k) := by
  pointwise
/-- The second half of the rows of the output weights. -/
theorem ld_wo1 (i1) (x : Fin 512) (k : Fin 1024) :
    View.ld x9 (Rect.unit (s := S1024x1024) ![512, 0] S512x1024.size i1) (ix2 x k) = x9 (ix2 ⟨512 + x.val, by omega⟩ k) := by
  pointwise

/-- The kernel's row after the first product and gate. -/
theorem xb_apply (r : Fin 512) (k : Fin 1024) :
    xb x0 x1 x2 x3 x7 x9 (ix2 r k) = bY x0 x1 x2 x3 x4 x5 x6 x7 x8 x9 x10 x11 x12 x13 r k := by
  have e3 : k0_pay3 (F := Ideal) x0 (ix2 r k) = x0 (ix2 r k) := by pointwise [k0_pay3]
  have e5 : k0_pay5 (F := Ideal) x3 (ix2 0 k) = x3 (ix3 0 0 k) := by pointwise [k0_pay5]
  have e4 : ∀ x, k0_pay4 (F := Ideal) x2 (ix2 r x) = x2 (ix2 r x) := fun x => by pointwise [k0_pay4]
  refine (x1_apply _ _ _ _ _ _ r k).trans ?_
  rw [e3, e5]
  unfold bY FfnRow.res
  refine congrArg₂ (fun a b => x0 (ix2 r k) + x3 (ix3 0 0 k) * (a + b)) (Finset.sum_congr rfl fun x _ => ?_)
    (Finset.sum_congr rfl fun x _ => ?_)
  · exact congrArg₂ (· * ·) (att_apply x1 x7 r x) (ld_wo0 x9 _ x k)
  · exact congrArg₂ (· * ·) (e4 x) (ld_wo1 x9 _ x k)

/-- The kernel's normalised and modulated row. -/
theorem hb_apply (r : Fin 512) (d : Fin 1024) :
    hb x0 x1 x2 x3 x4 x5 x7 x8 x9 (ix2 r d)
      = FfnRow.hid (bP x7 x8 x9 x10 x11 x12 x13) (bM x3 x4 x5 x6) (bY x0 x1 x2 x3 x4 x5 x6 x7 x8 x9 x10 x11 x12 x13 r) d := by
  refine (h2_apply _ _ _ _ _ _ _ _ _ r d).trans ?_
  have e : (fun i => k0_pay7 (F := Ideal) (k0_pay3 x0) (k0_pay4 x2) (k0_pay5 x3) (k0_pay6 x1 x7)
      (View.ld x9 (Rect.unit (s := S1024x1024) ![0, 0] S512x1024.size inb_S1024x1024_S512x1024_0_0))
      (View.ld x9 (Rect.unit (s := S1024x1024) ![512, 0] S512x1024.size inb_S1024x1024_S512x1024_512_0)) (ix2 r i))
      = bY x0 x1 x2 x3 x4 x5 x6 x7 x8 x9 x10 x11 x12 x13 r :=
    funext fun i => xb_apply x0 x1 x2 x3 x4 x5 x6 x7 x8 x9 x10 x11 x12 x13 r i
  rw [e]
  rfl

/-- The kernel's gate part. -/
theorem gt_apply (r : Fin 512) (j : Fin 2816) :
    gt (hb x0 x1 x2 x3 x4 x5 x7 x8 x9) x10 r j = FfnRow.gate (bP x7 x8 x9 x10 x11 x12 x13)
      (FfnRow.hid (bP x7 x8 x9 x10 x11 x12 x13) (bM x3 x4 x5 x6) (bY x0 x1 x2 x3 x4 x5 x6 x7 x8 x9 x10 x11 x12 x13 r)) j :=
  Finset.sum_congr rfl fun d _ => congrArg (· * x10 (ix2 d ⟨j.val, by omega⟩)) (hb_apply x0 x1 x2 x3 x4 x5 x6 x7 x8 x9 x10 x11 x12 x13 r d)

/-- The kernel's up part. -/
theorem ut_apply (r : Fin 512) (j : Fin 2816) :
    ut (hb x0 x1 x2 x3 x4 x5 x7 x8 x9) x10 r j = FfnRow.up (bP x7 x8 x9 x10 x11 x12 x13)
      (FfnRow.hid (bP x7 x8 x9 x10 x11 x12 x13) (bM x3 x4 x5 x6) (bY x0 x1 x2 x3 x4 x5 x6 x7 x8 x9 x10 x11 x12 x13 r)) j :=
  Finset.sum_congr rfl fun d _ => congrArg (· * x10 (ix2 d ⟨2816 + j.val, by omega⟩)) (hb_apply x0 x1 x2 x3 x4 x5 x6 x7 x8 x9 x10 x11 x12 x13 r d)

/-- The kernel's result row is the layer's, from the gate parts of the two rows before. -/
theorem out_row (r : Fin 512) (k : Fin 1024) :
    xb x0 x1 x2 x3 x7 x9 (ix2 r k) + x6 (ix3 0 0 k) * ∑ j : Fin 2816,
          actT (hb x0 x1 x2 x3 x4 x5 x7 x8 x9) x10 x11 x12 xs r j * x13 (ix2 j k)
      = FfnRow.out (bP x7 x8 x9 x10 x11 x12 x13) (bM x3 x4 x5 x6) (bY x0 x1 x2 x3 x4 x5 x6 x7 x8 x9 x10 x11 x12 x13 r)
          (gb (hb x0 x1 x2 x3 x4 x5 x7 x8 x9) x10 xs r) (ga (hb x0 x1 x2 x3 x4 x5 x7 x8 x9) x10 xs r) k := by
  rw [xb_apply x0 x1 x2 x3 x4 x5 x6 x7 x8 x9 x10 x11 x12 x13]
  unfold FfnRow.out
  refine congrArg (bY x0 x1 x2 x3 x4 x5 x6 x7 x8 x9 x10 x11 x12 x13 r k + x6 (ix3 0 0 k) * ·)
    (Finset.sum_congr rfl fun j _ => congrArg (· * x13 (ix2 j k)) ?_)
  unfold actT FfnRow.act FfnRow.conv
  rw [gt_apply x0 x1 x2 x3 x4 x5 x6 x7 x8 x9 x10 x11 x12 x13, ut_apply x0 x1 x2 x3 x4 x5 x6 x7 x8 x9 x10 x11 x12 x13]
  rfl

end Blocks

end Cert.FfnIdeal.Val
-- ==== Proof.FfnIn.lean ====
module

public import proofs.«01_k».proof.Proof.FfnSpec

@[expose] public section

set_option maxRecDepth 16384

/-!
# The feed-forward layer over whole arrays
-/

noncomputable section

namespace FfnRow

open Idealize.ShloMosaic

/-- The layer's arrays. -/
structure In where
  x : (⟨3, ![4, 4096, 1024]⟩ : Shape).Idx → EReal
  att : (⟨3, ![4, 4096, 512]⟩ : Shape).Idx → EReal
  cvn : (⟨3, ![4, 4096, 512]⟩ : Shape).Idx → EReal
  g1 : (⟨3, ![4, 1, 1024]⟩ : Shape).Idx → EReal
  t2 : (⟨3, ![4, 1, 1024]⟩ : Shape).Idx → EReal
  s2 : (⟨3, ![4, 1, 1024]⟩ : Shape).Idx → EReal
  g2 : (⟨3, ![4, 1, 1024]⟩ : Shape).Idx → EReal
  ag : (⟨1, ![512]⟩ : Shape).Idx → EReal
  ng : (⟨1, ![1024]⟩ : Shape).Idx → EReal
  wo : (⟨2, ![1024, 1024]⟩ : Shape).Idx → EReal
  w1 : (⟨2, ![1024, 5632]⟩ : Shape).Idx → EReal
  cw : (⟨2, ![3, 2816]⟩ : Shape).Idx → EReal
  cb : (⟨1, ![2816]⟩ : Shape).Idx → EReal
  w2 : (⟨2, ![2816, 1024]⟩ : Shape).Idx → EReal

namespace In

variable (I : In)

/-- The weights. -/
def par : Par where
  ag i := I.ag (ix1 i)
  ng i := I.ng (ix1 i)
  wo i j := I.wo (ix2 i j)
  w1 i j := I.w1 (ix2 i j)
  cw i j := I.cw (ix2 i j)
  cb i := I.cb (ix1 i)
  w2 i j := I.w2 (ix2 i j)

/-- The modulation of batch member `b`. -/
def mod (b : Fin 4) : Mod where
  g1 k := I.g1 (ix3 b 0 k)
  t2 k := I.t2 (ix3 b 0 k)
  s2 k := I.s2 (ix3 b 0 k)
  g2 k := I.g2 (ix3 b 0 k)

/-- The row after the first product and gate. -/
def y (b : Fin 4) (s : Fin 4096) : Fin 1024 → EReal :=
  res I.par (I.mod b) (fun k => I.x (ix3 b s k)) (fun i => I.att (ix3 b s i)) (fun i => I.cvn (ix3 b s i))

/-- Its gate part. -/
def g (b : Fin 4) (s : Fin 4096) (j : Fin 2816) : EReal := gate I.par (hid I.par (I.mod b) (I.y b s)) j

/-- The gate part `d` rows before, zero before the first row. -/
def prev (b : Fin 4) (s : Fin 4096) (d : ℕ) (j : Fin 2816) : EReal := if d ≤ s.val then I.g b ⟨s.val - d, by omega⟩ j else 0

/-- The result. -/
def result (b : Fin 4) (s : Fin 4096) (k : Fin 1024) : EReal :=
  out I.par (I.mod b) (I.y b s) (I.prev b s 2) (I.prev b s 1) k

/-- The last two gate parts. -/
def state (b : Fin 4) (a : Fin 2) (j : Fin 2816) : EReal := I.g b ⟨4094 + a.val, by omega⟩ j

end In

end FfnRow
-- ==== Proof.FfnHost.lean ====
module

public import proofs.«01_k».proof.Proof.FfnBlock
public import proofs.«01_k».proof.Proof.FfnIn
public import Idealize.ShloMosaic.Lib.KernelVsHost

@[expose] public section

set_option maxRecDepth 16384

/-!
# The arrays the feed-forward kernel is given
-/

noncomputable section

namespace Cert.FfnIdeal.Val

open Cert.FfnIdeal Cert.FfnIdeal.Gen Idealize.ShloMosaic Idealize.ShloMosaic.TcCoe Idealize.SL.Sem Idealize.ShloMosaic.StableHlo

variable (m : (ℓ : Loc nD τ sig) → Buf (Elt Ideal) ℓ) (c : Dev nD)

/-- The layer's arrays. -/
def inp : FfnRow.In where
  x := m (c, Proc.tc.devRef main_arg0)
  att := m (c, Proc.tc.devRef main_arg1)
  cvn := m (c, Proc.tc.devRef main_arg2)
  g1 := m (c, Proc.tc.devRef main_arg3)
  t2 := m (c, Proc.tc.devRef main_arg4)
  s2 := m (c, Proc.tc.devRef main_arg5)
  g2 := m (c, Proc.tc.devRef main_arg6)
  ag := m (c, Proc.tc.devRef main_arg7)
  ng := m (c, Proc.tc.devRef main_arg8)
  wo := m (c, Proc.tc.devRef main_arg9)
  w1 := m (c, Proc.tc.devRef main_arg10)
  cw := m (c, Proc.tc.devRef main_arg11)
  cb := m (c, Proc.tc.devRef main_arg12)
  w2 := m (c, Proc.tc.devRef main_arg13)

/-- The input, its rows in one list. -/
def Ax : S16384x1024.Idx → EReal := V m c main_v0

/-- … at an entry. -/
theorem Ax_apply (n : Fin 16384) (k : Fin 1024) : Ax m c (ix2 n k) = (inp m c).x (ix3 ⟨n.val / 4096, by omega⟩ ⟨n.val % 4096, by omega⟩ k) := by
  unfold Ax inp
  unfold_abbrev_sides
  simp only [List.flatten_cons, List.flatten_nil, List.cons_append, List.nil_append]
  after_results
  pointwise

/-- The attention, its rows in one list. -/
def Aatt : S16384x512.Idx → EReal := V m c main_v1

/-- … at an entry. -/
theorem Aatt_apply (n : Fin 16384) (k : Fin 512) : Aatt m c (ix2 n k) = (inp m c).att (ix3 ⟨n.val / 4096, by omega⟩ ⟨n.val % 4096, by omega⟩ k) := by
  unfold Aatt inp
  unfold_abbrev_sides
  simp only [List.flatten_cons, List.flatten_nil, List.cons_append, List.nil_append]
  after_results
  pointwise

/-- The convolution, its rows in one list. -/
def Acvn : S16384x512.Idx → EReal := V m c main_v2

/-- … at an entry. -/
theorem Acvn_apply (n : Fin 16384) (k : Fin 512) : Acvn m c (ix2 n k) = (inp m c).cvn (ix3 ⟨n.val / 4096, by omega⟩ ⟨n.val % 4096, by omega⟩ k) := by
  unfold Acvn inp
  unfold_abbrev_sides
  simp only [List.flatten_cons, List.flatten_nil, List.cons_append, List.nil_append]
  after_results
  pointwise

/-- The first gain as one row. -/
def Aag : S1x512.Idx → EReal := V m c main_v3

/-- … at an entry. -/
theorem Aag_apply (k : Fin 512) : Aag m c (ix2 0 k) = (inp m c).ag (ix1 k) := by
  unfold Aag inp
  unfold_abbrev_sides
  simp only [List.flatten_cons, List.flatten_nil, List.cons_append, List.nil_append]
  after_results
  pointwise

/-- The second gain as one row. -/
def Ang : S1x1024.Idx → EReal := V m c main_v4

/-- … at an entry. -/
theorem Ang_apply (k : Fin 1024) : Ang m c (ix2 0 k) = (inp m c).ng (ix1 k) := by
  unfold Ang inp
  unfold_abbrev_sides
  simp only [List.flatten_cons, List.flatten_nil, List.cons_append, List.nil_append]
  after_results
  pointwise

/-- The output weights. -/
def Awo : S1024x1024.Idx → EReal := V m c main_v5

/-- … at an entry. -/
theorem Awo_apply (i : Fin 1024) (k : Fin 1024) : Awo m c (ix2 i k) = (inp m c).wo (ix2 i k) := by
  unfold Awo inp
  unfold_abbrev_sides
  simp only [List.flatten_cons, List.flatten_nil, List.cons_append, List.nil_append]
  after_results
  pointwise

/-- The first weights. -/
def Aw1 : S1024x5632.Idx → EReal := V m c main_v6

/-- … at an entry. -/
theorem Aw1_apply (i : Fin 1024) (k : Fin 5632) : Aw1 m c (ix2 i k) = (inp m c).w1 (ix2 i k) := by
  unfold Aw1 inp
  unfold_abbrev_sides
  simp only [List.flatten_cons, List.flatten_nil, List.cons_append, List.nil_append]
  after_results
  pointwise

/-- The bias as one row. -/
def Acb : S1x2816.Idx → EReal := V m c main_v7

/-- … at an entry. -/
theorem Acb_apply (k : Fin 2816) : Acb m c (ix2 0 k) = (inp m c).cb (ix1 k) := by
  unfold Acb inp
  unfold_abbrev_sides
  simp only [List.flatten_cons, List.flatten_nil, List.cons_append, List.nil_append]
  after_results
  pointwise

/-- The second weights. -/
def Aw2 : S2816x1024.Idx → EReal := V m c main_v8

/-- … at an entry. -/
theorem Aw2_apply (i : Fin 2816) (k : Fin 1024) : Aw2 m c (ix2 i k) = (inp m c).w2 (ix2 i k) := by
  unfold Aw2 inp
  unfold_abbrev_sides
  simp only [List.flatten_cons, List.flatten_nil, List.cons_append, List.nil_append]
  after_results
  pointwise

/-- The first gate. -/
def Ag1 : S4x1x1024.Idx → EReal := V m c main_arg3

/-- … at an entry. -/
theorem Ag1_apply (b : Fin 4) (k : Fin 1024) : Ag1 m c (ix3 b 0 k) = (inp m c).g1 (ix3 b 0 k) := by
  unfold Ag1 inp
  unfold_abbrev_sides
  simp only [List.flatten_cons, List.flatten_nil, List.cons_append, List.nil_append]
  after_results

/-- The shift. -/
def At2 : S4x1x1024.Idx → EReal := V m c main_arg4

/-- … at an entry. -/
theorem At2_apply (b : Fin 4) (k : Fin 1024) : At2 m c (ix3 b 0 k) = (inp m c).t2 (ix3 b 0 k) := by
  unfold At2 inp
  unfold_abbrev_sides
  simp only [List.flatten_cons, List.flatten_nil, List.cons_append, List.nil_append]
  after_results

/-- The scale. -/
def As2 : S4x1x1024.Idx → EReal := V m c main_arg5

/-- … at an entry. -/
theorem As2_apply (b : Fin 4) (k : Fin 1024) : As2 m c (ix3 b 0 k) = (inp m c).s2 (ix3 b 0 k) := by
  unfold As2 inp
  unfold_abbrev_sides
  simp only [List.flatten_cons, List.flatten_nil, List.cons_append, List.nil_append]
  after_results

/-- The second gate. -/
def Ag2 : S4x1x1024.Idx → EReal := V m c main_arg6

/-- … at an entry. -/
theorem Ag2_apply (b : Fin 4) (k : Fin 1024) : Ag2 m c (ix3 b 0 k) = (inp m c).g2 (ix3 b 0 k) := by
  unfold Ag2 inp
  unfold_abbrev_sides
  simp only [List.flatten_cons, List.flatten_nil, List.cons_append, List.nil_append]
  after_results

/-- The convolution's weights. -/
def Acw : S3x2816.Idx → EReal := V m c main_arg11

/-- … at an entry. -/
theorem Acw_apply (a : Fin 3) (k : Fin 2816) : Acw m c (ix2 a k) = (inp m c).cw (ix2 a k) := by
  unfold Acw inp
  unfold_abbrev_sides
  simp only [List.flatten_cons, List.flatten_nil, List.cons_append, List.nil_append]
  after_results

end Cert.FfnIdeal.Val
-- ==== Proof.FfnArr.lean ====
module

public import proofs.«01_k».proof.Proof.FfnHost
public import Idealize.ShloMosaic.Lib.Pipeline.Covers

@[expose] public section

set_option maxRecDepth 16384

/-!
# The arrays the feed-forward kernel leaves
-/

noncomputable section

namespace Cert.FfnIdeal.Val

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The block each window is on. -/
theorem idx_facts : ∀ t : Fin cfg0.N, (cfg0.win 0).index t = ![t.val, 0]
    ∧ (cfg0.win 1).index t = ![t.val, 0]
    ∧ (cfg0.win 2).index t = ![t.val, 0]
    ∧ (cfg0.win 3).index t = ![t.val / 8, 0, 0]
    ∧ (cfg0.win 4).index t = ![t.val / 8, 0, 0]
    ∧ (cfg0.win 5).index t = ![t.val / 8, 0, 0]
    ∧ (cfg0.win 6).index t = ![t.val / 8, 0, 0]
    ∧ (cfg0.win 7).index t = ![0, 0]
    ∧ (cfg0.win 8).index t = ![0, 0]
    ∧ (cfg0.win 9).index t = ![0, 0]
    ∧ (cfg0.win 10).index t = ![0, 0]
    ∧ (cfg0.win 11).index t = ![0, 0]
    ∧ (cfg0.win 12).index t = ![0, 0]
    ∧ (cfg0.win 13).index t = ![0, 0]
    ∧ (cfg0.win 14).index t = ![t.val, 0]
    ∧ (cfg0.win 15).index t = ![t.val / 8, 0, 0] := by decide +kernel

/-- There are 32 points. -/
theorem tlt (t : Fin cfg0.N) : t.val < 32 := lt_of_lt_of_eq t.isLt N_0

/-- The batch member of a point. -/
def bt (t : Fin cfg0.N) : Fin 4 := ⟨t.val / 8, by have := tlt t; omega⟩

/-- The position of row `r` of a point. -/
def st (t : Fin cfg0.N) (r : Fin 512) : Fin 4096 := ⟨512 * (t.val % 8) + r.val, by omega⟩

/-- A point's input. -/
theorem iblk0 (t : Fin cfg0.N) (r : Fin 512) (k : Fin 1024) : (iblk m c 0 t : Vec Ideal S512x1024 .f32) (ix2 r k) = Ax m c (ix2 ⟨512 * t.val + r.val, by have := tlt t; omega⟩ k) := by
  unfold Ax
  blk_ext [iblk, V, (idx_facts t).1]

/-- A point's attention. -/
theorem iblk1 (t : Fin cfg0.N) (r : Fin 512) (k : Fin 512) : (iblk m c 1 t : Vec Ideal S512x512 .f32) (ix2 r k) = Aatt m c (ix2 ⟨512 * t.val + r.val, by have := tlt t; omega⟩ k) := by
  unfold Aatt
  blk_ext [iblk, V, (idx_facts t).2.1]

/-- A point's convolution. -/
theorem iblk2 (t : Fin cfg0.N) (r : Fin 512) (k : Fin 512) : (iblk m c 2 t : Vec Ideal S512x512 .f32) (ix2 r k) = Acvn m c (ix2 ⟨512 * t.val + r.val, by have := tlt t; omega⟩ k) := by
  unfold Acvn
  blk_ext [iblk, V, (idx_facts t).2.2.1]

/-- A point's first gate. -/
theorem iblk3 (t : Fin cfg0.N) (k : Fin 1024) : (iblk m c 3 t : Vec Ideal S1x1x1024 .f32) (ix3 0 0 k) = Ag1 m c (ix3 (bt t) 0 k) := by
  unfold Ag1 bt
  blk_ext [iblk, V, (idx_facts t).2.2.2.1]

/-- A point's shift. -/
theorem iblk4 (t : Fin cfg0.N) (k : Fin 1024) : (iblk m c 4 t : Vec Ideal S1x1x1024 .f32) (ix3 0 0 k) = At2 m c (ix3 (bt t) 0 k) := by
  unfold At2 bt
  blk_ext [iblk, V, (idx_facts t).2.2.2.2.1]

/-- A point's scale. -/
theorem iblk5 (t : Fin cfg0.N) (k : Fin 1024) : (iblk m c 5 t : Vec Ideal S1x1x1024 .f32) (ix3 0 0 k) = As2 m c (ix3 (bt t) 0 k) := by
  unfold As2 bt
  blk_ext [iblk, V, (idx_facts t).2.2.2.2.2.1]

/-- A point's second gate. -/
theorem iblk6 (t : Fin cfg0.N) (k : Fin 1024) : (iblk m c 6 t : Vec Ideal S1x1x1024 .f32) (ix3 0 0 k) = Ag2 m c (ix3 (bt t) 0 k) := by
  unfold Ag2 bt
  blk_ext [iblk, V, (idx_facts t).2.2.2.2.2.2.1]

/-- A point's first gain. -/
theorem iblk7 (t : Fin cfg0.N) (k : Fin 512) : (iblk m c 7 t : Vec Ideal S1x512 .f32) (ix2 0 k) = Aag m c (ix2 0 k) := by
  unfold Aag
  blk_ext [iblk, V, (idx_facts t).2.2.2.2.2.2.2.1]

/-- A point's second gain. -/
theorem iblk8 (t : Fin cfg0.N) (k : Fin 1024) : (iblk m c 8 t : Vec Ideal S1x1024 .f32) (ix2 0 k) = Ang m c (ix2 0 k) := by
  unfold Ang
  blk_ext [iblk, V, (idx_facts t).2.2.2.2.2.2.2.2.1]

/-- A point's output weights. -/
theorem iblk9 (t : Fin cfg0.N) (i : Fin 1024) (k : Fin 1024) : (iblk m c 9 t : Vec Ideal S1024x1024 .bf16) (ix2 i k) = Awo m c (ix2 i k) := by
  unfold Awo
  blk_ext [iblk, V, (idx_facts t).2.2.2.2.2.2.2.2.2.1]

/-- A point's first weights. -/
theorem iblk10 (t : Fin cfg0.N) (i : Fin 1024) (k : Fin 5632) : (iblk m c 10 t : Vec Ideal S1024x5632 .bf16) (ix2 i k) = Aw1 m c (ix2 i k) := by
  unfold Aw1
  blk_ext [iblk, V, (idx_facts t).2.2.2.2.2.2.2.2.2.2.1]

/-- A point's convolution weights. -/
theorem iblk11 (t : Fin cfg0.N) (i : Fin 3) (k : Fin 2816) : (iblk m c 11 t : Vec Ideal S3x2816 .f32) (ix2 i k) = Acw m c (ix2 i k) := by
  unfold Acw
  blk_ext [iblk, V, (idx_facts t).2.2.2.2.2.2.2.2.2.2.2.1]

/-- A point's bias. -/
theorem iblk12 (t : Fin cfg0.N) (k : Fin 2816) : (iblk m c 12 t : Vec Ideal S1x2816 .f32) (ix2 0 k) = Acb m c (ix2 0 k) := by
  unfold Acb
  blk_ext [iblk, V, (idx_facts t).2.2.2.2.2.2.2.2.2.2.2.2.1]

/-- A point's second weights. -/
theorem iblk13 (t : Fin cfg0.N) (i : Fin 2816) (k : Fin 1024) : (iblk m c 13 t : Vec Ideal S2816x1024 .bf16) (ix2 i k) = Aw2 m c (ix2 i k) := by
  unfold Aw2
  blk_ext [iblk, V, (idx_facts t).2.2.2.2.2.2.2.2.2.2.2.2.2.1]

/-- A point's weights are the layer's. -/
theorem par_eq (t : Fin cfg0.N) : bP (iblk m c 7 t) (iblk m c 8 t) (iblk m c 9 t) (iblk m c 10 t) (iblk m c 11 t) (iblk m c 12 t) (iblk m c 13 t) = (inp m c).par := by
  unfold bP FfnRow.In.par
  congr 1
  · funext i; exact (iblk7 m c t i).trans (Aag_apply m c i)
  · funext i; exact (iblk8 m c t i).trans (Ang_apply m c i)
  · funext i k; exact (iblk9 m c t i k).trans (Awo_apply m c i k)
  · funext i k; exact (iblk10 m c t i k).trans (Aw1_apply m c i k)
  · funext i k; exact (iblk11 m c t i k).trans (Acw_apply m c i k)
  · funext i; exact (iblk12 m c t i).trans (Acb_apply m c i)
  · funext i k; exact (iblk13 m c t i k).trans (Aw2_apply m c i k)

/-- A point's modulation is its batch member's. -/
theorem mod_eq (t : Fin cfg0.N) : bM (iblk m c 3 t) (iblk m c 4 t) (iblk m c 5 t) (iblk m c 6 t) = (inp m c).mod (bt t) := by
  unfold bM FfnRow.In.mod
  congr 1
  · funext k; exact (iblk3 m c t k).trans (Ag1_apply m c _ k)
  · funext k; exact (iblk4 m c t k).trans (At2_apply m c _ k)
  · funext k; exact (iblk5 m c t k).trans (As2_apply m c _ k)
  · funext k; exact (iblk6 m c t k).trans (Ag2_apply m c _ k)

/-- A point's rows are the layer's at its positions. -/
theorem y_eq (t : Fin cfg0.N) (r : Fin 512) : bY (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r = (inp m c).y (bt t) (st t r) := by
  unfold bY FfnRow.In.y
  have hb : ∀ h, (⟨(512 * t.val + r.val) / 4096, h⟩ : Fin 4) = bt t := fun h => Fin.ext (by
    show (512 * t.val + r.val) / 4096 = t.val / 8
    omega)
  have hs : ∀ h, (⟨(512 * t.val + r.val) % 4096, h⟩ : Fin 4096) = st t r := fun h => Fin.ext (by
    show (512 * t.val + r.val) % 4096 = 512 * (t.val % 8) + r.val
    omega)
  rw [par_eq, mod_eq]
  congr 1
  · funext k; rw [iblk0, Ax_apply, hb, hs]
  · funext k; rw [iblk1, Aatt_apply, hb, hs]
  · funext k; rw [iblk2, Acvn_apply, hb, hs]

/-- A point's normalised and modulated rows. -/
def hB (t : Fin cfg0.N) : FVec Ideal S512x1024 .bf16 :=
  hb (iblk m c 0 t) (iblk m c 1 t) (iblk m c 2 t) (iblk m c 3 t) (iblk m c 4 t) (iblk m c 5 t) (iblk m c 7 t) (iblk m c 8 t) (iblk m c 9 t)

/-- A point's gate part is the layer's. -/
theorem gt_eq (t : Fin cfg0.N) (r : Fin 512) (j : Fin 2816) : gt (hB m c t) (iblk m c 10 t) r j = (inp m c).g (bt t) (st t r) j := by
  unfold hB
  rw [gt_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), par_eq, mod_eq, y_eq]
  rfl

/-- The rows a point carries on are the gate parts of its last two rows. -/
theorem carry_eq (t : Fin cfg0.N) (a : Fin 2) (j : Fin 2816) :
    (outsAt0 m c t.val t.isLt).2.2 (ix2 ⟨a.val, by omega⟩ j) = (inp m c).g (bt t) (st t ⟨510 + a.val, by omega⟩) j := by
  rw [← gt_eq]
  unfold hB
  by_cases h0 : t.val % 8 = 0
  · rw [outsAt0_A m c t h0]
    dsimp only
    exact carry_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((hcond0_0 t).mpr h0) a j
  · rw [outsAt0_B m c t h0]
    dsimp only
    exact carry_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (fun h => h0 ((hcond0_0 t).mp h)) (outsAt0 m c (t.val - 1) (Nat.lt_of_le_of_lt (Nat.sub_le _ _) t.isLt)).2.2 a j

/-- The state a point stores is the gate parts of its last two rows. -/
theorem state_eq (t : Fin cfg0.N) (a : Fin 2) (j : Fin 2816) :
    (outsAt0 m c t.val t.isLt).2.1 (ix3 0 a j) = (inp m c).g (bt t) (st t ⟨510 + a.val, by omega⟩) j := by
  rw [← gt_eq]
  unfold hB
  by_cases h0 : t.val % 8 = 0
  · rw [outsAt0_A m c t h0]
    dsimp only
    exact state_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((hcond0_0 t).mpr h0) a j
  · rw [outsAt0_B m c t h0]
    dsimp only
    exact state_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (fun h => h0 ((hcond0_0 t).mp h)) (outsAt0 m c (t.val - 1) (Nat.lt_of_le_of_lt (Nat.sub_le _ _) t.isLt)).2.2 a j

/-- A gate part before a row of a point is the point's own or lies before its first row. -/
theorem prev_eq (t : Fin cfg0.N) (r : Fin 512) (d : ℕ) (j : Fin 2816) (h : d ≤ r.val) :
    (inp m c).prev (bt t) (st t r) d j = (inp m c).g (bt t) (st t ⟨r.val - d, by omega⟩) j := by
  unfold FfnRow.In.prev
  have hs : (st t r).val = 512 * (t.val % 8) + r.val := rfl
  rw [if_pos (by omega)]
  refine congrArg (fun s => (inp m c).g (bt t) s j) (Fin.ext ?_)
  show (st t r).val - d = 512 * (t.val % 8) + (r.val - d)
  omega

/-- The gate part one row before, from what was carried. -/
theorem ga_eq (t : Fin cfg0.N) (xs : Vec Ideal S8x2816 .f32) (r : Fin 512) (j : Fin 2816)
    (h1 : xs (ix2 1 j) = (inp m c).prev (bt t) (st t 0) 1 j) :
    ga (hB m c t) (iblk m c 10 t) xs r j = (inp m c).prev (bt t) (st t r) 1 j := by
  unfold ga
  by_cases e : r.val = 0
  · rw [if_pos e, h1, show r = 0 from Fin.ext e]
  · rw [if_neg e, gt_eq, prev_eq m c t r 1 j (by omega)]

/-- The gate part two rows before, from what was carried. -/
theorem gb_eq (t : Fin cfg0.N) (xs : Vec Ideal S8x2816 .f32) (r : Fin 512) (j : Fin 2816)
    (h0 : xs (ix2 0 j) = (inp m c).prev (bt t) (st t 0) 2 j) (h1 : xs (ix2 1 j) = (inp m c).prev (bt t) (st t 0) 1 j) :
    gb (hB m c t) (iblk m c 10 t) xs r j = (inp m c).prev (bt t) (st t r) 2 j := by
  unfold gb
  by_cases e : r.val = 0
  · rw [if_pos e, h0, show r = 0 from Fin.ext e]
  · rw [if_neg e]
    by_cases e1 : r.val = 1
    · rw [if_pos e1, h1]
      unfold FfnRow.In.prev
      have hs : (st t r).val = 512 * (t.val % 8) + r.val := rfl
      have hz : (st t 0).val = 512 * (t.val % 8) + 0 := rfl
      by_cases q : t.val % 8 = 0
      · rw [if_neg (by omega), if_neg (by omega)]
      · rw [if_pos (by omega), if_pos (by omega)]
        refine congrArg (fun s => (inp m c).g (bt t) s j) (Fin.ext ?_)
        show (st t 0).val - 1 = (st t r).val - 2
        omega
    · rw [if_neg e1, gt_eq, prev_eq m c t r 2 j (by omega)]

/-- Before a first row nothing is carried. -/
theorem first_eq (t : Fin cfg0.N) (h0 : t.val % 8 = 0) (d : ℕ) (hd : 1 ≤ d) (a : Fin 8) (j : Fin 2816) :
    k0_pay2 (F := Ideal) (ix2 a j) = (inp m c).prev (bt t) (st t 0) d j := by
  have hz : (st t 0).val = 512 * (t.val % 8) + 0 := rfl
  unfold FfnRow.In.prev
  rw [if_neg (by omega)]
  pointwise [k0_pay2]

/-- Otherwise the rows of the point before are. -/
theorem later_eq (t : Fin cfg0.N) (h0 : ¬t.val % 8 = 0) (a : Fin 2) (j : Fin 2816) :
    (outsAt0 m c (t.val - 1) (by omega)).2.2 (ix2 ⟨a.val, by omega⟩ j) = (inp m c).prev (bt t) (st t 0) (2 - a.val) j := by
  refine (carry_eq m c ⟨t.val - 1, by omega⟩ a j).trans ?_
  have hz : (st t 0).val = 512 * (t.val % 8) + 0 := rfl
  unfold FfnRow.In.prev
  rw [if_pos (by omega)]
  refine congrArg₂ (fun b s => (inp m c).g b s j) (Fin.ext ?_) (Fin.ext ?_)
  · show (t.val - 1) / 8 = t.val / 8
    omega
  · show 512 * ((t.val - 1) % 8) + (510 + a.val) = (st t 0).val - (2 - a.val)
    omega

/-- What a point stores into the result is the layer's result at its positions. -/
theorem out_eq (t : Fin cfg0.N) (r : Fin 512) (k : Fin 1024) :
    (outsAt0 m c t.val t.isLt).1 (ix2 r k) = (inp m c).result (bt t) (st t r) k := by
  have key : ∀ xs : Vec Ideal S8x2816 .f32, (∀ j, xs (ix2 0 j) = (inp m c).prev (bt t) (st t 0) 2 j) →
      (∀ j, xs (ix2 1 j) = (inp m c).prev (bt t) (st t 0) 1 j) → _ = (inp m c).result (bt t) (st t r) k := fun xs h0 h1 =>
    (out_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs r k).trans (by
      rw [par_eq, mod_eq, y_eq]
      exact congrArg₂ (fun b a => FfnRow.out (inp m c).par ((inp m c).mod (bt t)) ((inp m c).y (bt t) (st t r)) b a k)
        (funext fun j => gb_eq m c t xs r j (h0 j) (h1 j)) (funext fun j => ga_eq m c t xs r j (h1 j)))
  by_cases h0 : t.val % 8 = 0
  · rw [outsAt0_A m c t h0]
    dsimp only
    refine (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((hcond0_0 t).mpr h0) r k).trans (key _ (fun j => first_eq m c t h0 2 (by omega) 0 j) fun j => first_eq m c t h0 1 (by omega) 1 j)
  · rw [outsAt0_B m c t h0]
    dsimp only
    refine (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (fun h => h0 ((hcond0_0 t).mp h)) (outsAt0 m c (t.val - 1) (Nat.lt_of_le_of_lt (Nat.sub_le _ _) t.isLt)).2.2 r k).trans (key _ (fun j => later_eq m c t h0 0 j) fun j => later_eq m c t h0 1 j)

/-- The layer's result, its rows in one list. -/
def GO (i : S16384x1024.Idx) : EReal :=
  (inp m c).result ⟨(i 0).val / 4096, by have : (i 0).val < 16384 := (i 0).isLt; omega⟩ ⟨(i 0).val % 4096, by omega⟩ (i 1)

/-- The layer's state. -/
def GS (i : S4x2x2816.Idx) : EReal := (inp m c).state (i 0) (i 1) (i 2)

/-- The points' blocks cover the result. -/
theorem cov14 : (cfg0.win 14).Covers := by decide +kernel

/-- The blocks of the points that end a batch member cover the state. -/
theorem cov15 : (cfg0.win 15).Covers := by decide +kernel

/-- The result the kernel leaves is the layer's. -/
theorem arr14 : (dats m 0 c).arrAt 14 cfg0.N = GO m c := by
  refine (dats m 0 c).arrAt_eq_of_covers 14 _ cov14 fun t hf y => ?_
  blk_simp
  rw [after0_14]
  obtain ⟨r, k, rfl⟩ : ∃ (r : Fin 512) (k : Fin 1024), y = ix2 r k := ⟨y 0, y 1, funext fun a => match a with
    | ⟨0, _⟩ => rfl
    | ⟨1, _⟩ => rfl⟩
  have ht := tlt t
  refine (out_eq m c t r k).trans ?_
  have e : (GO m c (ix2 ⟨512 * t.val + r.val, by omega⟩ k)) = (inp m c).result (bt t) (st t r) k := by
    refine congrArg₂ (fun b s => (inp m c).result b s k) (Fin.ext ?_) (Fin.ext ?_)
    · show (512 * t.val + r.val) / 4096 = t.val / 8
      omega
    · show (512 * t.val + r.val) % 4096 = 512 * (t.val % 8) + r.val
      omega
  refine e.symm.trans (congrArg (GO m c) (funext fun a => Fin.ext ?_))
  blk_simp [(idx_facts t).2.2.2.2.2.2.2.2.2.2.2.2.2.2.1]
  match a with
  | ⟨0, _⟩ => show 512 * t.val + r.val = t.val * 512 + r.val; omega
  | ⟨1, _⟩ => show k.val = 0 * 1024 + k.val; omega

/-- The state the kernel leaves is the layer's. -/
theorem arr15 : (dats m 0 c).arrAt 15 cfg0.N = GS m c := by
  refine (dats m 0 c).arrAt_eq_of_covers 15 _ cov15 fun t hf y => ?_
  have h7 := (flush0_15 t).mp hf
  blk_simp
  rw [after0_15]
  obtain ⟨a, j, rfl⟩ : ∃ (a : Fin 2) (j : Fin 2816), y = ix3 (0 : Fin 1) a j := ⟨y 1, y 2, funext fun a => match a with
    | ⟨0, _⟩ => Fin.ext (by have : (y 0).val < 1 := (y 0).isLt; show (y 0).val = 0; omega)
    | ⟨1, _⟩ => rfl
    | ⟨2, _⟩ => rfl⟩
  refine (state_eq m c t a j).trans ?_
  have e : GS m c (ix3 (bt t) a j) = (inp m c).g (bt t) (st t ⟨510 + a.val, by omega⟩) j := by
    refine congrArg (fun s => (inp m c).g (bt t) s j) (Fin.ext ?_)
    show 4094 + a.val = 512 * (t.val % 8) + (510 + a.val)
    omega
  refine e.symm.trans (congrArg (GS m c) (funext fun b => Fin.ext ?_))
  blk_simp [(idx_facts t).2.2.2.2.2.2.2.2.2.2.2.2.2.2.2]
  match b with
  | ⟨0, _⟩ => show t.val / 8 = t.val / 8 * 1 + 0; omega
  | ⟨1, _⟩ => show a.val = 0 * 2 + a.val; omega
  | ⟨2, _⟩ => show j.val = 0 * 2816 + j.val; omega

end Cert.FfnIdeal.Val
-- ==== Proof.FfnRef.lean ====
module

public import proofs.«01_k».proof.Proof.FfnIn
public import proofs.«01_k».proof.Proof.Gen.FfnRefIdeal.Read

@[expose] public section

set_option maxRecDepth 16384

/-!
# The feed-forward reference, read at an index
-/

noncomputable section

namespace Cert.FfnRefIdeal.Val

open Cert.FfnRefIdeal Cert.FfnRefIdeal.Gen Cert.FfnRefIdeal.Read Idealize.ShloMosaic Idealize.ShloMosaic.TcCoe Idealize.SL.Sem

variable (I : FfnRow.In)

/-- The normalised attention row. -/
theorem v12_apply (b : Fin 4) (s : Fin 4096) (i : Fin 512) :
    val_main_v12 (F := Ideal) I.att I.ag (ix3 b s i)
      = FfnRow.rms 1140850688#32 (fun i => I.att (ix3 b s i)) (fun i => I.ag (ix1 i)) i := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The merged row's first half. -/
theorem v13_left (b : Fin 4) (s : Fin 4096) (i : Fin 512) :
    val_main_v13 (F := Ideal) I.att I.cvn I.ag (ix3 b s ⟨i.val, by omega⟩) = val_main_v12 (F := Ideal) I.att I.ag (ix3 b s i) := by
  unfold val_main_v13
  generalize val_main_v12 (F := Ideal) I.att I.ag = y
  pointwise

/-- The merged row's second half. -/
theorem v13_right (b : Fin 4) (s : Fin 4096) (i : Fin 512) :
    val_main_v13 (F := Ideal) I.att I.cvn I.ag (ix3 b s ⟨512 + i.val, by omega⟩) = I.cvn (ix3 b s i) := by
  unfold val_main_v13
  generalize val_main_v12 (F := Ideal) I.att I.ag = y
  pointwise

/-- The reference's row after the first product and gate. -/
theorem v17_apply (b : Fin 4) (s : Fin 4096) (k : Fin 1024) :
    val_main_v17 (F := Ideal) I.x I.att I.cvn I.g1 I.ag I.wo (ix3 b s k) = I.y b s k := by
  have h : val_main_v17 (F := Ideal) I.x I.att I.cvn I.g1 I.ag I.wo (ix3 b s k) = I.x (ix3 b s k)
      + I.g1 (ix3 b 0 k) * ∑ d : Fin 1024, val_main_v13 (F := Ideal) I.att I.cvn I.ag (ix3 b s d) * I.wo (ix2 d k) := by
    unfold val_main_v17 val_main_v16 val_main_v15 val_main_v14
    generalize val_main_v13 (F := Ideal) I.att I.cvn I.ag = y
    pointwise
  have split : ∀ f : Fin 1024 → EReal, ∑ d, f d = ∑ d : Fin 512, f (Fin.castAdd 512 d) + ∑ d : Fin 512, f (Fin.natAdd 512 d) :=
    fun f => Fin.sum_univ_add (a := 512) (b := 512) f
  rw [h, split]
  refine congrArg₂ (fun p q => I.x (ix3 b s k) + I.g1 (ix3 b 0 k) * (p + q)) (Finset.sum_congr rfl fun d _ => ?_)
    (Finset.sum_congr rfl fun d _ => ?_)
  · exact congrArg (· * I.wo (ix2 ⟨d.val, by omega⟩ k)) ((v13_left I b s d).trans (v12_apply I b s d))
  · exact congrArg (· * I.wo (ix2 ⟨512 + d.val, by omega⟩ k)) (v13_right I b s d)

/-- The reference's normalised and modulated row. -/
theorem v36_apply (b : Fin 4) (s : Fin 4096) (k : Fin 1024) :
    val_main_v36 (F := Ideal) I.x I.att I.cvn I.g1 I.t2 I.s2 I.ag I.ng I.wo (ix3 b s k)
      = FfnRow.hid I.par (I.mod b) (I.y b s) k := by
  rw [show I.y b s = fun k => val_main_v17 (F := Ideal) I.x I.att I.cvn I.g1 I.ag I.wo (ix3 b s k) from
    funext fun k => (v17_apply I b s k).symm]
  unfold val_main_v36 val_main_v35 val_main_v34 val_main_v33 val_main_v32 val_main_v31 val_main_v30 val_main_v29 val_main_v28
    val_main_v27 val_main_v26 val_main_v25 val_main_v24 val_main_v23 val_main_v22 val_main_v21 val_main_v20 val_main_v19
    val_main_v18 val_main_cst_2 val_main_cst_3 val_main_cst_4 val_main_cst_5
  generalize val_main_v17 (F := Ideal) I.x I.att I.cvn I.g1 I.ag I.wo = y
  pointwise
  rfl

/-- The first product. -/
theorem v37_apply (b : Fin 4) (s : Fin 4096) (j : Fin 5632) :
    val_main_v37 (F := Ideal) I.x I.att I.cvn I.g1 I.t2 I.s2 I.ag I.ng I.wo I.w1 (ix3 b s j)
      = ∑ d : Fin 1024, FfnRow.hid I.par (I.mod b) (I.y b s) d * I.w1 (ix2 d j) := by
  rw [show FfnRow.hid I.par (I.mod b) (I.y b s)
      = fun k => val_main_v36 (F := Ideal) I.x I.att I.cvn I.g1 I.t2 I.s2 I.ag I.ng I.wo (ix3 b s k) from
    funext fun k => (v36_apply I b s k).symm]
  unfold val_main_v37
  generalize val_main_v36 (F := Ideal) I.x I.att I.cvn I.g1 I.t2 I.s2 I.ag I.ng I.wo = y
  pointwise

/-- Its gate part. -/
theorem v38_apply (b : Fin 4) (s : Fin 4096) (j : Fin 2816) :
    val_main_v38 (F := Ideal) I.x I.att I.cvn I.g1 I.t2 I.s2 I.ag I.ng I.wo I.w1 (ix3 b s j) = I.g b s j := by
  refine Eq.trans ?_ (v37_apply I b s ⟨j.val, by omega⟩)
  unfold val_main_v38
  generalize val_main_v37 (F := Ideal) I.x I.att I.cvn I.g1 I.t2 I.s2 I.ag I.ng I.wo I.w1 = y
  pointwise

/-- Its up part. -/
theorem v39_apply (b : Fin 4) (s : Fin 4096) (j : Fin 2816) :
    val_main_v39 (F := Ideal) I.x I.att I.cvn I.g1 I.t2 I.s2 I.ag I.ng I.wo I.w1 (ix3 b s j)
      = FfnRow.up I.par (FfnRow.hid I.par (I.mod b) (I.y b s)) j := by
  refine Eq.trans ?_ (v37_apply I b s ⟨2816 + j.val, by omega⟩)
  unfold val_main_v39
  generalize val_main_v37 (F := Ideal) I.x I.att I.cvn I.g1 I.t2 I.s2 I.ag I.ng I.wo I.w1 = y
  pointwise

/-- The gate parts with two rows of zeros before them. -/
theorem v41_apply (b : Fin 4) (s : Fin 4096) (d : ℕ) (hd : d ≤ 2) (j : Fin 2816) :
    val_main_v41 (F := Ideal) I.x I.att I.cvn I.g1 I.t2 I.s2 I.ag I.ng I.wo I.w1 (ix3 b ⟨s.val + (2 - d), by omega⟩ j)
      = I.prev b s d j := by
  unfold FfnRow.In.prev
  simp only [← v38_apply]
  unfold val_main_v41 val_main_v40 val_main_cst_6
  generalize val_main_v38 (F := Ideal) I.x I.att I.cvn I.g1 I.t2 I.s2 I.ag I.ng I.wo I.w1 = y
  pointwise
  by_cases h : d ≤ s.val
  · rw [dif_neg (by omega), if_pos h]
    refine congrArg (fun t => y (ix3 b t j)) (Fin.ext ?_)
    show s.val + (2 - d) - 2 = s.val - d
    omega
  · rw [dif_pos (by omega), if_neg h]

/-- The convolution. -/
theorem v66_apply (b : Fin 4) (s : Fin 4096) (j : Fin 2816) :
    val_main_v66 (F := Ideal) I.x I.att I.cvn I.g1 I.t2 I.s2 I.ag I.ng I.wo I.w1 I.cw I.cb (ix3 b s j)
      = FfnRow.conv I.par j (I.prev b s 2 j) (I.prev b s 1 j) (I.g b s j) := by
  have e0 : I.g b s j = I.prev b s 0 j := rfl
  rw [e0, ← v41_apply I b s 2 (by omega), ← v41_apply I b s 1 (by omega), ← v41_apply I b s 0 (by omega)]
  unfold val_main_v66 val_main_v65 val_main_v64 val_main_v63 val_main_v62 val_main_v61 val_main_v60 val_main_v59 val_main_v58
    val_main_v57 val_main_v56 val_main_v55 val_main_v54 val_main_v53 val_main_v52 val_main_v51 val_main_v50 val_main_v49
    val_main_v48 val_main_v47 val_main_v46 val_main_v45 val_main_v44 val_main_v43 val_main_v42 val_main_cst_7
  generalize val_main_v41 (F := Ideal) I.x I.att I.cvn I.g1 I.t2 I.s2 I.ag I.ng I.wo I.w1 = y
  pointwise
  rw [show ∀ h, (⟨1 + s.val, h⟩ : Fin 4098) = ⟨s.val + 1, by omega⟩ from fun h => Fin.ext (Nat.add_comm _ _),
    show ∀ h, (⟨2 + s.val, h⟩ : Fin 4098) = ⟨s.val + 2, by omega⟩ from fun h => Fin.ext (Nat.add_comm _ _)]
  rfl

/-- The row between the two products. -/
theorem v68_apply (b : Fin 4) (s : Fin 4096) (j : Fin 2816) :
    val_main_v68 (F := Ideal) I.x I.att I.cvn I.g1 I.t2 I.s2 I.ag I.ng I.wo I.w1 I.cw I.cb (ix3 b s j)
      = FfnRow.act I.par (FfnRow.hid I.par (I.mod b) (I.y b s)) (I.prev b s 2) (I.prev b s 1) j := by
  unfold FfnRow.act
  rw [← v39_apply]
  refine Eq.trans ?_ (congrArg (fun z => FfnRow.silu z * _) (v66_apply I b s j))
  unfold val_main_v68 val_main_v67 val_main_call0_v5 val_main_call0_v4 val_main_call0_v3 val_main_call0_v2 val_main_call0_v1
    val_main_call0_v0 val_main_call0_cst val_main_call0_cst_0
  generalize val_main_v66 (F := Ideal) I.x I.att I.cvn I.g1 I.t2 I.s2 I.ag I.ng I.wo I.w1 I.cw I.cb = y
  generalize val_main_v39 (F := Ideal) I.x I.att I.cvn I.g1 I.t2 I.s2 I.ag I.ng I.wo I.w1 = z
  pointwise
  unfold FfnRow.silu
  rw [sub_eq_add_neg, zero_add]

/-- The reference's result before its last reshape. -/
theorem v72_apply (b : Fin 4) (s : Fin 4096) (k : Fin 1024) :
    val_main_v72 (F := Ideal) I.x I.att I.cvn I.g1 I.t2 I.s2 I.g2 I.ag I.ng I.wo I.w1 I.cw I.cb I.w2 (ix3 b s k) = I.result b s k := by
  unfold FfnRow.In.result FfnRow.out
  rw [← v17_apply, show FfnRow.act I.par (FfnRow.hid I.par (I.mod b) (I.y b s)) (I.prev b s 2) (I.prev b s 1)
      = fun j => val_main_v68 (F := Ideal) I.x I.att I.cvn I.g1 I.t2 I.s2 I.ag I.ng I.wo I.w1 I.cw I.cb (ix3 b s j) from
    funext fun j => (v68_apply I b s j).symm]
  unfold val_main_v72 val_main_v71 val_main_v70 val_main_v69
  generalize val_main_v68 (F := Ideal) I.x I.att I.cvn I.g1 I.t2 I.s2 I.ag I.ng I.wo I.w1 I.cw I.cb = z
  generalize val_main_v17 (F := Ideal) I.x I.att I.cvn I.g1 I.ag I.wo = y
  pointwise
  rfl

/-- The reference's result. -/
theorem v73_apply (n : Fin 16384) (k : Fin 1024) :
    val_main_v73 (F := Ideal) I.x I.att I.cvn I.g1 I.t2 I.s2 I.g2 I.ag I.ng I.wo I.w1 I.cw I.cb I.w2 (ix2 n k)
      = I.result ⟨n.val / 4096, by omega⟩ ⟨n.val % 4096, by omega⟩ k := by
  rw [← v72_apply]
  unfold val_main_v73
  generalize val_main_v72 (F := Ideal) I.x I.att I.cvn I.g1 I.t2 I.s2 I.g2 I.ag I.ng I.wo I.w1 I.cw I.cb I.w2 = y
  pointwise

/-- The reference's state. -/
theorem v74_apply (b : Fin 4) (a : Fin 2) (j : Fin 2816) :
    val_main_v74 (F := Ideal) I.x I.att I.cvn I.g1 I.t2 I.s2 I.ag I.ng I.wo I.w1 (ix3 b a j) = I.state b a j := by
  refine Eq.trans ?_ (v41_apply I b ⟨4094 + a.val, by omega⟩ 0 (by omega) j)
  unfold val_main_v74
  generalize val_main_v41 (F := Ideal) I.x I.att I.cvn I.g1 I.t2 I.s2 I.ag I.ng I.wo I.w1 = y
  pointwise
  refine congrArg (fun t => y (ix3 b t j)) (Fin.ext ?_)
  show 4096 + a.val = 4094 + a.val + 2
  omega

end Cert.FfnRefIdeal.Val
-- ==== Proof.FfnEq.lean ====
module

public import proofs.«01_k».proof.Defs
public import proofs.«01_k».proof.Proof.FfnArr
public import proofs.«01_k».proof.Proof.FfnRef

@[expose] public section

set_option maxRecDepth 16384

/-!
# The feed-forward kernel equals its reference
-/

noncomputable section

namespace Cert.FfnEq

open Idealize.ShloMosaic Idealize.ShloMosaic.TcCoe Idealize.SL.Sem

/-- The reference runs and keeps its arguments; it has no counter. -/
theorem frame : Cert.quiescent_FfnRefIdeal := fun m ρ _ =>
  (θ_run Cert.FfnRefIdeal.defs _ _).mono (fun r h => ⟨fun c => (h c).2.2, sem_eq_zero_of_no_sems (by decide) r.2⟩)
    (Cert.FfnRefIdeal.Value.run (F := Ideal) m ρ)

/-- The kernel's and the reference's results are equal. -/
theorem algebraic : Cert.algebraic_FfnIdeal_FfnRefIdeal := by
  intro m g m' g' _ agree
  refine ⟨fun c => FfnIdeal.Val.GO m c, fun c => FfnIdeal.Val.GS m c, ?_, ?_⟩
  · refine (θ_run _ _ _).mono (fun r h c => ?_) (Cert.FfnIdeal.Value.run_blocks m g)
    obtain ⟨h0, h1, h2⟩ := h c
    exact ⟨h0.trans (FfnIdeal.Val.arr14 m c), h1.trans (FfnIdeal.Val.arr15 m c), h2⟩
  · refine (θ_run _ _ _).mono (fun r h c => ?_) (Cert.FfnRefIdeal.Value.run (F := Ideal) m' g')
    obtain ⟨h0, h1, h2⟩ := h c
    obtain ⟨a0, a1, a2, a3, a4, a5, a6, a7, a8, a9, a10, a11, a12, a13⟩ := agree c
    refine ⟨h0.trans ?_, h1.trans ?_, h2⟩
    · rw [Cert.FfnRefIdeal.Read.val_main_v73_eq, a0, a1, a2, a3, a4, a5, a6, a7, a8, a9, a10, a11, a12, a13]
      funext i
      obtain ⟨n, k, rfl⟩ : ∃ (n : Fin 16384) (k : Fin 1024), i = ix2 n k := ⟨i 0, i 1, funext fun a => match a with
        | ⟨0, _⟩ => rfl
        | ⟨1, _⟩ => rfl⟩
      exact FfnRefIdeal.Val.v73_apply (FfnIdeal.Val.inp m c) n k
    · rw [Cert.FfnRefIdeal.Read.val_main_v74_eq, a0, a1, a2, a3, a4, a5, a7, a8, a9, a10]
      funext i
      obtain ⟨b, a, j, rfl⟩ : ∃ (b : Fin 4) (a : Fin 2) (j : Fin 2816), i = ix3 b a j := ⟨i 0, i 1, i 2, funext fun a => match a with
        | ⟨0, _⟩ => rfl
        | ⟨1, _⟩ => rfl
        | ⟨2, _⟩ => rfl⟩
      exact FfnRefIdeal.Val.v74_apply (FfnIdeal.Val.inp m c) b a j

end Cert.FfnEq
end
-- ==== Proof.InSpec.lean ====
module

public import proofs.«01_k».proof.Proof.FfnSpec
public import proofs.«01_k».proof.Proof.AttnSpec

@[expose] public section

set_option maxRecDepth 16384

/-!
# The input projections of the sample's rows, and the laws its kernel uses

A row is normalised, modulated and projected; the projection is cut into queries, keys, values and the two halves of a gated
linear unit. Each head of the queries and keys is normalised and its first sixteen channels are turned by a position's angles.
-/

noncomputable section

namespace InRow

open Idealize.ShloMosaic

/-- A number that is neither infinity. -/
def Real' (x : EReal) : Prop := ∃ r : ℝ, x = (r : EReal)

/-- The layer's arrays. -/
structure In where
  x : (⟨3, ![32, 4, 1024]⟩ : Shape).Idx → EReal
  sh : (⟨3, ![32, 1, 1024]⟩ : Shape).Idx → EReal
  sc : (⟨3, ![32, 1, 1024]⟩ : Shape).Idx → EReal
  g : (⟨1, ![1024]⟩ : Shape).Idx → EReal
  w : (⟨2, ![1024, 2560]⟩ : Shape).Idx → EReal
  qg : (⟨1, ![64]⟩ : Shape).Idx → EReal
  kg : (⟨1, ![64]⟩ : Shape).Idx → EReal

/-- The angle of channel `d` at the `s`-th position after the first 16384. -/
def ang (s : ℕ) (d : Fin 8) : EReal :=
  FloatOps.sitofp (F := Ideal) FTy.f32 (IntOp.addi 16384#32 (BitVec.ofNat 32 s)) *
    Ideal.exp (Ideal.ofBits FTy.f32 3243373875#32 * FloatOps.sitofp (F := Ideal) FTy.f32 (BitVec.ofNat 32 d.val) *
      Ideal.ofBits FTy.f32 1040187392#32)

/-- The rotation of a head's first sixteen channels. -/
def rope (s : ℕ) (t : Fin 64 → EReal) (d : Fin 64) : EReal :=
  if h : d.val < 8 then t d * Ideal.cos (ang s ⟨d.val, h⟩) - t ⟨d.val + 8, by omega⟩ * Ideal.sin (ang s ⟨d.val, h⟩)
  else if h' : d.val < 16 then
    t d * Ideal.cos (ang s ⟨d.val - 8, by omega⟩) + t ⟨d.val - 8, by omega⟩ * Ideal.sin (ang s ⟨d.val - 8, by omega⟩)
  else t d

/-- A number times the logistic function of another. -/
def glu (a g : EReal) : EReal := a * Ideal.div 1 (1 + Ideal.exp (0 - g))

namespace In

variable (I : In)

/-- The normalised and modulated row. -/
def h (b : Fin 32) (s : Fin 4) (k : Fin 1024) : EReal :=
  FfnRow.rms 1149239296#32 (fun k => I.x (ix3 b s k)) (fun k => I.g (ix1 k)) k * (1 + I.sc (ix3 b 0 k)) + I.sh (ix3 b 0 k)

/-- Its projection. -/
def z (b : Fin 32) (s : Fin 4) (j : Fin 2560) : EReal := ∑ d : Fin 1024, I.h b s d * I.w (ix2 d j)

/-- A head of the queries. -/
def q (b : Fin 32) (s : Fin 4) (n : Fin 8) : Fin 64 → EReal :=
  rope s.val (FfnRow.rms 1115684864#32 (fun d => I.z b s ⟨64 * n.val + d.val, by omega⟩) (fun d => I.qg (ix1 d)))

/-- A head of the keys. -/
def k (b : Fin 32) (s : Fin 4) (n : Fin 8) : Fin 64 → EReal :=
  rope s.val (FfnRow.rms 1115684864#32 (fun d => I.z b s ⟨512 + (64 * n.val + d.val), by omega⟩) (fun d => I.kg (ix1 d)))

/-- A head of the values. -/
def v (b : Fin 32) (s : Fin 4) (n : Fin 8) (d : Fin 64) : EReal := I.z b s ⟨1024 + (64 * n.val + d.val), by omega⟩

/-- The gated linear unit. -/
def u (b : Fin 32) (s : Fin 4) (j : Fin 512) : EReal := glu (I.z b s ⟨1536 + j.val, by omega⟩) (I.z b s ⟨2048 + j.val, by omega⟩)

/-- The arrays the projection's heads need to be numbers. -/
def Fin' : Prop := (∀ i, Real' (I.sh i)) ∧ (∀ i, Real' (I.sc i)) ∧ (∀ i, Real' (I.g i)) ∧ ∀ i, Real' (I.w i)

end In

theorem Real'.add {x y : EReal} : Real' x → Real' y → Real' (x + y) := by
  rintro ⟨a, rfl⟩ ⟨b, rfl⟩
  exact ⟨a + b, (EReal.coe_add a b).symm⟩

theorem Real'.mul {x y : EReal} : Real' x → Real' y → Real' (x * y) := by
  rintro ⟨a, rfl⟩ ⟨b, rfl⟩
  exact ⟨a * b, (EReal.coe_mul a b).symm⟩

theorem Real'.sum {ι : Type} (S : Finset ι) (f : ι → EReal) (h : ∀ i, Real' (f i)) : Real' (∑ i ∈ S, f i) := by
  classical
  induction S using Finset.induction with
  | empty => exact ⟨0, by simp⟩
  | insert a S ha ih => rw [Finset.sum_insert ha]; exact (h a).add ih

theorem Real'.one : Real' 1 := ⟨1, rfl⟩

theorem Real'.zero : Real' 0 := ⟨0, rfl⟩

/-- A sum of numbers is the number's sum. -/
theorem coe_sum' {ι : Type} (S : Finset ι) (f : ι → ℝ) : ((∑ i ∈ S, f i : ℝ) : EReal) = ∑ i ∈ S, (f i : EReal) := by
  classical
  induction S using Finset.induction with
  | empty => simp
  | insert a S ha ih => rw [Finset.sum_insert ha, Finset.sum_insert ha, EReal.coe_add, ih]

/-- The small number under the roots. -/
theorem eps_real : ∃ e : ℝ, 0 < e ∧ Ideal.ofBits .f32 897988541#32 = (e : EReal) := by
  refine ⟨8796093 * 2 ^ (-43 : ℤ), by positivity, ?_⟩
  simp [Ideal.ofBits, Ideal.ieee]

/-- 1024 as a float. -/
theorem w1024 : Ideal.ofBits .f32 1149239296#32 = ((1024 : ℝ) : EReal) := by
  simp [Ideal.ofBits, Ideal.ieee]
  rw [← EReal.coe_mul]
  congr 1
  norm_num

/-- 64 as a float. -/
theorem w64 : Ideal.ofBits .f32 1115684864#32 = ((64 : ℝ) : EReal) := by
  simp [Ideal.ofBits, Ideal.ieee]
  rw [← EReal.coe_mul]
  congr 1
  norm_num

/-- One sixty-fourth as a float. -/
theorem w64i : Ideal.ofBits .f32 1015021568#32 = ((1 / 64 : ℝ) : EReal) := by
  simp [Ideal.ofBits, Ideal.ieee]
  rw [← EReal.coe_mul]
  congr 1
  norm_num

/-- The square of an infinity is infinite. -/
theorem sq_top {x : EReal} (h : ¬ Real' x) : x * x = ⊤ := by
  induction x with
  | top => rfl
  | bot => rfl
  | coe r => exact absurd ⟨r, rfl⟩ h

theorem sq_nonneg' (x : EReal) : 0 ≤ x * x := by
  induction x with
  | top => exact le_top
  | bot => exact le_top
  | coe r => rw [← EReal.coe_mul]; exact_mod_cast mul_self_nonneg r

/-- A row divided by the root of its mean square has no infinity, whatever the row. -/
theorem rms_real {n : ℕ} (w : BitVec 32) {c : ℝ} (hc : 0 < c) (hw : Ideal.ofBits .f32 w = (c : EReal)) (x g : Fin n → EReal)
    (hg : ∀ i, Real' (g i)) (i : Fin n) : Real' (FfnRow.rms w x g i) := by
  obtain ⟨e, he, hee⟩ := eps_real
  unfold FfnRow.rms
  rw [hw, hee]
  have hd : ∀ y : EReal, Ideal.div y (c : EReal) = y * ((c⁻¹ : ℝ) : EReal) := fun y => by
    unfold Ideal.div
    rw [if_neg (by exact_mod_cast hc.ne'), EReal.coe_inv]
  rw [hd]
  by_cases h : ∀ j, Real' (x j)
  · obtain ⟨s, hs⟩ := Real'.sum Finset.univ (fun j => x j * x j) fun j => (h j).mul (h j)
    have hs0 : 0 ≤ s := by
      have : (0 : EReal) ≤ (s : EReal) := hs ▸ Finset.sum_nonneg fun j _ => sq_nonneg' (x j)
      exact_mod_cast this
    have hs' : (∑ j, x j * x j) = (s : EReal) := hs
    have hp : 0 < s * c⁻¹ + e := by positivity
    rw [hs', ← EReal.coe_mul, ← EReal.coe_add]
    refine ((h i).mul ?_).mul (hg i)
    show Real' (if s * c⁻¹ + e < 0 then ⊥ else if s * c⁻¹ + e = 0 then ⊤ else (((Real.sqrt (s * c⁻¹ + e))⁻¹ : ℝ) : EReal))
    rw [if_neg hp.le.not_gt, if_neg hp.ne']
    exact ⟨_, rfl⟩
  · obtain ⟨j, hj⟩ := not_forall.mp h
    have hs : (∑ j, x j * x j) = ⊤ := by
      refine top_le_iff.mp ?_
      rw [← sq_top hj]
      exact Finset.single_le_sum (f := fun j => x j * x j) (fun j _ => sq_nonneg' (x j)) (Finset.mem_univ j)
    rw [hs, EReal.top_mul_coe_of_pos (by positivity), EReal.top_add_coe]
    show Real' (x i * 0 * g i)
    rw [mul_zero, zero_mul]
    exact Real'.zero

/-- The projection has no infinity. -/
theorem z_real (I : In) (hI : I.Fin') (b : Fin 32) (s : Fin 4) (j : Fin 2560) : Real' (I.z b s j) :=
  Real'.sum _ _ fun d => (((rms_real _ (by norm_num) w1024 _ _ (fun k => hI.2.2.1 _) d).mul
    (Real'.one.add (hI.2.1 _))).add (hI.1 _)).mul (hI.2.2.2 _)

/-- A product of squares with the averaging matrix, its low part included, is the mean square of the entry's head. -/
theorem head_mean (t : Fin 512 → EReal) (ht : ∀ j, Real' (t j)) (bd : Fin 512 → EReal) (n : Fin 8)
    (hbd : ∀ x : Fin 512, bd x = if x.val / 64 = n.val then Ideal.ofBits .f32 1015021568#32 else 0) :
    (∑ x, t x * t x * bd x) + (∑ x, (t x * t x - t x * t x) * bd x)
      = Ideal.div (∑ d : Fin 64, t ⟨64 * n.val + d.val, by omega⟩ * t ⟨64 * n.val + d.val, by omega⟩) (Ideal.ofBits .f32 1115684864#32) := by
  have h0 : ∀ x, (t x * t x - t x * t x) * bd x = 0 := fun x => by
    obtain ⟨r, hr⟩ := (ht x).mul (ht x)
    rw [hr, ← EReal.coe_sub, sub_self, EReal.coe_zero, zero_mul]
  rw [Finset.sum_congr rfl fun x _ => h0 x, Finset.sum_const_zero, add_zero, w64]
  unfold Ideal.div
  rw [if_neg (by exact_mod_cast (by norm_num : (64 : ℝ) ≠ 0)), mul_comm]
  have e : ∀ f : Fin 512 → EReal, ∑ x, f x = ∑ a : Fin 8, ∑ d : Fin 64, f ⟨64 * a.val + d.val, by omega⟩ := fun f => by
    rw [← Fintype.sum_prod_type']
    refine (Fintype.sum_equiv (finProdFinEquiv (m := 8) (n := 64)) _ _ fun p => ?_).symm
    exact congrArg f (Fin.ext (by show 64 * p.1.val + p.2.val = p.2.val + 64 * p.1.val; omega))
  rw [e, Finset.sum_eq_single n]
  · have hs : ∀ d : Fin 64, t ⟨64 * n.val + d.val, by omega⟩ * t ⟨64 * n.val + d.val, by omega⟩ * bd ⟨64 * n.val + d.val, by omega⟩
        = ((1 / 64 : ℝ) : EReal) * (t ⟨64 * n.val + d.val, by omega⟩ * t ⟨64 * n.val + d.val, by omega⟩) := fun d => by
      rw [hbd, if_pos (by show (64 * n.val + d.val) / 64 = n.val; omega), w64i, mul_comm]
    rw [Finset.sum_congr rfl fun d _ => hs d]
    choose r hr using fun d : Fin 64 => (ht ⟨64 * n.val + d.val, by omega⟩).mul (ht ⟨64 * n.val + d.val, by omega⟩)
    rw [Finset.sum_congr rfl fun d _ => congrArg (((1 / 64 : ℝ) : EReal) * ·) (hr d), Finset.sum_congr rfl fun d _ => hr d,
      ← EReal.coe_inv, ← coe_sum', ← EReal.coe_mul, Finset.mul_sum, coe_sum']
    refine Finset.sum_congr rfl fun d _ => ?_
    rw [← EReal.coe_mul]
    congr 1
    ring
  · intro a _ ha
    refine Finset.sum_eq_zero fun d _ => ?_
    rw [hbd, if_neg (fun h => ha (Fin.ext (by have h' : (64 * a.val + d.val) / 64 = n.val := h; omega))), mul_zero]
  · exact fun h => absurd (Finset.mem_univ n) h

/-- The rotation by tables of cosines and sines: the sines are negative in one table and zero where a channel does not turn. -/
theorem rope_table (s : ℕ) (t : Fin 64 → EReal) (d : Fin 64) (a b co s1 s2 : EReal)
    (ha : ∀ h : d.val < 8, a = t ⟨d.val + 8, by omega⟩)
    (hb : ∀ h : 8 ≤ d.val, b = t ⟨d.val - 8, by omega⟩)
    (hc : co = if h : d.val < 8 then Ideal.cos (ang s ⟨d.val, h⟩) else if h' : d.val < 16 then Ideal.cos (ang s ⟨d.val - 8, by omega⟩) else 1)
    (h1 : s1 = if h : d.val < 8 then -Ideal.sin (ang s ⟨d.val, h⟩) else 0)
    (h2 : s2 = if h : d.val < 8 then 0 else if h' : d.val < 16 then Ideal.sin (ang s ⟨d.val - 8, by omega⟩) else 0) :
    t d * co + a * s1 + b * s2 = rope s t d := by
  unfold rope
  rw [hc, h1, h2]
  by_cases h : d.val < 8
  · rw [dif_pos h, dif_pos h, dif_pos h, dif_pos h, ha h, mul_zero, add_zero, mul_neg, sub_eq_add_neg]
  · rw [dif_neg h, dif_neg h, dif_neg h, dif_neg h, mul_zero, add_zero]
    by_cases h' : d.val < 16
    · rw [dif_pos h', dif_pos h', dif_pos h', hb (by omega)]
    · rw [dif_neg h', dif_neg h', dif_neg h', mul_one, mul_zero, add_zero]

end InRow
-- ==== Proof.InPay.lean ====
module

public import proofs.«01_k».proof.Proof.Gen.InIdeal.Value
public import Idealize.ShloMosaic.Lib.Pipeline.ValueKit
public import Idealize.ShloMosaic.Lib.Pipeline.ReadBack
public import Idealize.ShloMosaic.Lib.Pointwise
public import proofs.«01_k».proof.Proof.InSpec

@[expose] public section

set_option maxRecDepth 16384

/-!
# The input kernel's payloads, read at an index
-/

noncomputable section

namespace Cert.InIdeal.Val

open Cert.InIdeal Cert.InIdeal.Gen Idealize.ShloMosaic Idealize.ShloMosaic.TcCoe Idealize.SL.Sem
open InRow (Real')

/-- The projected rows. -/
theorem z_apply (x : Vec Ideal S128x1024 .f32) (g : Vec Ideal S1x1024 .f32) (sc sh : Vec Ideal S1x128x1024 .f32)
    (w : Vec Ideal S1024x2560 .bf16) (r : Fin 128) (j : Fin 2560) :
    k0_pay4 (F := Ideal) x g sc sh w (ix2 r j)
      = ∑ d : Fin 1024, (FfnRow.rms 1149239296#32 (fun k => x (ix2 r k)) (fun k => g (ix2 0 k)) d * (1 + sc (ix3 0 r d))
          + sh (ix3 0 r d)) * w (ix2 d j) := by
  pointwise [k0_pay4]
  rfl

/-- The values are a part of the projection. -/
theorem v_apply (z : FVec Ideal S128x2560 .f32) (r : Fin 128) (j : Fin 512) :
    k0_pay14 (F := Ideal) z (ix2 r j) = z (ix2 r ⟨1024 + j.val, by omega⟩) := by
  pointwise [k0_pay14]

/-- The gated linear unit of two parts of the projection. -/
theorem u_apply (z : FVec Ideal S128x2560 .f32) (r : Fin 128) (j : Fin 512) :
    k0_pay15 (F := Ideal) z (ix2 r j)
      = InRow.glu (z (ix2 r ⟨1536 + j.val, by omega⟩)) (z (ix2 r ⟨2048 + j.val, by omega⟩)) := by
  pointwise [k0_pay15]
  rfl

/-- A table laid out four times, read at a lane. -/
theorem tile_lane (f : Fin 128 → EReal) (j : Fin 512) :
    (if h : j.val < 128 then f ⟨j.val, h⟩ else if h : j.val - 128 < 128 then f ⟨j.val - 128, h⟩
      else if h : j.val - 128 - 128 < 128 then f ⟨j.val - 128 - 128, h⟩ else f ⟨j.val - 128 - 128 - 128, by omega⟩)
      = f ⟨j.val % 128, Nat.mod_lt _ (by decide)⟩ := by
  split_ifs <;> exact congrArg f (Fin.ext (by simp only []; omega))

/-- The cosines laid out four times. -/
theorem tile5 (t : Vec Ideal S128x128 .f32) (r : Fin 128) (j : Fin 512) :
    k0_pay5 (F := Ideal) t (ix2 r j) = t (ix2 r ⟨j.val % 128, Nat.mod_lt _ (by decide)⟩) := by
  pointwise [k0_pay5]
  exact tile_lane (fun l => t (ix2 r l)) j

/-- The negated sines laid out four times. -/
theorem tile6 (t : Vec Ideal S128x128 .f32) (r : Fin 128) (j : Fin 512) :
    k0_pay6 (F := Ideal) t (ix2 r j) = t (ix2 r ⟨j.val % 128, Nat.mod_lt _ (by decide)⟩) := by
  pointwise [k0_pay6]
  exact tile_lane (fun l => t (ix2 r l)) j

/-- The sines laid out four times. -/
theorem tile8 (t : Vec Ideal S128x128 .f32) (r : Fin 128) (j : Fin 512) :
    k0_pay8 (F := Ideal) (k0_pay7 (F := Ideal) t) (ix2 r j) = t (ix2 r ⟨j.val % 128, Nat.mod_lt _ (by decide)⟩) := by
  pointwise [k0_pay8, k0_pay7]
  exact tile_lane (fun l => t (ix2 r l)) j

/-- A part of the projection, each head divided by its root mean square, which a product with the averaging matrix gives. -/
def tn (o : ℕ) (ho : o ≤ 512) (z : FVec Ideal S128x2560 .f32) (bd : Vec Ideal S512x512 .bf16) (g : Vec Ideal S1x512 .f32) (r : Fin 128)
    (j : Fin 512) : EReal :=
  z (ix2 r ⟨o + j.val, by omega⟩) * Ideal.rsqrt ((∑ x : Fin 512, z (ix2 r ⟨o + x.val, by omega⟩) * z (ix2 r ⟨o + x.val, by omega⟩) * bd (ix2 x j))
    + (∑ x : Fin 512, (z (ix2 r ⟨o + x.val, by omega⟩) * z (ix2 r ⟨o + x.val, by omega⟩) - z (ix2 r ⟨o + x.val, by omega⟩) * z (ix2 r ⟨o + x.val, by omega⟩)) * bd (ix2 x j))
    + Ideal.ofBits .f32 897988541#32) * g (ix2 0 j)

/-- The same as a head's own normalisation. -/
theorem tn_eq (o : ℕ) (ho : o ≤ 512) (z : FVec Ideal S128x2560 .f32) (bd : Vec Ideal S512x512 .bf16) (g : Vec Ideal S1x512 .f32) (r : Fin 128)
    (hz : ∀ j, Real' (z (ix2 r j)))
    (hbd : ∀ i j : Fin 512, bd (ix2 i j) = if i.val / 64 = j.val / 64 then Ideal.ofBits .f32 1015021568#32 else 0)
    (n : Fin 8) (d : Fin 64) :
    tn o ho z bd g r ⟨64 * n.val + d.val, by omega⟩
      = FfnRow.rms 1115684864#32 (fun d => z (ix2 r ⟨o + (64 * n.val + d.val), by omega⟩)) (fun d => g (ix2 0 ⟨64 * n.val + d.val, by omega⟩)) d := by
  unfold tn FfnRow.rms
  rw [InRow.head_mean (fun j => z (ix2 r ⟨o + j.val, by omega⟩)) (fun j => hz _) (fun x => bd (ix2 x ⟨64 * n.val + d.val, by omega⟩)) n
    (fun x => (hbd x _).trans (by rw [show (64 * n.val + d.val) / 64 = n.val by omega]))]

/-- The keys before their rotation. -/
theorem tnk_apply (z : FVec Ideal S128x2560 .f32) (bd : Vec Ideal S512x512 .bf16) (g : Vec Ideal S1x512 .f32) (r : Fin 128)
    (j : Fin 512) : k0_pay11 (F := Ideal) z bd g (ix2 r j) = tn 512 (by omega) z bd g r j := by
  pointwise [k0_pay11, k0_pay9]
  rfl

/-- The rotated keys. -/
theorem ropek_apply (s1 s2 t tc : FVec Ideal S128x512 .f32) (r : Fin 128) (j : Fin 512) :
    k0_pay13 (F := Ideal) s1 s2 t tc 504#32 (ix2 r j) = tc (ix2 r j)
      + t (ix2 r ⟨(j.val + 512 - 504) % 512, Nat.mod_lt _ (by decide)⟩) * s1 (ix2 r j)
      + t (ix2 r ⟨(j.val + 512 - 8) % 512, Nat.mod_lt _ (by decide)⟩) * s2 (ix2 r j) := by
  pointwise [k0_pay13]

/-- The keys times the cosines. -/
theorem cosk_apply (z : FVec Ideal S128x2560 .f32) (ct : FVec Ideal S128x512 .f32) (bd : Vec Ideal S512x512 .bf16) (g : Vec Ideal S1x512 .f32)
    (r : Fin 128) (j : Fin 512) :
    k0_pay12 (F := Ideal) z ct bd g (ix2 r j) = k0_pay11 (F := Ideal) z bd g (ix2 r j) * ct (ix2 r j) := by
  pointwise [k0_pay12]

/-- The rotated queries. -/
theorem ropeq_apply (z : FVec Ideal S128x2560 .f32) (ct s1 : FVec Ideal S128x512 .f32) (s2 : FVec Ideal S128x128 .f32)
    (bd : Vec Ideal S512x512 .bf16) (g : Vec Ideal S1x512 .f32) (r : Fin 128) (j : Fin 512) :
    k0_pay10 (F := Ideal) z ct s1 s2 bd g (ix2 r j) = tn 0 (by omega) z bd g r j * ct (ix2 r j)
      + tn 0 (by omega) z bd g r ⟨(j.val + 512 - 504) % 512, Nat.mod_lt _ (by decide)⟩ * s1 (ix2 r j)
      + tn 0 (by omega) z bd g r ⟨(j.val + 512 - 8) % 512, Nat.mod_lt _ (by decide)⟩ * k0_pay8 (F := Ideal) s2 (ix2 r j) := by
  simp only [tn, zero_add]
  pointwise [k0_pay10, k0_pay9]

/-- The lane rolls and the tables rotate every head on its own. -/
theorem rope_lane (s : ℕ) (T : Fin 512 → EReal) (n : Fin 8) (t : Fin 64 → EReal) (hT : ∀ d, T ⟨64 * n.val + d.val, by omega⟩ = t d)
    (d : Fin 64) (co s1 s2 : EReal)
    (hc : co = if h : d.val < 8 then Ideal.cos (InRow.ang s ⟨d.val, h⟩) else if h' : d.val < 16 then Ideal.cos (InRow.ang s ⟨d.val - 8, by omega⟩) else 1)
    (h1 : s1 = if h : d.val < 8 then -Ideal.sin (InRow.ang s ⟨d.val, h⟩) else 0)
    (h2 : s2 = if h : d.val < 8 then 0 else if h' : d.val < 16 then Ideal.sin (InRow.ang s ⟨d.val - 8, by omega⟩) else 0) :
    T ⟨64 * n.val + d.val, by omega⟩ * co
      + T ⟨(64 * n.val + d.val + 512 - 504) % 512, Nat.mod_lt _ (by decide)⟩ * s1
      + T ⟨(64 * n.val + d.val + 512 - 8) % 512, Nat.mod_lt _ (by decide)⟩ * s2 = InRow.rope s t d := by
  rw [hT]
  exact InRow.rope_table s t d _ _ co s1 s2
    (fun h => (congrArg T (Fin.ext (by simp only []; omega))).trans (hT ⟨d.val + 8, by omega⟩))
    (fun h => (congrArg T (Fin.ext (by simp only []; omega))).trans (hT ⟨d.val - 8, by omega⟩)) hc h1 h2

/-- A head's channels in the first half of a row of lanes, zero in the second. -/
def hd (q : Vec Ideal S128x512 .f32) (n : Fin 8) (r l : Fin 128) : EReal :=
  if h : l.val < 64 then q (ix2 r ⟨64 * n.val + l.val, by omega⟩) else 0

/-- A select on the lane leaves a head and zeros. -/
theorem hd_select (q : Vec Ideal S128x512 .f32) (n : Fin 8) (r l : Fin 128) (m : ℕ) (hm : m < 512)
    (h : l.val < 64 → m = 64 * n.val + l.val) :
    Scalar.select (IntOp.cmpi CmpIPredicate.slt (BitVec.ofNat 32 l.val) 64#32) (q (ix2 r ⟨m, hm⟩)) (0 : EReal) = hd q n r l := by
  unfold hd
  rw [AttnSpec.ltW l.val 64 (by omega) (by omega)]
  by_cases g : l.val < 64
  · obtain rfl := h g
    rw [if_pos g, dif_pos g]
    rfl
  · rw [if_neg g, dif_neg g]; rfl

/-- Lane numbers. -/
abbrev lanes : IVec S128x128 32 := iota .tc S128x128 32 [1] iota_S128x128_d1_w32

/-- The first head's block. -/
theorem head0 (q : FVec Ideal S128x512 .f32) (r l : Fin 128) :
    k0_pay16 (F := Ideal) q (ix3 0 r l) = hd q 0 r l := by
  pointwise [k0_pay16]
  exact hd_select q 0 r l _ _ fun h => by show _ = 64 * 0 + l.val; omega

/-- The second head's block. -/
theorem head1 (q : FVec Ideal S128x512 .f32) (r l : Fin 128) :
    k0_pay18 (F := Ideal) (k0_pay17 (F := Ideal) q) (ix3 0 r l) = hd q 1 r l := by
  pointwise [k0_pay17, k0_pay18]
  exact hd_select q 1 r l _ _ fun h => by show _ = 64 * 1 + l.val; omega

/-- The third head's block. -/
theorem head2 (q : FVec Ideal S128x512 .f32) (r l : Fin 128) :
    k0_pay19 (F := Ideal) q lanes (ix3 0 r l) = hd q 2 r l := by
  pointwise [k0_pay19]
  exact hd_select q 2 r l _ _ fun h => by show _ = 64 * 2 + l.val; omega

/-- The fourth head's block. -/
theorem head3 (q : FVec Ideal S128x512 .f32) (r l : Fin 128) :
    k0_pay20 (F := Ideal) q lanes (ix3 0 r l) = hd q 3 r l := by
  pointwise [k0_pay20]
  exact hd_select q 3 r l _ _ fun h => by show _ = 64 * 3 + l.val; omega

/-- The fifth head's block. -/
theorem head4 (q : FVec Ideal S128x512 .f32) (r l : Fin 128) :
    k0_pay21 (F := Ideal) q lanes (ix3 0 r l) = hd q 4 r l := by
  pointwise [k0_pay21]
  exact hd_select q 4 r l _ _ fun h => by show _ = 64 * 4 + l.val; omega

/-- The sixth head's block. -/
theorem head5 (q : FVec Ideal S128x512 .f32) (r l : Fin 128) :
    k0_pay23 (F := Ideal) (k0_pay22 (F := Ideal) q lanes) (ix3 0 r l) = hd q 5 r l := by
  pointwise [k0_pay22, k0_pay23]
  exact hd_select q 5 r l _ _ fun h => by show _ = 64 * 5 + l.val; omega

/-- The seventh head's block. -/
theorem head6 (q : FVec Ideal S128x512 .f32) (r l : Fin 128) :
    k0_pay24 (F := Ideal) q lanes (ix3 0 r l) = hd q 6 r l := by
  pointwise [k0_pay24]
  exact hd_select q 6 r l _ _ fun h => by show _ = 64 * 6 + l.val; omega

/-- The eighth head's block. -/
theorem head7 (q : FVec Ideal S128x512 .f32) (r l : Fin 128) :
    k0_pay25 (F := Ideal) q lanes (ix3 0 r l) = hd q 7 r l := by
  pointwise [k0_pay25]
  exact hd_select q 7 r l _ _ fun h => by show _ = 64 * 7 + l.val; omega

/-- A head's block is a part of the array of heads. -/
theorem head_piece (q : Vec Ideal S128x512 .f32) (n : Fin 8) (p : Vec Ideal S1x128x128 .f32) (hp : ∀ r l, p (ix3 0 r l) = hd q n r l)
    (inb : ∀ a, (![n.val, 0, 0] : Fin 3 → ℕ) a + S1x128x128.size a ≤ S8x128x128.size a) (x : S1x128x128.Idx) :
    p x = (fun y : S8x128x128.Idx => hd q (y 0) (y 1) (y 2)) ((Rect.unit (s := S8x128x128) ![n.val, 0, 0] S1x128x128.size inb).emb x) := by
  obtain ⟨r, l, rfl⟩ : ∃ (r l : Fin 128), x = ix3 0 r l :=
    ⟨x 1, x 2, by
      funext a
      match a with
      | ⟨0, _⟩ => exact Subsingleton.elim (α := Fin 1) _ _
      | ⟨1, _⟩ => rfl
      | ⟨2, _⟩ => rfl⟩
  have ey : (Rect.unit (s := S8x128x128) ![n.val, 0, 0] S1x128x128.size inb).emb (ix3 0 r l) = (ix3 n r l : S8x128x128.Idx) := by
    funext b
    match b with
    | ⟨0, _⟩ => exact Fin.ext (show n.val + 1 * 0 = n.val by omega)
    | ⟨1, _⟩ => exact Fin.ext (show 0 + 1 * r.val = r.val by omega)
    | ⟨2, _⟩ => exact Fin.ext (show 0 + 1 * l.val = l.val by omega)
  rw [ey]
  exact hp r l

/-- Stores that are blocks of one function leave it at every index one of them covers. -/
theorem canon_of_piecesOf {Val : EltTy → Type} [∀ e, Nonempty (Val e)] {s : Shape} {e : EltTy} (G : s.Idx → Val e)
    (L : List (View.Piece Val s e)) (h : View.PiecesOf G L) (y : s.Idx)
    (hc : ∃ p ∈ L, y ∈ p.1.set) : View.canon L y = G y :=
  View.canon_apply_of_pieces G L h.mem y hc

/-- The eight heads' blocks, stored one by one, are the array of heads. -/
theorem heads_canon (q : FVec Ideal S128x512 .f32) (n : Fin 8) (r l : Fin 128) :
    View.canon (Val := Elt Ideal) (e := .f32) [⟨r0_15, k0_pay25 (F := Ideal) q lanes⟩, ⟨r0_14, k0_pay24 (F := Ideal) q lanes⟩,
      ⟨r0_13, k0_pay23 (F := Ideal) (k0_pay22 (F := Ideal) q lanes)⟩, ⟨r0_12, k0_pay21 (F := Ideal) q lanes⟩,
      ⟨r0_11, k0_pay20 (F := Ideal) q lanes⟩, ⟨r0_10, k0_pay19 (F := Ideal) q lanes⟩,
      ⟨r0_9, k0_pay18 (F := Ideal) (k0_pay17 (F := Ideal) q)⟩, ⟨r0_8, k0_pay16 (F := Ideal) q⟩] (ix3 n r l) = hd q n r l := by
  refine Eq.trans (canon_of_piecesOf (fun y : S8x128x128.Idx => hd q (y 0) (y 1) (y 2)) _ ?_ _
    (View.cover_of_tiledL _ ![1, 128, 128] (by rfl) _)) ?_
  · exact ⟨head_piece q 7 _ (head7 q) inb_S8x128x128_S1x128x128_7_0_0,
      head_piece q 6 _ (head6 q) inb_S8x128x128_S1x128x128_6_0_0,
      head_piece q 5 _ (head5 q) inb_S8x128x128_S1x128x128_5_0_0,
      head_piece q 4 _ (head4 q) inb_S8x128x128_S1x128x128_4_0_0,
      head_piece q 3 _ (head3 q) inb_S8x128x128_S1x128x128_3_0_0,
      head_piece q 2 _ (head2 q) inb_S8x128x128_S1x128x128_2_0_0,
      head_piece q 1 _ (head1 q) inb_S8x128x128_S1x128x128_1_0_0,
      head_piece q 0 _ (head0 q) inb_S8x128x128_S1x128x128_0_0_0, trivial⟩
  rfl

/-- One store of the whole buffer leaves what it stores. -/
theorem whole_canon (p : Vec Ideal S128x512 .f32) (r : Fin 128) (j : Fin 512) :
    View.canon (Val := Elt Ideal) (e := .f32) [⟨r0_7, p⟩] (ix2 r j) = p (ix2 r j) := by
  refine Eq.trans (canon_of_piecesOf p _ ?_ _ (cover0_11 _ _)) rfl
  exact ⟨fun x => congrArg p (funext fun a => Fin.ext (match a with
    | ⟨0, _⟩ => (show (x 0).val = 0 + 1 * (x 0).val by omega)
    | ⟨1, _⟩ => (show (x 1).val = 0 + 1 * (x 1).val by omega))), trivial⟩

end Cert.InIdeal.Val
-- ==== Proof.InBody.lean ====
module

public import proofs.«01_k».proof.Proof.Gen.InIdeal.Value
public import Idealize.ShloMosaic.Lib.Pipeline.ValueKit
public import Idealize.ShloMosaic.Lib.Pipeline.ReadBack
public import Idealize.ShloMosaic.Lib.Pointwise
public import proofs.«01_k».proof.Proof.InPay

@[expose] public section

set_option maxRecDepth 16384

/-!
# What the input kernel stores, from its blocks
-/

noncomputable section

namespace Cert.InIdeal.Val

open Cert.InIdeal Cert.InIdeal.Gen Idealize.ShloMosaic Idealize.ShloMosaic.TcCoe Idealize.SL.Sem
open InRow (Real')

/-- The batch member of a row. -/
def rb (r : Fin 128) : Fin 32 := ⟨r.val / 4, by omega⟩

/-- The position of a row. -/
def rs (r : Fin 128) : Fin 4 := ⟨r.val % 4, by omega⟩

/-- The blocks hold the layer's arrays, row by row, the averaging matrix, and the rotation's tables. -/
structure Blk (I : InRow.In) (x0 : Vec Ideal S128x1024 .f32) (x1 x2 : Vec Ideal S1x128x1024 .f32) (x3 : Vec Ideal S1x1024 .f32)
    (x4 : Vec Ideal S1024x2560 .bf16) (x5 : Vec Ideal S512x512 .bf16) (x6 x7 : Vec Ideal S1x512 .f32) (x8 x9 x10 : Vec Ideal S128x128 .f32) : Prop where
  x : ∀ r k, x0 (ix2 r k) = I.x (ix3 (rb r) (rs r) k)
  sh : ∀ r k, x1 (ix3 0 r k) = I.sh (ix3 (rb r) 0 k)
  sc : ∀ r k, x2 (ix3 0 r k) = I.sc (ix3 (rb r) 0 k)
  g : ∀ k, x3 (ix2 0 k) = I.g (ix1 k)
  w : ∀ d j, x4 (ix2 d j) = I.w (ix2 d j)
  bd : ∀ i j : Fin 512, x5 (ix2 i j) = if i.val / 64 = j.val / 64 then Ideal.ofBits .f32 1015021568#32 else 0
  qg : ∀ k : Fin 512, x6 (ix2 0 k) = I.qg (ix1 ⟨k.val % 64, Nat.mod_lt _ (by decide)⟩)
  kg : ∀ k : Fin 512, x7 (ix2 0 k) = I.kg (ix1 ⟨k.val % 64, Nat.mod_lt _ (by decide)⟩)
  co : ∀ r l : Fin 128, x8 (ix2 r l) = if h : l.val % 64 < 8 then Ideal.cos (InRow.ang (rs r).val ⟨l.val % 64, h⟩)
    else if h' : l.val % 64 < 16 then Ideal.cos (InRow.ang (rs r).val ⟨l.val % 64 - 8, by omega⟩) else 1
  s1 : ∀ r l : Fin 128, x9 (ix2 r l) = if h : l.val % 64 < 8 then -Ideal.sin (InRow.ang (rs r).val ⟨l.val % 64, h⟩) else 0
  s2 : ∀ r l : Fin 128, x10 (ix2 r l) = if h : l.val % 64 < 8 then 0
    else if h' : l.val % 64 < 16 then Ideal.sin (InRow.ang (rs r).val ⟨l.val % 64 - 8, by omega⟩) else 0

variable {I : InRow.In} {x0 : Vec Ideal S128x1024 .f32} {x1 x2 : Vec Ideal S1x128x1024 .f32} {x3 : Vec Ideal S1x1024 .f32}
    {x4 : Vec Ideal S1024x2560 .bf16} {x5 : Vec Ideal S512x512 .bf16} {x6 x7 : Vec Ideal S1x512 .f32} {x8 x9 x10 : Vec Ideal S128x128 .f32}
    (B : Blk I x0 x1 x2 x3 x4 x5 x6 x7 x8 x9 x10)

theorem zero2 : (![0, 0] : Fin 2 → ℕ) = fun _ => 0 := by decide

theorem zero3 : (![0, 0, 0] : Fin 3 → ℕ) = fun _ => 0 := by decide

include B in
/-- The block's projected rows are the layer's. -/
theorem z_eq (r : Fin 128) (j : Fin 2560) : k0_pay43 (F := Ideal) x0 x1 x2 x3 x4 x5 x6 x7 x8 x9 x10 (ix2 r j) = I.z (rb r) (rs r) j := by
  unfold k0_pay43
  rw [z_apply, View.ld_unit_zero zero2, View.ld_unit_zero zero2, View.ld_unit_zero zero3, View.ld_unit_zero zero3, View.ld_unit_zero zero2]
  unfold InRow.In.z InRow.In.h
  simp only [B.x, B.sh, B.sc, B.g, B.w]

include B in
/-- The lanes of a head in the cosine table. -/
theorem co_eq (r : Fin 128) (n : Fin 8) (d : Fin 64) :
    k0_pay44 (F := Ideal) x0 x1 x2 x3 x4 x5 x6 x7 x8 x9 x10 (ix2 r ⟨64 * n.val + d.val, by omega⟩)
      = if h : d.val < 8 then Ideal.cos (InRow.ang (rs r).val ⟨d.val, h⟩)
        else if h' : d.val < 16 then Ideal.cos (InRow.ang (rs r).val ⟨d.val - 8, by omega⟩) else 1 := by
  unfold k0_pay44
  rw [tile5, View.ld_unit_zero zero2, B.co]
  have e : (64 * n.val + d.val) % 128 % 64 = d.val := by omega
  simp only [e]

include B in
/-- The lanes of a head in the table of negated sines. -/
theorem s1_eq (r : Fin 128) (n : Fin 8) (d : Fin 64) :
    k0_pay45 (F := Ideal) x0 x1 x2 x3 x4 x5 x6 x7 x8 x9 x10 (ix2 r ⟨64 * n.val + d.val, by omega⟩)
      = if h : d.val < 8 then -Ideal.sin (InRow.ang (rs r).val ⟨d.val, h⟩) else 0 := by
  unfold k0_pay45
  rw [tile6, View.ld_unit_zero zero2, B.s1]
  have e : (64 * n.val + d.val) % 128 % 64 = d.val := by omega
  simp only [e]

include B in
/-- The lanes of a head in the table of sines. -/
theorem s2_eq (r : Fin 128) (n : Fin 8) (d : Fin 64) :
    k0_pay47 (F := Ideal) x0 x1 x2 x3 x4 x5 x6 x7 x8 x9 x10 (ix2 r ⟨64 * n.val + d.val, by omega⟩)
      = if h : d.val < 8 then 0 else if h' : d.val < 16 then Ideal.sin (InRow.ang (rs r).val ⟨d.val - 8, by omega⟩) else 0 := by
  unfold k0_pay47 k0_pay46
  rw [tile8, View.ld_unit_zero zero2, B.s2]
  have e : (64 * n.val + d.val) % 128 % 64 = d.val := by omega
  simp only [e]

include B in
/-- A normalised head of the block's projection. -/
theorem norm_eq (hI : I.Fin') (o : ℕ) (ho : o ≤ 512) (g : Vec Ideal S1x512 .f32) (gg : Fin 64 → EReal)
    (hg : ∀ k : Fin 512, g (ix2 0 k) = gg ⟨k.val % 64, Nat.mod_lt _ (by decide)⟩) (r : Fin 128) (n : Fin 8) (d : Fin 64) :
    tn o ho (k0_pay43 (F := Ideal) x0 x1 x2 x3 x4 x5 x6 x7 x8 x9 x10) (View.ld x5 r0_5) g r ⟨64 * n.val + d.val, by omega⟩
      = FfnRow.rms 1115684864#32 (fun d => I.z (rb r) (rs r) ⟨o + (64 * n.val + d.val), by omega⟩) gg d := by
  rw [View.ld_unit_zero zero2, tn_eq o ho _ _ _ r (fun j => by rw [z_eq B]; exact InRow.z_real I hI _ _ _) B.bd n d]
  simp only [z_eq B]
  congr 1
  funext d
  rw [hg]
  exact congrArg gg (Fin.ext (show (64 * n.val + d.val) % 64 = d.val by omega))

include B in
/-- The block's keys. -/
theorem k_eq (hI : I.Fin') (r : Fin 128) (n : Fin 8) (d : Fin 64) :
    k0_pay52 (F := Ideal) x0 x1 x2 x3 x4 x5 x6 x7 x8 x9 x10 (ix2 r ⟨64 * n.val + d.val, by omega⟩) = I.k (rb r) (rs r) n d := by
  unfold k0_pay52 k0_pay49 k0_pay50
  rw [ropek_apply, cosk_apply]
  simp only [tnk_apply]
  exact rope_lane (rs r).val _ n _ (fun d => norm_eq B hI 512 (by omega) _ (fun d => I.kg (ix1 d))
    (fun k => by rw [View.ld_unit_zero zero2]; exact B.kg k) r n d) d _ _ _ (co_eq B r n d) (s1_eq B r n d) (s2_eq B r n d)

include B in
/-- The block's queries. -/
theorem q_eq (hI : I.Fin') (r : Fin 128) (n : Fin 8) (d : Fin 64) :
    k0_pay48 (F := Ideal) x0 x1 x2 x3 x4 x5 x6 x7 x8 x9 x10 (ix2 r ⟨64 * n.val + d.val, by omega⟩) = I.q (rb r) (rs r) n d := by
  unfold k0_pay48
  rw [ropeq_apply]
  refine (rope_lane (rs r).val _ n _ (fun d => norm_eq B hI 0 (by omega) _ (fun d => I.qg (ix1 d))
    (fun k => by rw [View.ld_unit_zero zero2]; exact B.qg k) r n d) d _ _ _ (co_eq B r n d) (s1_eq B r n d) (s2_eq B r n d)).trans ?_
  unfold InRow.In.q
  simp only [Nat.zero_add]

include B in
/-- The block's values. -/
theorem v_eq (r : Fin 128) (n : Fin 8) (d : Fin 64) :
    k0_pay53 (F := Ideal) x0 x1 x2 x3 x4 x5 x6 x7 x8 x9 x10 (ix2 r ⟨64 * n.val + d.val, by omega⟩) = I.v (rb r) (rs r) n d := by
  unfold k0_pay53
  rw [v_apply, z_eq B]
  rfl

/-- The head of a lane among 512. -/
def ln (j : Fin 512) : Fin 8 := ⟨j.val / 64, by omega⟩

/-- Its channel. -/
def lc (j : Fin 512) : Fin 64 := ⟨j.val % 64, by omega⟩

/-- A lane is its head's and channel's. -/
theorem lane_split (j : Fin 512) : (⟨64 * (ln j).val + (lc j).val, by have := (ln j).isLt; have := (lc j).isLt; omega⟩ : Fin 512) = j :=
  Fin.ext (show 64 * (j.val / 64) + j.val % 64 = j.val by omega)

include B in
/-- The stored keys. -/
theorem out11 (hI : I.Fin') (r : Fin 128) (j : Fin 512) :
    out0_11 (F := Ideal) x0 x1 x2 x3 x4 x5 x6 x7 x8 x9 x10 (ix2 r j) = I.k (rb r) (rs r) (ln j) (lc j) := by
  have e := k_eq B hI r (ln j) (lc j)
  rw [lane_split j] at e
  exact (whole_canon _ r j).trans e

include B in
/-- The stored values. -/
theorem out12 (r : Fin 128) (j : Fin 512) :
    out0_12 (F := Ideal) x0 x1 x2 x3 x4 x5 x6 x7 x8 x9 x10 (ix2 r j) = I.v (rb r) (rs r) (ln j) (lc j) := by
  have e := v_eq B r (ln j) (lc j)
  rw [lane_split j] at e
  exact (whole_canon _ r j).trans e

include B in
/-- The stored linear unit. -/
theorem out13 (r : Fin 128) (j : Fin 512) :
    out0_13 (F := Ideal) x0 x1 x2 x3 x4 x5 x6 x7 x8 x9 x10 (ix2 r j) = I.u (rb r) (rs r) j :=
  (whole_canon _ r j).trans ((u_apply _ r j).trans (congrArg₂ InRow.glu (z_eq B r _) (z_eq B r _)))

/-- A head with its zeros. -/
def padded (t : Fin 64 → EReal) (l : Fin 128) : EReal := if h : l.val < 64 then t ⟨l.val, h⟩ else 0

/-- The array of heads, from its entries. -/
theorem hd_eq (q : Vec Ideal S128x512 .f32) (n : Fin 8) (r l : Fin 128) (t : Fin 64 → EReal)
    (h : ∀ d, q (ix2 r ⟨64 * n.val + d.val, by omega⟩) = t d) : hd q n r l = padded t l := by
  unfold hd padded
  by_cases g : l.val < 64
  · rw [dif_pos g, dif_pos g]; exact h ⟨l.val, g⟩
  · rw [dif_neg g, dif_neg g]

include B in
/-- The stored heads of the queries. -/
theorem out14 (hI : I.Fin') (n : Fin 8) (r l : Fin 128) :
    out0_14 (F := Ideal) x0 x1 x2 x3 x4 x5 x6 x7 x8 x9 x10 (ix3 n r l) = padded (I.q (rb r) (rs r) n) l :=
  (heads_canon (k0_pay48 (F := Ideal) x0 x1 x2 x3 x4 x5 x6 x7 x8 x9 x10) n r l).trans (hd_eq _ n r l _ (q_eq B hI r n))

include B in
/-- The stored heads of the keys. -/
theorem out15 (hI : I.Fin') (n : Fin 8) (r l : Fin 128) :
    out0_15 (F := Ideal) x0 x1 x2 x3 x4 x5 x6 x7 x8 x9 x10 (ix3 n r l) = padded (I.k (rb r) (rs r) n) l :=
  (heads_canon (k0_pay52 (F := Ideal) x0 x1 x2 x3 x4 x5 x6 x7 x8 x9 x10) n r l).trans (hd_eq _ n r l _ (k_eq B hI r n))

include B in
/-- The stored heads of the values. -/
theorem out16 (n : Fin 8) (r l : Fin 128) :
    out0_16 (F := Ideal) x0 x1 x2 x3 x4 x5 x6 x7 x8 x9 x10 (ix3 n r l) = padded (I.v (rb r) (rs r) n) l :=
  (heads_canon (k0_pay53 (F := Ideal) x0 x1 x2 x3 x4 x5 x6 x7 x8 x9 x10) n r l).trans (hd_eq _ n r l _ (v_eq B r n))

end Cert.InIdeal.Val
-- ==== Proof.InHost.lean ====
module

public import proofs.«01_k».proof.Proof.InBody
public import Idealize.ShloMosaic.Lib.KernelVsHost
public import Idealize.ShloMosaic.Lib.StableHlo.ReadAt

@[expose] public section

set_option maxRecDepth 16384

/-!
# The arrays the input kernel's host part prepares
-/

noncomputable section

namespace Cert.InIdeal.Val

open Cert.InIdeal Cert.InIdeal.Gen Idealize.ShloMosaic Idealize.ShloMosaic.TcCoe Idealize.SL.Sem Idealize.ShloMosaic.StableHlo

variable (m : (ℓ : Loc nD τ sig) → Buf (Elt Ideal) ℓ) (c : Dev nD)

/-- The host's floor division of a channel by the number of a head's channels. -/
theorem floor64 : ∀ s : Fin 512, Scalar.select
            (IntOp.andi
              (IntOp.cmpi CmpIPredicate.ne
                (if BitVec.ofNat 32 s.val = 0 then 0 else if (BitVec.ofNat 32 s.val).msb = true then -1 else 1 : BitVec 32)
                (if 64#32 = 0 then 0 else if (64#32).msb = true then -1 else 1))
              (IntOp.cmpi CmpIPredicate.ne (IntOp.remsi ArithUnit.host (BitVec.ofNat 32 s.val) 64#32) 0#32))
            (IntOp.subi (IntOp.divsi ArithUnit.host (BitVec.ofNat 32 s.val) 64#32) 1#32)
            (IntOp.divsi ArithUnit.host (BitVec.ofNat 32 s.val) 64#32) = BitVec.ofNat 32 (s.val / 64) := by
  decide +kernel

/-- The averaging matrix. -/
def Abd : S512x512.Idx → EReal := V m c main_v8

theorem Abd_apply (i j : Fin 512) : Abd m c (ix2 i j) = if i.val / 64 = j.val / 64 then Ideal.ofBits .f32 1015021568#32 else 0 := by
  unfold Abd V
  simp only [List.flatten_cons, List.flatten_nil, List.append_nil]
  after_reads_simp
  simp only [TRef.ofBuf, TRef.toBuf, cast_eq, id]
  pointwise
  refine (congrArg₂ (fun a b => Scalar.select (IntOp.cmpi CmpIPredicate.eq a b) (Ideal.ofBits FTy.f32 1015021568#32) 0)
    (floor64 i) (floor64 j)).trans ?_
  rw [AttnSpec.eqW _ _ (by omega) (by omega)]
  by_cases h : i.val / 64 = j.val / 64
  · rw [if_pos h, if_pos h]; rfl
  · rw [if_neg h, if_neg h]; rfl

/-- The contents after two lists of operations, one after the other. -/
theorem after_app (l₁ l₂ : List (HloOp τ sig (Elt Ideal))) (W : Valuation τ sig (Elt Ideal)) :
    after (l₁ ++ l₂) W = after l₂ (after l₁ W) := by
  induction l₁ generalizing W with
  | nil => rfl
  | cons op l ih => exact ih _

/-- What the operations before the tables leave. -/
def W5 : Valuation τ sig (Elt Ideal) :=
  after (List.flatten [hostOps0, hostOps0_1, hostOps0_2, hostOps0_3, hostOps0_4, hostOps0_5]) (fun b => m (c, b))

theorem V_eq (b : Ref sig .tc) : V m c b = after hostOps0_6 (W5 m c) b := by
  have e : (List.flatten [hostOps0, hostOps0_1, hostOps0_2, hostOps0_3, hostOps0_4, hostOps0_5, hostOps0_6] : List (HloOp τ sig (Elt Ideal)))
      = List.flatten [hostOps0, hostOps0_1, hostOps0_2, hostOps0_3, hostOps0_4, hostOps0_5] ++ hostOps0_6 := rfl
  unfold V W5
  rw [e, after_app]

theorem rem4 : ∀ r : Fin 128, Scalar.select
      (IntOp.andi
        (IntOp.cmpi CmpIPredicate.ne
          (IntOp.cmpi CmpIPredicate.slt
            (IntOp.remsi ArithUnit.host (BitVec.ofNat 32 r.val)
              (Scalar.select (IntOp.cmpi CmpIPredicate.eq 4#32 0#32) 1#32 4#32))
            0#32)
          (IntOp.cmpi CmpIPredicate.slt (Scalar.select (IntOp.cmpi CmpIPredicate.eq 4#32 0#32) 1#32 4#32) 0#32))
        (IntOp.cmpi CmpIPredicate.ne
          (IntOp.remsi ArithUnit.host (BitVec.ofNat 32 r.val)
            (Scalar.select (IntOp.cmpi CmpIPredicate.eq 4#32 0#32) 1#32 4#32))
          0#32))
      (IntOp.addi
        (IntOp.remsi ArithUnit.host (BitVec.ofNat 32 r.val)
          (Scalar.select (IntOp.cmpi CmpIPredicate.eq 4#32 0#32) 1#32 4#32))
        (Scalar.select (IntOp.cmpi CmpIPredicate.eq 4#32 0#32) 1#32 4#32))
      (IntOp.remsi ArithUnit.host (BitVec.ofNat 32 r.val)
        (Scalar.select (IntOp.cmpi CmpIPredicate.eq 4#32 0#32) 1#32 4#32)) =
    BitVec.ofNat 32 (r.val % 4) := by decide +kernel

/-- The row numbers modulo four. -/
theorem W5_apply (r : Fin 128) : (W5 m c (Proc.tc.devRef main_v18) : S128.Idx → BitVec 32) (ix1 r) = BitVec.ofNat 32 (r.val % 4) := by
  unfold W5
  simp only [List.flatten_cons, List.flatten_nil, List.append_nil]
  after_reads_simp
  simp only [TRef.ofBuf, TRef.toBuf, cast_eq, id]
  pointwise
  exact rem4 r

/-- A cosine of the table. -/
theorem c33 (W : Valuation τ sig (Elt Ideal))
    (hW : ∀ r : Fin 128, (W (Proc.tc.devRef main_v18) : S128.Idx → BitVec 32) (ix1 r) = BitVec.ofNat 32 (r.val % 4)) (r : Fin 128) (j : Fin 8) :
    (upto hostOps0_6 W 26 (Proc.tc.devRef main_v33) : S128x8.Idx → EReal) (ix2 r j) = Ideal.cos (InRow.ang (rs r).val j) := by
  after_reads_simp
  pointwise
  rw [hW]
  rfl

/-- A sine of the table. -/
theorem c34 (W : Valuation τ sig (Elt Ideal))
    (hW : ∀ r : Fin 128, (W (Proc.tc.devRef main_v18) : S128.Idx → BitVec 32) (ix1 r) = BitVec.ofNat 32 (r.val % 4)) (r : Fin 128) (j : Fin 8) :
    (upto hostOps0_6 W 29 (Proc.tc.devRef main_v34) : S128x8.Idx → EReal) (ix2 r j) = Ideal.sin (InRow.ang (rs r).val j) := by
  after_reads_simp
  pointwise
  rw [hW]
  rfl

/-- A negated sine of the table. -/
theorem c40 (W : Valuation τ sig (Elt Ideal))
    (hW : ∀ r : Fin 128, (W (Proc.tc.devRef main_v18) : S128.Idx → BitVec 32) (ix1 r) = BitVec.ofNat 32 (r.val % 4)) (r : Fin 128) (j : Fin 8) :
    (upto hostOps0_6 W 28 (Proc.tc.devRef main_v40) : S128x8.Idx → EReal) (ix2 r j) = -Ideal.sin (InRow.ang (rs r).val j) := by
  after_reads_simp
  pointwise
  rw [hW]
  rfl

/-- The table's ones. -/
theorem c38 (W : Valuation τ sig (Elt Ideal)) (r : Fin 128) (j : Fin 48) :
    (upto hostOps0_6 W 26 (Proc.tc.devRef main_v38) : S128x48.Idx → EReal) (ix2 r j) = (1 : EReal) := by
  after_reads_simp
  pointwise

/-- Eight zeros of the table of negated sines. -/
theorem c36 (W : Valuation τ sig (Elt Ideal)) (n : ℕ) (hn : n = 28 ∨ n = 29) (r : Fin 128) (j : Fin 8) :
    (upto hostOps0_6 W n (Proc.tc.devRef main_v36) : S128x8.Idx → EReal) (ix2 r j) = (0 : EReal) := by
  rcases hn with rfl | rfl <;>
  · after_reads_simp
    pointwise

/-- The zeros where a channel does not turn. -/
theorem c35 (W : Valuation τ sig (Elt Ideal)) (n : ℕ) (hn : n = 28 ∨ n = 29) (r : Fin 128) (j : Fin 48) :
    (upto hostOps0_6 W n (Proc.tc.devRef main_v35) : S128x48.Idx → EReal) (ix2 r j) = (0 : EReal) := by
  rcases hn with rfl | rfl <;>
  · after_reads_simp
    pointwise

/-- A row of lanes laid out from pieces of eight, eight and forty-eight, twice. -/
theorem three_lane {f g f' g' : Fin 8 → EReal} {k k' : Fin 48 → EReal} (hf : ∀ j, f j = f' j) (hg : ∀ j, g j = g' j) (hk : ∀ j, k j = k' j)
    (l : Fin 128) :
    (if h : l.val < 64 then
      if h1 : l.val < 8 then f ⟨l.val, h1⟩ else if h2 : l.val - 8 < 8 then g ⟨l.val - 8, h2⟩ else k ⟨l.val - 8 - 8, by omega⟩
    else
      if h1 : l.val - 64 < 8 then f ⟨l.val - 64, h1⟩ else if h2 : l.val - 64 - 8 < 8 then g ⟨l.val - 64 - 8, h2⟩
      else k ⟨l.val - 64 - 8 - 8, by omega⟩)
    = if h : l.val % 64 < 8 then f' ⟨l.val % 64, h⟩ else if h' : l.val % 64 < 16 then g' ⟨l.val % 64 - 8, by omega⟩
      else k' ⟨l.val % 64 - 16, by omega⟩ := by
  obtain rfl : f = f' := funext hf
  obtain rfl : g = g' := funext hg
  obtain rfl : k = k' := funext hk
  split_ifs <;> first
    | omega
    | exact congrArg f (Fin.ext (by simp only []; omega))
    | exact congrArg g (Fin.ext (by simp only []; omega))
    | exact congrArg k (Fin.ext (by simp only []; omega))

/-- The table of cosines. -/
def Aco : S128x128.Idx → EReal := V m c main_v43

theorem Aco_apply (r l : Fin 128) : Aco m c (ix2 r l) = if h : l.val % 64 < 8 then Ideal.cos (InRow.ang (rs r).val ⟨l.val % 64, h⟩)
    else if h' : l.val % 64 < 16 then Ideal.cos (InRow.ang (rs r).val ⟨l.val % 64 - 8, by omega⟩) else 1 := by
  unfold Aco
  rw [V_eq]
  have hW := W5_apply m c
  generalize W5 m c = W at *
  after_reads_simp
  pointwise
  have key := three_lane (c33 W hW r) (c33 W hW r) (c38 W r) l
  exact key

/-- The table of negated sines. -/
def As1 : S128x128.Idx → EReal := V m c main_v44

theorem As1_apply (r l : Fin 128) : As1 m c (ix2 r l)
    = if h : l.val % 64 < 8 then -Ideal.sin (InRow.ang (rs r).val ⟨l.val % 64, h⟩) else 0 := by
  unfold As1
  rw [V_eq]
  have hW := W5_apply m c
  generalize W5 m c = W at *
  after_reads_simp
  pointwise
  have key := three_lane (c40 W hW r) (c36 W 28 (by omega) r) (c35 W 28 (by omega) r) l
  refine Eq.trans key ?_
  split_ifs <;> rfl

/-- The table of sines. -/
def As2 : S128x128.Idx → EReal := V m c main_v45

theorem As2_apply (r l : Fin 128) : As2 m c (ix2 r l) = if h : l.val % 64 < 8 then 0
    else if h' : l.val % 64 < 16 then Ideal.sin (InRow.ang (rs r).val ⟨l.val % 64 - 8, by omega⟩) else 0 := by
  unfold As2
  rw [V_eq]
  have hW := W5_apply m c
  generalize W5 m c = W at *
  after_reads_simp
  pointwise
  have key := three_lane (c36 W 29 (by omega) r) (c34 W hW r) (c35 W 29 (by omega) r) l
  exact key

/-- The layer's arrays, as the arguments hold them. -/
def inp : InRow.In where
  x := m (c, Proc.tc.devRef main_arg0)
  sh := m (c, Proc.tc.devRef main_arg1)
  sc := m (c, Proc.tc.devRef main_arg2)
  g := m (c, Proc.tc.devRef main_arg3)
  w := m (c, Proc.tc.devRef main_arg4)
  qg := m (c, Proc.tc.devRef main_arg5)
  kg := m (c, Proc.tc.devRef main_arg6)

/-- The input rows. -/
def Ax : S128x1024.Idx → EReal := V m c main_v46

theorem Ax_apply (r : Fin 128) (k : Fin 1024) : Ax m c (ix2 r k) = (inp m c).x (ix3 (rb r) (rs r) k) := by
  unfold Ax
  unfold_abbrev_sides
  simp only [List.flatten_cons, List.flatten_nil, List.cons_append, List.nil_append]
  after_results
  pointwise
  rfl

/-- The shift, a row for each row. -/
def Ash : S1x128x1024.Idx → EReal := V m c main_v50

theorem Ash_apply (r : Fin 128) (k : Fin 1024) : Ash m c (ix3 0 r k) = (inp m c).sh (ix3 (rb r) 0 k) := by
  unfold Ash
  unfold_abbrev_sides
  simp only [List.flatten_cons, List.flatten_nil, List.cons_append, List.nil_append]
  after_results
  pointwise
  rfl

/-- The scale, a row for each row. -/
def Asc : S1x128x1024.Idx → EReal := V m c main_v54

theorem Asc_apply (r : Fin 128) (k : Fin 1024) : Asc m c (ix3 0 r k) = (inp m c).sc (ix3 (rb r) 0 k) := by
  unfold Asc
  unfold_abbrev_sides
  simp only [List.flatten_cons, List.flatten_nil, List.cons_append, List.nil_append]
  after_results
  pointwise
  rfl

/-- The gain. -/
def Ag : S1x1024.Idx → EReal := V m c main_v55

theorem Ag_apply (k : Fin 1024) : Ag m c (ix2 0 k) = (inp m c).g (ix1 k) := by
  unfold Ag
  unfold_abbrev_sides
  simp only [List.flatten_cons, List.flatten_nil, List.cons_append, List.nil_append]
  after_results
  pointwise

/-- The weights. -/
def Aw : S1024x2560.Idx → EReal := V m c main_v56

theorem Aw_apply (d : Fin 1024) (j : Fin 2560) : Aw m c (ix2 d j) = (inp m c).w (ix2 d j) := by
  unfold Aw
  unfold_abbrev_sides
  simp only [List.flatten_cons, List.flatten_nil, List.cons_append, List.nil_append]
  after_results
  pointwise

/-- The queries' gain, once for each head. -/
def Aqg : S1x512.Idx → EReal := V m c main_v12

theorem Aqg_apply (k : Fin 512) : Aqg m c (ix2 0 k) = (inp m c).qg (ix1 ⟨k.val % 64, Nat.mod_lt _ (by decide)⟩) := by
  unfold Aqg
  unfold_abbrev_sides
  simp only [List.flatten_cons, List.flatten_nil, List.cons_append, List.nil_append]
  after_results
  pointwise

/-- The keys' gain, once for each head. -/
def Akg : S1x512.Idx → EReal := V m c main_v16

theorem Akg_apply (k : Fin 512) : Akg m c (ix2 0 k) = (inp m c).kg (ix1 ⟨k.val % 64, Nat.mod_lt _ (by decide)⟩) := by
  unfold Akg
  unfold_abbrev_sides
  simp only [List.flatten_cons, List.flatten_nil, List.cons_append, List.nil_append]
  after_results
  pointwise

end Cert.InIdeal.Val
-- ==== Proof.InArr.lean ====
module

public import proofs.«01_k».proof.Proof.Gen.InIdeal.Value
public import Idealize.ShloMosaic.Lib.Pipeline.ValueKit
public import Idealize.ShloMosaic.Lib.Pipeline.ReadBack
public import Idealize.ShloMosaic.Lib.Pointwise
public import Idealize.ShloMosaic.Lib.Pipeline.Covers
public import proofs.«01_k».proof.Proof.InHost

@[expose] public section

set_option maxRecDepth 16384

/-!
# The arrays the input kernel leaves
-/

noncomputable section

namespace Cert.InIdeal.Val

open Cert.InIdeal Cert.InIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The block each window is on. -/
theorem idx_facts : ∀ t : Fin cfg0.N, (cfg0.win 0).index t = ![0, 0]
    ∧ (cfg0.win 1).index t = ![0, 0, 0]
    ∧ (cfg0.win 2).index t = ![0, 0, 0]
    ∧ (cfg0.win 3).index t = ![0, 0]
    ∧ (cfg0.win 4).index t = ![0, 0]
    ∧ (cfg0.win 5).index t = ![0, 0]
    ∧ (cfg0.win 6).index t = ![0, 0]
    ∧ (cfg0.win 7).index t = ![0, 0]
    ∧ (cfg0.win 8).index t = ![0, 0]
    ∧ (cfg0.win 9).index t = ![0, 0]
    ∧ (cfg0.win 10).index t = ![0, 0]
    ∧ (cfg0.win 11).index t = ![0, 0]
    ∧ (cfg0.win 12).index t = ![0, 0]
    ∧ (cfg0.win 13).index t = ![0, 0]
    ∧ (cfg0.win 14).index t = ![0, 0, 0]
    ∧ (cfg0.win 15).index t = ![0, 0, 0]
    ∧ (cfg0.win 16).index t = ![0, 0, 0] := by decide +kernel

/-- The point's input. -/
theorem iblk0 (t : Fin cfg0.N) (r : Fin 128) (k : Fin 1024) : (iblk m c 0 t : Vec Ideal S128x1024 .f32) (ix2 r k) = Ax m c (ix2 r k) := by
  unfold Ax
  blk_ext [iblk, V, (idx_facts t).1]

/-- The point's shift. -/
theorem iblk1 (t : Fin cfg0.N) (r : Fin 128) (k : Fin 1024) : (iblk m c 1 t : Vec Ideal S1x128x1024 .f32) (ix3 0 r k) = Ash m c (ix3 0 r k) := by
  unfold Ash
  blk_ext [iblk, V, (idx_facts t).2.1]

/-- The point's scale. -/
theorem iblk2 (t : Fin cfg0.N) (r : Fin 128) (k : Fin 1024) : (iblk m c 2 t : Vec Ideal S1x128x1024 .f32) (ix3 0 r k) = Asc m c (ix3 0 r k) := by
  unfold Asc
  blk_ext [iblk, V, (idx_facts t).2.2.1]

/-- The point's gain. -/
theorem iblk3 (t : Fin cfg0.N) (k : Fin 1024) : (iblk m c 3 t : Vec Ideal S1x1024 .f32) (ix2 0 k) = Ag m c (ix2 0 k) := by
  unfold Ag
  blk_ext [iblk, V, (idx_facts t).2.2.2.1]

/-- The point's weights. -/
theorem iblk4 (t : Fin cfg0.N) (d : Fin 1024) (j : Fin 2560) : (iblk m c 4 t : Vec Ideal S1024x2560 .bf16) (ix2 d j) = Aw m c (ix2 d j) := by
  unfold Aw
  blk_ext [iblk, V, (idx_facts t).2.2.2.2.1]

/-- The point's averaging matrix. -/
theorem iblk5 (t : Fin cfg0.N) (i j : Fin 512) : (iblk m c 5 t : Vec Ideal S512x512 .bf16) (ix2 i j) = Abd m c (ix2 i j) := by
  unfold Abd
  blk_ext [iblk, V, (idx_facts t).2.2.2.2.2.1]

/-- The point's queries' gain. -/
theorem iblk6 (t : Fin cfg0.N) (k : Fin 512) : (iblk m c 6 t : Vec Ideal S1x512 .f32) (ix2 0 k) = Aqg m c (ix2 0 k) := by
  unfold Aqg
  blk_ext [iblk, V, (idx_facts t).2.2.2.2.2.2.1]

/-- The point's keys' gain. -/
theorem iblk7 (t : Fin cfg0.N) (k : Fin 512) : (iblk m c 7 t : Vec Ideal S1x512 .f32) (ix2 0 k) = Akg m c (ix2 0 k) := by
  unfold Akg
  blk_ext [iblk, V, (idx_facts t).2.2.2.2.2.2.2.1]

/-- The point's table of cosines. -/
theorem iblk8 (t : Fin cfg0.N) (r l : Fin 128) : (iblk m c 8 t : Vec Ideal S128x128 .f32) (ix2 r l) = Aco m c (ix2 r l) := by
  unfold Aco
  blk_ext [iblk, V, (idx_facts t).2.2.2.2.2.2.2.2.1]

/-- The point's table of negated sines. -/
theorem iblk9 (t : Fin cfg0.N) (r l : Fin 128) : (iblk m c 9 t : Vec Ideal S128x128 .f32) (ix2 r l) = As1 m c (ix2 r l) := by
  unfold As1
  blk_ext [iblk, V, (idx_facts t).2.2.2.2.2.2.2.2.2.1]

/-- The point's table of sines. -/
theorem iblk10 (t : Fin cfg0.N) (r l : Fin 128) : (iblk m c 10 t : Vec Ideal S128x128 .f32) (ix2 r l) = As2 m c (ix2 r l) := by
  unfold As2
  blk_ext [iblk, V, (idx_facts t).2.2.2.2.2.2.2.2.2.2.1]

/-- The point's blocks hold the layer. -/
theorem blk (t : Fin cfg0.N) : Blk (inp m c) (iblk m c 0 t) (iblk m c 1 t) (iblk m c 2 t) (iblk m c 3 t) (iblk m c 4 t) (iblk m c 5 t)
    (iblk m c 6 t) (iblk m c 7 t) (iblk m c 8 t) (iblk m c 9 t) (iblk m c 10 t) where
  x r k := (iblk0 m c t r k).trans (Ax_apply m c r k)
  sh r k := (iblk1 m c t r k).trans (Ash_apply m c r k)
  sc r k := (iblk2 m c t r k).trans (Asc_apply m c r k)
  g k := (iblk3 m c t k).trans (Ag_apply m c k)
  w r k := (iblk4 m c t r k).trans (Aw_apply m c r k)
  bd r k := (iblk5 m c t r k).trans (Abd_apply m c r k)
  qg k := (iblk6 m c t k).trans (Aqg_apply m c k)
  kg k := (iblk7 m c t k).trans (Akg_apply m c k)
  co r k := (iblk8 m c t r k).trans (Aco_apply m c r k)
  s1 r k := (iblk9 m c t r k).trans (As1_apply m c r k)
  s2 r k := (iblk10 m c t r k).trans (As2_apply m c r k)

/-- The keys, a row for each position. -/
def GK (i : S128x512.Idx) : EReal := (inp m c).k (rb (i 0)) (rs (i 0)) (ln (i 1)) (lc (i 1))

/-- The values, a row for each position. -/
def GV (i : S128x512.Idx) : EReal := (inp m c).v (rb (i 0)) (rs (i 0)) (ln (i 1)) (lc (i 1))

/-- The gated linear unit, a row for each position. -/
def GU (i : S128x512.Idx) : EReal := (inp m c).u (rb (i 0)) (rs (i 0)) (i 1)

/-- The queries' heads. -/
def HQ (i : S8x128x128.Idx) : EReal := padded ((inp m c).q (rb (i 1)) (rs (i 1)) (i 0)) (i 2)

/-- The keys' heads. -/
def HK (i : S8x128x128.Idx) : EReal := padded ((inp m c).k (rb (i 1)) (rs (i 1)) (i 0)) (i 2)

/-- The values' heads. -/
def HV (i : S8x128x128.Idx) : EReal := padded ((inp m c).v (rb (i 1)) (rs (i 1)) (i 0)) (i 2)

/-- The block covers the keys. -/
theorem cov11 : (cfg0.win 11).Covers := by decide +kernel

/-- The keys the kernel leaves. -/
theorem arr11 (hI : (inp m c).Fin') : (dats m 0 c).arrAt 11 cfg0.N = GK m c := by
  refine (dats m 0 c).arrAt_eq_of_covers 11 _ cov11 fun t hf y => ?_
  blk_simp
  rw [after0_11]
  obtain ⟨r, j, rfl⟩ : ∃ (r : Fin 128) (j : Fin 512), y = ix2 r j := ⟨y 0, y 1, funext fun a => match a with
    | ⟨0, _⟩ => rfl
    | ⟨1, _⟩ => rfl⟩
  refine (out11 (blk m c t) hI r j).trans ?_
  show GK m c (ix2 r j) = _
  refine congrArg (GK m c) (funext fun a => Fin.ext ?_)
  blk_simp [(idx_facts t).2.2.2.2.2.2.2.2.2.2.2.1]
  match a with
  | ⟨0, _⟩ => show r.val = 0 * 128 + r.val; omega
  | ⟨1, _⟩ => show j.val = 0 * 512 + j.val; omega

/-- The block covers the values. -/
theorem cov12 : (cfg0.win 12).Covers := by decide +kernel

/-- The values the kernel leaves. -/
theorem arr12 : (dats m 0 c).arrAt 12 cfg0.N = GV m c := by
  refine (dats m 0 c).arrAt_eq_of_covers 12 _ cov12 fun t hf y => ?_
  blk_simp
  rw [after0_12]
  obtain ⟨r, j, rfl⟩ : ∃ (r : Fin 128) (j : Fin 512), y = ix2 r j := ⟨y 0, y 1, funext fun a => match a with
    | ⟨0, _⟩ => rfl
    | ⟨1, _⟩ => rfl⟩
  refine (out12 (blk m c t) r j).trans ?_
  show GV m c (ix2 r j) = _
  refine congrArg (GV m c) (funext fun a => Fin.ext ?_)
  blk_simp [(idx_facts t).2.2.2.2.2.2.2.2.2.2.2.2.1]
  match a with
  | ⟨0, _⟩ => show r.val = 0 * 128 + r.val; omega
  | ⟨1, _⟩ => show j.val = 0 * 512 + j.val; omega

/-- The block covers the linear unit. -/
theorem cov13 : (cfg0.win 13).Covers := by decide +kernel

/-- The linear unit the kernel leaves. -/
theorem arr13 : (dats m 0 c).arrAt 13 cfg0.N = GU m c := by
  refine (dats m 0 c).arrAt_eq_of_covers 13 _ cov13 fun t hf y => ?_
  blk_simp
  rw [after0_13]
  obtain ⟨r, j, rfl⟩ : ∃ (r : Fin 128) (j : Fin 512), y = ix2 r j := ⟨y 0, y 1, funext fun a => match a with
    | ⟨0, _⟩ => rfl
    | ⟨1, _⟩ => rfl⟩
  refine (out13 (blk m c t) r j).trans ?_
  show GU m c (ix2 r j) = _
  refine congrArg (GU m c) (funext fun a => Fin.ext ?_)
  blk_simp [(idx_facts t).2.2.2.2.2.2.2.2.2.2.2.2.2.1]
  match a with
  | ⟨0, _⟩ => show r.val = 0 * 128 + r.val; omega
  | ⟨1, _⟩ => show j.val = 0 * 512 + j.val; omega

/-- The block covers the queries' heads. -/
theorem cov14 : (cfg0.win 14).Covers := by decide +kernel

/-- The queries' heads the kernel leaves. -/
theorem arr14 (hI : (inp m c).Fin') : (dats m 0 c).arrAt 14 cfg0.N = HQ m c := by
  refine (dats m 0 c).arrAt_eq_of_covers 14 _ cov14 fun t hf y => ?_
  blk_simp
  rw [after0_14]
  obtain ⟨n, r, l, rfl⟩ : ∃ (n : Fin 8) (r l : Fin 128), y = ix3 n r l := ⟨y 0, y 1, y 2, funext fun a => match a with
    | ⟨0, _⟩ => rfl
    | ⟨1, _⟩ => rfl
    | ⟨2, _⟩ => rfl⟩
  refine (out14 (blk m c t) hI n r l).trans ?_
  show HQ m c (ix3 n r l) = _
  refine congrArg (HQ m c) (funext fun a => Fin.ext ?_)
  blk_simp [(idx_facts t).2.2.2.2.2.2.2.2.2.2.2.2.2.2.1]
  match a with
  | ⟨0, _⟩ => show n.val = 0 * 8 + n.val; omega
  | ⟨1, _⟩ => show r.val = 0 * 128 + r.val; omega
  | ⟨2, _⟩ => show l.val = 0 * 128 + l.val; omega

/-- The block covers the keys' heads. -/
theorem cov15 : (cfg0.win 15).Covers := by decide +kernel

/-- The keys' heads the kernel leaves. -/
theorem arr15 (hI : (inp m c).Fin') : (dats m 0 c).arrAt 15 cfg0.N = HK m c := by
  refine (dats m 0 c).arrAt_eq_of_covers 15 _ cov15 fun t hf y => ?_
  blk_simp
  rw [after0_15]
  obtain ⟨n, r, l, rfl⟩ : ∃ (n : Fin 8) (r l : Fin 128), y = ix3 n r l := ⟨y 0, y 1, y 2, funext fun a => match a with
    | ⟨0, _⟩ => rfl
    | ⟨1, _⟩ => rfl
    | ⟨2, _⟩ => rfl⟩
  refine (out15 (blk m c t) hI n r l).trans ?_
  show HK m c (ix3 n r l) = _
  refine congrArg (HK m c) (funext fun a => Fin.ext ?_)
  blk_simp [(idx_facts t).2.2.2.2.2.2.2.2.2.2.2.2.2.2.2.1]
  match a with
  | ⟨0, _⟩ => show n.val = 0 * 8 + n.val; omega
  | ⟨1, _⟩ => show r.val = 0 * 128 + r.val; omega
  | ⟨2, _⟩ => show l.val = 0 * 128 + l.val; omega

/-- The block covers the values' heads. -/
theorem cov16 : (cfg0.win 16).Covers := by decide +kernel

/-- The values' heads the kernel leaves. -/
theorem arr16 : (dats m 0 c).arrAt 16 cfg0.N = HV m c := by
  refine (dats m 0 c).arrAt_eq_of_covers 16 _ cov16 fun t hf y => ?_
  blk_simp
  rw [after0_16]
  obtain ⟨n, r, l, rfl⟩ : ∃ (n : Fin 8) (r l : Fin 128), y = ix3 n r l := ⟨y 0, y 1, y 2, funext fun a => match a with
    | ⟨0, _⟩ => rfl
    | ⟨1, _⟩ => rfl
    | ⟨2, _⟩ => rfl⟩
  refine (out16 (blk m c t) n r l).trans ?_
  show HV m c (ix3 n r l) = _
  refine congrArg (HV m c) (funext fun a => Fin.ext ?_)
  blk_simp [(idx_facts t).2.2.2.2.2.2.2.2.2.2.2.2.2.2.2.2]
  match a with
  | ⟨0, _⟩ => show n.val = 0 * 8 + n.val; omega
  | ⟨1, _⟩ => show r.val = 0 * 128 + r.val; omega
  | ⟨2, _⟩ => show l.val = 0 * 128 + l.val; omega

end Cert.InIdeal.Val
-- ==== Proof.InRef.lean ====
module

public import proofs.«01_k».proof.Proof.InBody
public import proofs.«01_k».proof.Proof.Gen.InRefIdeal.Read

@[expose] public section

set_option maxRecDepth 16384

/-!
# The input projections' reference, read at an index
-/

noncomputable section

namespace Cert.InRefIdeal.Val

open Cert.InRefIdeal Cert.InRefIdeal.Gen Cert.InRefIdeal.Read Idealize.ShloMosaic Idealize.ShloMosaic.TcCoe Idealize.SL.Sem
open Cert.InIdeal.Val (rb rs ln lc padded)

variable (I : InRow.In)

/-- The reference's normalised and modulated row. -/
theorem v21_apply (b : Fin 32) (s : Fin 4) (k : Fin 1024) :
    val_main_v21 (F := Ideal) I.x I.sh I.sc I.g (ix3 b s k) = I.h b s k := by
  pointwise [val_main_v21, val_main_v20, val_main_v19, val_main_v18, val_main_v17, val_main_v16, val_main_v15, val_main_v14,
    val_main_v13, val_main_v12, val_main_v11, val_main_v10, val_main_v9, val_main_v8, val_main_v7, val_main_v6, val_main_v5,
    val_main_v4, val_main_v3, val_main_cst, val_main_cst_0, val_main_cst_1, val_main_cst_2]
  rfl

/-- Its projection. -/
theorem v22_apply (b : Fin 32) (s : Fin 4) (j : Fin 2560) :
    val_main_v22 (F := Ideal) I.x I.sh I.sc I.g I.w (ix3 b s j) = I.z b s j := by
  unfold InRow.In.z
  simp only [← v21_apply]
  unfold val_main_v22
  generalize val_main_v21 (F := Ideal) I.x I.sh I.sc I.g = y
  pointwise

/-- A head of the queries before it is normalised. -/
theorem v28_apply (b : Fin 32) (s : Fin 4) (n : Fin 8) (d : Fin 64) :
    val_main_v28 (F := Ideal) I.x I.sh I.sc I.g I.w (ix4 b s n d) = I.z b s ⟨64 * n.val + d.val, by omega⟩ := by
  rw [← v22_apply]
  unfold val_main_v28 val_main_v23
  generalize val_main_v22 (F := Ideal) I.x I.sh I.sc I.g I.w = y
  pointwise
  simp only [Nat.mul_comm]

/-- A head of the keys before it is normalised. -/
theorem v76_apply (b : Fin 32) (s : Fin 4) (n : Fin 8) (d : Fin 64) :
    val_main_v76 (F := Ideal) I.x I.sh I.sc I.g I.w (ix4 b s n d) = I.z b s ⟨512 + (64 * n.val + d.val), by omega⟩ := by
  rw [← v22_apply]
  unfold val_main_v76 val_main_v24
  generalize val_main_v22 (F := Ideal) I.x I.sh I.sc I.g I.w = y
  pointwise
  simp only [Nat.mul_comm]

/-- A head of the values. -/
theorem v124_apply (b : Fin 32) (s : Fin 4) (n : Fin 8) (d : Fin 64) :
    val_main_v124 (F := Ideal) I.x I.sh I.sc I.g I.w (ix4 b s n d) = I.v b s n d := by
  unfold InRow.In.v
  rw [← v22_apply]
  unfold val_main_v124 val_main_v25
  generalize val_main_v22 (F := Ideal) I.x I.sh I.sc I.g I.w = y
  pointwise
  simp only [Nat.mul_comm]

/-- The gated linear unit. -/
theorem v131_apply (b : Fin 32) (s : Fin 4) (j : Fin 512) :
    val_main_v131 (F := Ideal) I.x I.sh I.sc I.g I.w (ix3 b s j) = I.u b s j := by
  unfold InRow.In.u
  rw [← v22_apply, ← v22_apply]
  unfold val_main_v131 val_main_v130 val_main_v129 val_main_v128 val_main_v127 val_main_v126 val_main_v125 val_main_v27
    val_main_v26 val_main_cst_13 val_main_cst_14
  generalize val_main_v22 (F := Ideal) I.x I.sh I.sc I.g I.w = y
  pointwise
  unfold InRow.glu
  rw [sub_eq_add_neg, zero_add]

/-- A head of the queries, normalised. -/
theorem v41_apply (b : Fin 32) (s : Fin 4) (n : Fin 8) (d : Fin 64) :
    val_main_v41 (F := Ideal) I.x I.sh I.sc I.g I.w I.qg (ix4 b s n d)
      = FfnRow.rms 1115684864#32 (fun d => I.z b s ⟨64 * n.val + d.val, by omega⟩) (fun d => I.qg (ix1 d)) d := by
  simp only [← v28_apply]
  unfold val_main_v41 val_main_v40 val_main_v39 val_main_v38 val_main_v37 val_main_v36 val_main_v35 val_main_v34 val_main_v33
    val_main_v32 val_main_v31 val_main_v30 val_main_v29 val_main_cst_3 val_main_cst_4 val_main_cst_5
  generalize val_main_v28 (F := Ideal) I.x I.sh I.sc I.g I.w = y
  pointwise
  rfl

/-- A head of the keys, normalised. -/
theorem v89_apply (b : Fin 32) (s : Fin 4) (n : Fin 8) (d : Fin 64) :
    val_main_v89 (F := Ideal) I.x I.sh I.sc I.g I.w I.kg (ix4 b s n d)
      = FfnRow.rms 1115684864#32 (fun d => I.z b s ⟨512 + (64 * n.val + d.val), by omega⟩) (fun d => I.kg (ix1 d)) d := by
  simp only [← v76_apply]
  unfold val_main_v89 val_main_v88 val_main_v87 val_main_v86 val_main_v85 val_main_v84 val_main_v83 val_main_v82 val_main_v81
    val_main_v80 val_main_v79 val_main_v78 val_main_v77 val_main_cst_8 val_main_cst_9 val_main_cst_10
  generalize val_main_v76 (F := Ideal) I.x I.sh I.sc I.g I.w = y
  pointwise
  rfl

/-- The cosines. -/
theorem v61_apply (b : Fin 32) (s : Fin 4) (n d : Fin 8) :
    val_main_v61 (F := Ideal) (ix4 b s n d) = Ideal.cos (InRow.ang s.val d) := by
  pointwise [val_main_v61, val_main_v60, val_main_v55, val_main_v54, val_main_v53, val_main_v52, val_main_v51, val_main_v50,
    val_main_v49, val_main_v48, val_main_v47, val_main_v46, val_main_v45, val_main_v44, val_main_v43, val_main_v42,
    val_main_v2, val_main_v1, val_main_v0, val_main_c, val_main_cst_6, val_main_cst_7]
  rfl

/-- The sines. -/
theorem v64_apply (b : Fin 32) (s : Fin 4) (n d : Fin 8) :
    val_main_v64 (F := Ideal) (ix4 b s n d) = Ideal.sin (InRow.ang s.val d) := by
  pointwise [val_main_v64, val_main_v63, val_main_v57, val_main_v56, val_main_v53, val_main_v52, val_main_v51, val_main_v50,
    val_main_v49, val_main_v48, val_main_v47, val_main_v46, val_main_v45, val_main_v44, val_main_v43, val_main_v42,
    val_main_v2, val_main_v1, val_main_v0, val_main_c, val_main_cst_6, val_main_cst_7]
  rfl

/-- The rotation the reference applies to the queries and to the keys. -/
def rot (y : Vec Ideal S32x4x8x64 .f32) (C S : Vec Ideal S32x4x8x8 .f32) : Vec Ideal S32x4x8x64 .f32 :=
  let l : Vec Ideal S32x4x8x8 .f32 := extractStridedSlice S32x4x8x8 ![0, 0, 0, 0] y slices_S32x4x8x64_S32x4x8x8_0_0_0_0
  let h : Vec Ideal S32x4x8x8 .f32 := extractStridedSlice S32x4x8x8 ![0, 0, 0, 8] y slices_S32x4x8x64_S32x4x8x8_0_0_0_8
  concatenate S32x4x8x64 3 [⟨S32x4x8x8, subf (F := Ideal) (φ := .f32) (mulf l C) (mulf h S)⟩,
    ⟨S32x4x8x8, addf (F := Ideal) (φ := .f32) (mulf h C) (mulf l S)⟩,
    ⟨S32x4x8x48, extractStridedSlice S32x4x8x48 ![0, 0, 0, 16] y slices_S32x4x8x64_S32x4x8x48_0_0_0_16⟩]
    concatenates_S32x4x8x8_S32x4x8x8_S32x4x8x48_S32x4x8x64_d3

/-- The rotation's first eight channels. -/
theorem rot_left (y : Vec Ideal S32x4x8x64 .f32) (C S : Vec Ideal S32x4x8x8 .f32) (b : Fin 32) (s : Fin 4) (n d : Fin 8) :
    rot y C S (ix4 b s n ⟨d.val, by omega⟩) = y (ix4 b s n ⟨d.val, by omega⟩) * C (ix4 b s n d)
      - y (ix4 b s n ⟨8 + d.val, by omega⟩) * S (ix4 b s n d) := by
  unfold rot
  pointwise

/-- Its next eight. -/
theorem rot_right (y : Vec Ideal S32x4x8x64 .f32) (C S : Vec Ideal S32x4x8x8 .f32) (b : Fin 32) (s : Fin 4) (n d : Fin 8) :
    rot y C S (ix4 b s n ⟨8 + d.val, by omega⟩) = y (ix4 b s n ⟨8 + d.val, by omega⟩) * C (ix4 b s n d)
      + y (ix4 b s n ⟨d.val, by omega⟩) * S (ix4 b s n d) := by
  unfold rot
  pointwise

/-- Its others. -/
theorem rot_rest (y : Vec Ideal S32x4x8x64 .f32) (C S : Vec Ideal S32x4x8x8 .f32) (b : Fin 32) (s : Fin 4) (n : Fin 8) (d : Fin 48) :
    rot y C S (ix4 b s n ⟨16 + d.val, by omega⟩) = y (ix4 b s n ⟨16 + d.val, by omega⟩) := by
  unfold rot
  pointwise
  rw [dif_neg (by omega), dif_neg (by omega)]
  refine congrArg (fun t => y (ix4 b s n t)) (Fin.ext ?_)
  show 16 + (16 + d.val - 8 - 8) = 16 + d.val
  omega

/-- The reference's rotation turns each head by its position's angles. -/
theorem rot_apply (y : Vec Ideal S32x4x8x64 .f32) (b : Fin 32) (s : Fin 4) (n : Fin 8) (d : Fin 64) :
    rot y (val_main_v61 (F := Ideal)) (val_main_v64 (F := Ideal)) (ix4 b s n d)
      = InRow.rope s.val (fun d => y (ix4 b s n d)) d := by
  unfold InRow.rope
  by_cases h : d.val < 8
  · rw [dif_pos h]
    refine (rot_left y _ _ b s n ⟨d.val, h⟩).trans ?_
    rw [v61_apply, v64_apply]
    have e : (⟨8 + d.val, by omega⟩ : Fin 64) = ⟨d.val + 8, by omega⟩ := Fin.ext (Nat.add_comm _ _)
    exact congrArg (fun t => _ - y (ix4 b s n t) * _) e
  · rw [dif_neg h]
    by_cases h' : d.val < 16
    · rw [dif_pos h']
      have e : (⟨8 + (d.val - 8), by omega⟩ : Fin 64) = d := Fin.ext (by show 8 + (d.val - 8) = d.val; omega)
      have := rot_right y (val_main_v61 (F := Ideal)) (val_main_v64 (F := Ideal)) b s n ⟨d.val - 8, by omega⟩
      rw [v61_apply, v64_apply] at this
      dsimp only at this
      rw [e] at this
      exact this
    · rw [dif_neg h']
      have e : (⟨16 + (d.val - 16), by omega⟩ : Fin 64) = d := Fin.ext (by show 16 + (d.val - 16) = d.val; omega)
      have := rot_rest y (val_main_v61 (F := Ideal)) (val_main_v64 (F := Ideal)) b s n ⟨d.val - 16, by omega⟩
      dsimp only at this
      rw [e] at this
      exact this

/-- A head of the queries. -/
theorem v75_apply (b : Fin 32) (s : Fin 4) (n : Fin 8) (d : Fin 64) :
    val_main_v75 (F := Ideal) I.x I.sh I.sc I.g I.w I.qg (ix4 b s n d) = I.q b s n d := by
  refine (rot_apply (val_main_v41 (F := Ideal) I.x I.sh I.sc I.g I.w I.qg) b s n d).trans ?_
  simp only [v41_apply]
  rfl

/-- A head of the keys. -/
theorem v123_apply (b : Fin 32) (s : Fin 4) (n : Fin 8) (d : Fin 64) :
    val_main_v123 (F := Ideal) I.x I.sh I.sc I.g I.w I.kg (ix4 b s n d) = I.k b s n d := by
  refine (rot_apply (val_main_v89 (F := Ideal) I.x I.sh I.sc I.g I.w I.kg) b s n d).trans ?_
  simp only [v89_apply]
  rfl

/-- An array of rows of heads, a row for each position. -/
theorem rows_apply (y : Vec Ideal S32x4x8x64 .f32) (r : Fin 128) (j : Fin 512) :
    shapeCast S128x512 y shapeCasts_S32x4x8x64_S128x512 (ix2 r j) = y (ix4 (rb r) (rs r) (ln j) (lc j)) := by
  have hr := r.isLt
  have hj := j.isLt
  refine shapeCast_apply y shapeCasts_S32x4x8x64_S128x512 (ix2 r j) (ix4 (rb r) (rs r) (ln j) (lc j)) ?_
  rewrite [Shape.rowMajor_val_four, Shape.rowMajor_val_two]
  show (((r.val / 4) * 4 + r.val % 4) * 8 + j.val / 64) * 64 + j.val % 64 = r.val * 512 + j.val
  omega

/-- An array of rows of heads, a head at a time, its channels followed by zeros. -/
theorem heads_apply (y : Vec Ideal S32x4x8x64 .f32) (p : Vec Ideal S_ .f32) (hp : ∀ i, p i = 0) (n : Fin 8) (r l : Fin 128) :
    pad S8x128x128 ![0, 0, 0] ![0, 0, 64] ![0, 0, 0] (transpose S8x128x64 [1, 0, 2]
      (shapeCast S128x8x64 y shapeCasts_S32x4x8x64_S128x8x64) transposes_S128x8x64_S8x128x64_1_0_2) p
      pads_S8x128x64_S8x128x128_000_000_0640 h_S_ (ix3 n r l) = padded (fun d => y (ix4 (rb r) (rs r) n d)) l := by
  have e : ∀ d : Fin 64, shapeCast S128x8x64 y shapeCasts_S32x4x8x64_S128x8x64 (ix3 r n d) = y (ix4 (rb r) (rs r) n d) := by
    intro d
    have hr := r.isLt
    refine shapeCast_apply y shapeCasts_S32x4x8x64_S128x8x64 (ix3 r n d) (ix4 (rb r) (rs r) n d) ?_
    rewrite [Shape.rowMajor_val_four, Shape.rowMajor_val_three]
    show (((r.val / 4) * 4 + r.val % 4) * 8 + n.val) * 64 + d.val = (r.val * 8 + n.val) * 64 + d.val
    omega
  simp only [← e]
  generalize shapeCast S128x8x64 y shapeCasts_S32x4x8x64_S128x8x64 = z
  unfold padded
  pointwise [hp]

/-- The padding value is zero. -/
theorem zero_pad (i : S_.Idx) : sitofp (F := Ideal) .f32 (constantI S_ 32 0#32) i = 0 := by
  show ((BitVec.toInt 0#32 : ℝ) : EReal) = 0
  simp

/-- The reference's keys. -/
theorem v132_apply (r : Fin 128) (j : Fin 512) :
    val_main_v132 (F := Ideal) I.x I.sh I.sc I.g I.w I.kg (ix2 r j) = I.k (rb r) (rs r) (ln j) (lc j) :=
  (rows_apply (val_main_v123 (F := Ideal) I.x I.sh I.sc I.g I.w I.kg) r j).trans (v123_apply I _ _ _ _)

/-- The reference's values. -/
theorem v133_apply (r : Fin 128) (j : Fin 512) :
    val_main_v133 (F := Ideal) I.x I.sh I.sc I.g I.w (ix2 r j) = I.v (rb r) (rs r) (ln j) (lc j) :=
  (rows_apply (val_main_v124 (F := Ideal) I.x I.sh I.sc I.g I.w) r j).trans (v124_apply I _ _ _ _)

/-- The reference's gated linear unit. -/
theorem v134_apply (r : Fin 128) (j : Fin 512) :
    val_main_v134 (F := Ideal) I.x I.sh I.sc I.g I.w (ix2 r j) = I.u (rb r) (rs r) j := by
  rw [← v131_apply]
  unfold val_main_v134
  generalize val_main_v131 (F := Ideal) I.x I.sh I.sc I.g I.w = y
  have hr := r.isLt
  refine shapeCast_apply y shapeCasts_S32x4x512_S128x512 (ix2 r j) (ix3 (rb r) (rs r) j) ?_
  rewrite [Shape.rowMajor_val_three, Shape.rowMajor_val_two]
  show ((r.val / 4) * 4 + r.val % 4) * 512 + j.val = r.val * 512 + j.val
  omega

/-- The reference's heads of queries. -/
theorem v137_apply (n : Fin 8) (r l : Fin 128) :
    val_main_v137 (F := Ideal) I.x I.sh I.sc I.g I.w I.qg (ix3 n r l) = padded (I.q (rb r) (rs r) n) l :=
  (heads_apply (val_main_v75 (F := Ideal) I.x I.sh I.sc I.g I.w I.qg) _ zero_pad n r l).trans
    (congrArg (fun t => padded t l) (funext fun d => v75_apply I _ _ _ _))

/-- The reference's heads of keys. -/
theorem v140_apply (n : Fin 8) (r l : Fin 128) :
    val_main_v140 (F := Ideal) I.x I.sh I.sc I.g I.w I.kg (ix3 n r l) = padded (I.k (rb r) (rs r) n) l :=
  (heads_apply (val_main_v123 (F := Ideal) I.x I.sh I.sc I.g I.w I.kg) _ zero_pad n r l).trans
    (congrArg (fun t => padded t l) (funext fun d => v123_apply I _ _ _ _))

/-- The reference's heads of values. -/
theorem v143_apply (n : Fin 8) (r l : Fin 128) :
    val_main_v143 (F := Ideal) I.x I.sh I.sc I.g I.w (ix3 n r l) = padded (I.v (rb r) (rs r) n) l :=
  (heads_apply (val_main_v124 (F := Ideal) I.x I.sh I.sc I.g I.w) _ zero_pad n r l).trans
    (congrArg (fun t => padded t l) (funext fun d => v124_apply I _ _ _ _))

end Cert.InRefIdeal.Val
-- ==== Proof.InEq.lean ====
module

public import proofs.«01_k».proof.Defs
public import proofs.«01_k».proof.Proof.AttnEq
public import proofs.«01_k».proof.Proof.InArr
public import proofs.«01_k».proof.Proof.InRef

@[expose] public section

set_option maxRecDepth 16384

/-!
# The input kernel equals its reference
-/

noncomputable section

namespace Cert.InEq

open Idealize.ShloMosaic Idealize.ShloMosaic.TcCoe Idealize.SL.Sem
open Cert.AttnEq (posInf real_of_abs)
open Cert.InIdeal.Val (inp)

instance preFacts : Cert.Pre_finite_in.Facts where
  bcast_S_S32x1x1024 := by decide
  bcast_S_S1024 := by decide
  bcast_S_S1024x2560 := by decide

/-- The precondition says that the shift, the scale, the gain and the matrix hold real numbers. -/
theorem real_of_pre (I : InRow.In)
    (h1 : (Cert.Pre_finite_in.fn (F := Ideal) I.x I.sh I.sc I.g I.w I.qg I.kg).1 = fun _ => 1#1)
    (h2 : (Cert.Pre_finite_in.fn (F := Ideal) I.x I.sh I.sc I.g I.w I.qg I.kg).2.1 = fun _ => 1#1)
    (h3 : (Cert.Pre_finite_in.fn (F := Ideal) I.x I.sh I.sc I.g I.w I.qg I.kg).2.2.1 = fun _ => 1#1)
    (h4 : (Cert.Pre_finite_in.fn (F := Ideal) I.x I.sh I.sc I.g I.w I.qg I.kg).2.2.2 = fun _ => 1#1) : I.Fin' := by
  refine ⟨fun i => real_of_abs _ ?_, fun i => real_of_abs _ ?_, fun i => real_of_abs _ ?_, fun i => real_of_abs _ ?_⟩
  · have := congrFun h1 i
    unfold Cert.Pre_finite_in.fn at this
    dsimp only at this
    revert this
    pointwise [posInf]
    exact id
  · have := congrFun h2 i
    unfold Cert.Pre_finite_in.fn at this
    dsimp only at this
    revert this
    pointwise [posInf]
    exact id
  · have := congrFun h3 i
    unfold Cert.Pre_finite_in.fn at this
    dsimp only at this
    revert this
    pointwise [posInf]
    exact id
  · have := congrFun h4 i
    unfold Cert.Pre_finite_in.fn at this
    dsimp only at this
    revert this
    pointwise [posInf]
    exact id

/-- The reference runs and keeps its arguments; it has no counter. -/
theorem frame : Cert.quiescent_InRefIdeal := fun m ρ _ =>
  (θ_run Cert.InRefIdeal.defs _ _).mono (fun r h => ⟨fun c => (h c).2.2.2.2.2.2, sem_eq_zero_of_no_sems (by decide) r.2⟩)
    (Cert.InRefIdeal.Value.run (F := Ideal) m ρ)

/-- A row and a lane. -/
theorem split2 {p q : ℕ} (i : (⟨2, ![p, q]⟩ : Shape).Idx) : ∃ (r : Fin p) (j : Fin q), i = ix2 r j :=
  ⟨i 0, i 1, funext fun a => match a with
    | ⟨0, _⟩ => rfl
    | ⟨1, _⟩ => rfl⟩

/-- A head, a row and a lane. -/
theorem split3 {p q s : ℕ} (i : (⟨3, ![p, q, s]⟩ : Shape).Idx) : ∃ (n : Fin p) (r : Fin q) (l : Fin s), i = ix3 n r l :=
  ⟨i 0, i 1, i 2, funext fun a => match a with
    | ⟨0, _⟩ => rfl
    | ⟨1, _⟩ => rfl
    | ⟨2, _⟩ => rfl⟩

/-- The kernel's and the reference's results are equal. -/
theorem algebraic : Cert.algebraic_InIdeal_InRefIdeal_pre_finite_in := by
  intro m g m' g' pre agree
  have fin : ∀ c, (inp m c).Fin' := fun c => real_of_pre (inp m c) (pre c).1 (pre c).2.1 (pre c).2.2.1 (pre c).2.2.2
  refine ⟨fun c => InIdeal.Val.GK m c, fun c => InIdeal.Val.GV m c, fun c => InIdeal.Val.GU m c, fun c => InIdeal.Val.HQ m c,
    fun c => InIdeal.Val.HK m c, fun c => InIdeal.Val.HV m c, ?_, ?_⟩
  · refine (θ_run _ _ _).mono (fun r h c => ?_) (Cert.InIdeal.Value.run_blocks m g)
    obtain ⟨h0, h1, h2, h3, h4, h5, h6⟩ := h c
    exact ⟨h0.trans (InIdeal.Val.arr11 m c (fin c)), h1.trans (InIdeal.Val.arr12 m c), h2.trans (InIdeal.Val.arr13 m c),
      h3.trans (InIdeal.Val.arr14 m c (fin c)), h4.trans (InIdeal.Val.arr15 m c (fin c)), h5.trans (InIdeal.Val.arr16 m c), h6⟩
  · refine (θ_run _ _ _).mono (fun r h c => ?_) (Cert.InRefIdeal.Value.run (F := Ideal) m' g')
    obtain ⟨h0, h1, h2, h3, h4, h5, h6⟩ := h c
    obtain ⟨a0, a1, a2, a3, a4, a5, a6⟩ := agree c
    refine ⟨h0.trans ?_, h1.trans ?_, h2.trans ?_, h3.trans ?_, h4.trans ?_, h5.trans ?_, h6⟩
    · rw [Cert.InRefIdeal.Read.val_main_v132_eq, a0, a1, a2, a3, a4, a6]
      funext i
      obtain ⟨r, j, rfl⟩ := split2 i
      exact InRefIdeal.Val.v132_apply (inp m c) r j
    · rw [Cert.InRefIdeal.Read.val_main_v133_eq, a0, a1, a2, a3, a4]
      funext i
      obtain ⟨r, j, rfl⟩ := split2 i
      exact InRefIdeal.Val.v133_apply (inp m c) r j
    · rw [Cert.InRefIdeal.Read.val_main_v134_eq, a0, a1, a2, a3, a4]
      funext i
      obtain ⟨r, j, rfl⟩ := split2 i
      exact InRefIdeal.Val.v134_apply (inp m c) r j
    · rw [Cert.InRefIdeal.Read.val_main_v137_eq, a0, a1, a2, a3, a4, a5]
      funext i
      obtain ⟨n, r, l, rfl⟩ := split3 i
      exact InRefIdeal.Val.v137_apply (inp m c) n r l
    · rw [Cert.InRefIdeal.Read.val_main_v140_eq, a0, a1, a2, a3, a4, a6]
      funext i
      obtain ⟨n, r, l, rfl⟩ := split3 i
      exact InRefIdeal.Val.v140_apply (inp m c) n r l
    · rw [Cert.InRefIdeal.Read.val_main_v143_eq, a0, a1, a2, a3, a4]
      funext i
      obtain ⟨n, r, l, rfl⟩ := split3 i
      exact InRefIdeal.Val.v143_apply (inp m c) n r l

end Cert.InEq
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnIdeal.Value
public import proofs.«01_k».proof.Proof.Gen.AttnRefIdeal.Run
public import proofs.«01_k».proof.Proof.Gen.AttnRefIdeal.Read
public import proofs.«01_k».proof.Proof.AttnEq
public import proofs.«01_k».proof.Proof.FfnEq
public import proofs.«01_k».proof.Proof.InEq
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InRefIdeal
public import proofs.«01_k».proof.Proof.Gen.InIdeal.Value
public import proofs.«01_k».proof.Proof.Gen.InRefIdeal.Run
public import proofs.«01_k».proof.Proof.Gen.InRefIdeal.Read
public import Idealize.ShloMosaic.Adequacy
public import Idealize.ShloMosaic.Init

@[expose] public section

noncomputable section

namespace Cert.Proof

open Idealize.ShloMosaic Idealize.SL.Sem Cert.Attn

/-- Every claim: the programs run and keep their arguments, and each kernel's results are its reference's. -/
theorem claim : Cert.Claim := ⟨Cert.Attn.Gen.facts, Cert.AttnIdeal.Gen.facts, Cert.AttnRefIdeal.Gen.facts,
  Cert.Ffn.Gen.facts, Cert.FfnIdeal.Gen.facts, Cert.FfnRefIdeal.Gen.facts,
  Cert.In.Gen.facts, Cert.InIdeal.Gen.facts, Cert.InRefIdeal.Gen.facts, Cert.AttnEq.preFacts, Cert.InEq.preFacts,
  fun m ρ _ => Cert.Attn.Gen.frame m ρ, fun m ρ _ => Cert.AttnIdeal.Gen.frame m ρ, fun m ρ _ => Cert.AttnIdeal.Gen.frame m ρ,
  Cert.AttnEq.frame, fun m ρ _ => Cert.AttnEq.frame m ρ trivial,
  fun m ρ _ => Cert.Ffn.Gen.frame m ρ, fun m ρ _ => Cert.FfnIdeal.Gen.frame m ρ, Cert.FfnEq.frame,
  fun m ρ _ => Cert.In.Gen.frame m ρ, fun m ρ _ => Cert.InIdeal.Gen.frame m ρ, fun m ρ _ => Cert.InIdeal.Gen.frame m ρ,
  Cert.InEq.frame, fun m ρ _ => Cert.InEq.frame m ρ trivial,
  trivial, Cert.AttnEq.algebraic, trivial, Cert.FfnEq.algebraic, trivial, Cert.InEq.algebraic⟩

end Cert.Proof

end
